-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "neg_log2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x8x2x64 : Shape := ⟨5, ![8, 4096, 8, 2, 64]⟩
abbrev S8x4096x8x128 : Shape := ⟨4, ![8, 4096, 8, 128]⟩
abbrev S4x64 : Shape := ⟨2, ![4, 64]⟩
abbrev S128 : Shape := ⟨1, ![128]⟩
abbrev S_ : Shape := ⟨0, ![]⟩

class Facts : Prop where
  bcast_S_S8x4096x8x128 : S_.BroadcastsInDim S8x4096x8x128 (![] : Fin 0 → Fin S8x4096x8x128.rank)
  reducesTo_S8x4096x8x128_S_d0_1_2_3 : S8x4096x8x128.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x4096x8x2x64 .f32) (main_arg1 : FVec F S8x4096x8x2x64 .f32) (main_arg2 : FVec F S8x4096x8x128 .f32) (main_arg3 : FVec F S4x64 .f32) (main_arg4 : FVec F S128 .f32) : IVec S_ 1 :=
  let main_v0 : FVec F S8x4096x8x128 .f32 := Host.absf main_arg2
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_c : IVec S_ 1 := constantI S_ 1 1#1
  let main_v3 : IVec S_ 1 := (fun x v => Host.reduce IntOp.andi x v reducesTo_S8x4096x8x128_S_d0_1_2_3 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S8x4096x8x2x64 : Shape := ⟨5, ![8, 4096, 8, 2, 64]⟩
abbrev S8x4096x8x128 : Shape := ⟨4, ![8, 4096, 8, 128]⟩
abbrev S4x64 : Shape := ⟨2, ![4, 64]⟩
abbrev S128 : Shape := ⟨1, ![128]⟩
abbrev S8x8x4096x128 : Shape := ⟨4, ![8, 8, 4096, 128]⟩
abbrev S8x8x128x4096 : Shape := ⟨4, ![8, 8, 128, 4096]⟩
abbrev S_ : Shape := ⟨0, ![]⟩
abbrev S8x8x8x4096 : Shape := ⟨4, ![8, 8, 8, 4096]⟩
abbrev S8x8x136x4096 : Shape := ⟨4, ![8, 8, 136, 4096]⟩
abbrev S128x1 : Shape := ⟨2, ![128, 1]⟩
abbrev S1x1x2048x128 : Shape := ⟨4, ![1, 1, 2048, 128]⟩
abbrev S1x1x512x128 : Shape := ⟨4, ![1, 1, 512, 128]⟩
abbrev S1x1x4096x128 : Shape := ⟨4, ![1, 1, 4096, 128]⟩
abbrev S1x1x136x4096 : Shape := ⟨4, ![1, 1, 136, 4096]⟩
abbrev S512x1024 : Shape := ⟨2, ![512, 1024]⟩
abbrev S1x1024 : Shape := ⟨2, ![1, 1024]⟩
abbrev S136x1024 : Shape := ⟨2, ![136, 1024]⟩
abbrev S512x128 : Shape := ⟨2, ![512, 128]⟩
abbrev S1024x128 : Shape := ⟨2, ![1024, 128]⟩
abbrev S1024 : Shape := ⟨1, ![1024]⟩
abbrev S1x1x136x512 : Shape := ⟨4, ![1, 1, 136, 512]⟩
abbrev S136x512 : Shape := ⟨2, ![136, 512]⟩
abbrev S512x512 : Shape := ⟨2, ![512, 512]⟩
abbrev S1x64 : Shape := ⟨2, ![1, 64]⟩
abbrev S1 : Shape := ⟨1, ![1]⟩
abbrev S1x1 : Shape := ⟨2, ![1, 1]⟩
abbrev S128x1024 : Shape := ⟨2, ![128, 1024]⟩
abbrev S128x512 : Shape := ⟨2, ![128, 512]⟩
abbrev S512 : Shape := ⟨1, ![512]⟩
abbrev S1x512 : Shape := ⟨2, ![1, 512]⟩

abbrev nBuf : Space → Nat
  | .hbm => 17
  | .vmem => 22
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4096x8x2x64, .f32⟩
  | .hbm, ⟨2, _⟩ => ⟨S8x4096x8x128, .f32⟩
  | .hbm, ⟨3, _⟩ => ⟨S4x64, .f32⟩
  | .hbm, ⟨4, _⟩ => ⟨S128, .f32⟩
  | .hbm, ⟨5, _⟩ => ⟨S8x4096x8x128, .f32⟩
  | .hbm, ⟨6, _⟩ => ⟨S8x8x4096x128, .f32⟩
  | .hbm, ⟨7, _⟩ => ⟨S8x4096x8x2x64, .bf16⟩
  | .hbm, ⟨8, _⟩ => ⟨S8x4096x8x128, .bf16⟩
  | .hbm, ⟨9, _⟩ => ⟨S8x8x4096x128, .bf16⟩
  | .hbm, ⟨10, _⟩ => ⟨S8x4096x8x128, .bf16⟩
  | .hbm, ⟨11, _⟩ => ⟨S8x8x128x4096, .bf16⟩
  | .hbm, ⟨12, _⟩ => ⟨S_, .bf16⟩
  | .hbm, ⟨13, _⟩ => ⟨S8x8x8x4096, .bf16⟩
  | .hbm, ⟨14, _⟩ => ⟨S8x8x136x4096, .bf16⟩
  | .hbm, ⟨15, _⟩ => ⟨S128x1, .f32⟩
  | .hbm, ⟨16, _⟩ => ⟨S8x8x4096x128, .bf16⟩
  | .local _ .vmem, ⟨0, _⟩ => ⟨S4x64, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x4096x128, .bf16⟩
  | .local _ .vmem, ⟨6, _⟩ => ⟨S1x1x4096x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x136x4096, .bf16⟩
  | .local _ .vmem, ⟨10, _⟩ => ⟨S1x1x136x4096, .bf16⟩
  | .local _ .vmem, ⟨11, _⟩ => ⟨S128x1, .f32⟩
  | .local _ .vmem, ⟨12, _⟩ => ⟨S1x1x2048x128, .bf16⟩
  | .local _ .vmem, ⟨13, _⟩ => ⟨S1x1x2048x128, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S136x1024, .f32⟩
  | _, _ => ⟨S8x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c0_i32_3 : BitVec 32 := 0#32
  let v7 : BitVec 32 := Scalar.maxsi arg2 c0_i32_3
  let c1_i32 : BitVec 32 := 1#32
  let v8 : BitVec 32 := Scalar.minsi v7 c1_i32
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg1 v17
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let v36 : BitVec 32 := Scalar.addi arg0 v35
  let c8_i32_11 : BitVec 32 := 8#32
  let v37 : BitVec 1 := Scalar.cmpi .sge v36 c8_i32_11
  let v38 : BitVec 32 := Scalar.select v37 arg0 v36
  let c8_i32_12 : BitVec 32 := 8#32
  let c0_i32_13 : BitVec 32 := 0#32
  let v39 : BitVec 1 := Scalar.cmpi .eq c8_i32_12 c0_i32_13
  let c1_i32_14 : BitVec 32 := 1#32
  let v40 : BitVec 32 := Scalar.select v39 c1_i32_14 c8_i32_12
  let v41 : BitVec 32 := Scalar.remsi v18 v40
  let c0_i32_15 : BitVec 32 := 0#32
  let v42 : BitVec 1 := Scalar.cmpi .ne v41 c0_i32_15
  let c0_i32_16 : BitVec 32 := 0#32
  let v43 : BitVec 1 := Scalar.cmpi .slt v41 c0_i32_16
  let c0_i32_17 : BitVec 32 := 0#32
  let v44 : BitVec 1 := Scalar.cmpi .slt v40 c0_i32_17
  let v45 : BitVec 1 := Scalar.xori v43 v44
  let v46 : BitVec 1 := Scalar.andi v45 v42
  let v47 : BitVec 32 := Scalar.addi v41 v40
  let v48 : BitVec 32 := Scalar.select v46 v47 v41
  let v49 : BitVec 32 := Scalar.select v37 arg1 v48
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v0 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v37 arg2 v59
  let c4_i32 : BitVec 32 := 4#32
  let v61 : BitVec 32 := Scalar.muli v60 c4_i32
  let c0_i32_24 : BitVec 32 := 0#32
  let c0_i32_25 : BitVec 32 := 0#32
  ![v38.toNat, v49.toNat, v61.toNat, c0_i32_24.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg1 v17
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let v36 : BitVec 32 := Scalar.addi arg0 v35
  let c8_i32_11 : BitVec 32 := 8#32
  let v37 : BitVec 1 := Scalar.cmpi .sge v36 c8_i32_11
  let v38 : BitVec 32 := Scalar.select v37 arg0 v36
  let c8_i32_12 : BitVec 32 := 8#32
  let c0_i32_13 : BitVec 32 := 0#32
  let v39 : BitVec 1 := Scalar.cmpi .eq c8_i32_12 c0_i32_13
  let c1_i32_14 : BitVec 32 := 1#32
  let v40 : BitVec 32 := Scalar.select v39 c1_i32_14 c8_i32_12
  let v41 : BitVec 32 := Scalar.remsi v18 v40
  let c0_i32_15 : BitVec 32 := 0#32
  let v42 : BitVec 1 := Scalar.cmpi .ne v41 c0_i32_15
  let c0_i32_16 : BitVec 32 := 0#32
  let v43 : BitVec 1 := Scalar.cmpi .slt v41 c0_i32_16
  let c0_i32_17 : BitVec 32 := 0#32
  let v44 : BitVec 1 := Scalar.cmpi .slt v40 c0_i32_17
  let v45 : BitVec 1 := Scalar.xori v43 v44
  let v46 : BitVec 1 := Scalar.andi v45 v42
  let v47 : BitVec 32 := Scalar.addi v41 v40
  let v48 : BitVec 32 := Scalar.select v46 v47 v41
  let v49 : BitVec 32 := Scalar.select v37 arg1 v48
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v0 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.select v37 arg2 v59
  let c0_i32_24 : BitVec 32 := 0#32
  let c0_i32_25 : BitVec 32 := 0#32
  let c0_i32_26 : BitVec 32 := 0#32
  ![v38.toNat, v49.toNat, c0_i32_24.toNat, c0_i32_25.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x136x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S8x4096x8x2x64 : Shape := ⟨5, ![8, 4096, 8, 2, 64]⟩
abbrev S8x4096x8x128 : Shape := ⟨4, ![8, 4096, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x8x2x4096x4096 : Shape := ⟨5, ![8, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x1x4096x4096 : Shape := ⟨5, ![1, 1, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x8x4096x128 : Shape := ⟨4, ![8, 8, 4096, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4096x8x2x64, .f32⟩
  | .hbm, ⟨2, _⟩ => ⟨S8x4096x8x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x8x2x4096x4096, .f32⟩
  | .hbm, ⟨25, _⟩ => ⟨S_, .f32⟩
  | .hbm, ⟨26, _⟩ => ⟨S8x8x2x4096x4096, .f32⟩
  | .hbm, ⟨27, _⟩ => ⟨S8x8x2x4096x4096, .f32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x1x1x4096x4096, .i1⟩
  | .hbm, ⟨35, _⟩ => ⟨S_, .f32⟩
  | .hbm, ⟨36, _⟩ => ⟨S_, .f32⟩
  | .hbm, ⟨37, _⟩ => ⟨S8x8x2x4096x4096, .i1⟩
  | .hbm, ⟨38, _⟩ => ⟨S8x8x2x4096x4096, .f32⟩
  | .hbm, ⟨39, _⟩ => ⟨S8x8x2x4096x4096, .f32⟩
  | .hbm, ⟨40, _⟩ => ⟨S_, .f32⟩
  | .hbm, ⟨41, _⟩ => ⟨S8x8x2x4096, .f32⟩
  | .hbm, ⟨42, _⟩ => ⟨S_, .f32⟩
  | .hbm, ⟨43, _⟩ => ⟨S8x8x2x4096, .f32⟩
  | .hbm, ⟨44, _⟩ => ⟨S8x8x2x4096, .f32⟩
  | .hbm, ⟨45, _⟩ => ⟨S8x8x2x4096x1, .f32⟩
  | .hbm, ⟨46, _⟩ => ⟨S8x8x2x4096x4096, .f32⟩
  | .hbm, ⟨47, _⟩ => ⟨S8x8x2x4096x4096, .f32⟩
  | .hbm, ⟨48, _⟩ => ⟨S8x8x2x4096x4096, .f32⟩
  | .hbm, ⟨49, _⟩ => ⟨S_, .f32⟩
  | .hbm, ⟨50, _⟩ => ⟨S8x8x2x4096, .f32⟩
  | .hbm, ⟨51, _⟩ => ⟨S8x8x2x4096x1, .f32⟩
  | .hbm, ⟨52, _⟩ => ⟨S8x8x2x4096x4096, .f32⟩
  | .hbm, ⟨53, _⟩ => ⟨S8x8x2x4096x4096, .f32⟩
  | .hbm, ⟨54, _⟩ => ⟨S8x8x1x4096x4096, .f32⟩
  | .hbm, ⟨55, _⟩ => ⟨S8x8x4096x4096, .f32⟩
  | .hbm, ⟨56, _⟩ => ⟨S8x8x1x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x128x4096, .f32⟩
  | .hbm, ⟨62, _⟩ => ⟨S8x4096x8x128, .f32⟩
  | .hbm, ⟨63, _⟩ => ⟨S8x4096x8x128, .f32⟩
  | .hbm, ⟨64, _⟩ => ⟨S_, .f32⟩
  | .hbm, ⟨65, _⟩ => ⟨S8x4096x8, .f32⟩
  | .hbm, ⟨66, _⟩ => ⟨S8x4096x8x1, .f32⟩
  | .hbm, ⟨67, _⟩ => ⟨S_, .f32⟩
  | .hbm, ⟨68, _⟩ => ⟨S8x4096x8x1, .f32⟩
  | .hbm, ⟨69, _⟩ => ⟨S8x4096x8x1, .f32⟩
  | .hbm, ⟨70, _⟩ => ⟨S_, .f32⟩
  | .hbm, ⟨71, _⟩ => ⟨S8x4096x8x1, .f32⟩
  | .hbm, ⟨72, _⟩ => ⟨S8x4096x8x1, .f32⟩
  | .hbm, ⟨73, _⟩ => ⟨S8x4096x8x1, .f32⟩
  | .hbm, ⟨74, _⟩ => ⟨S8x4096x8x128, .f32⟩
  | .hbm, ⟨75, _⟩ => ⟨S8x4096x8x128, .f32⟩
  | .hbm, ⟨76, _⟩ => ⟨S1x1x1x128, .f32⟩
  | .hbm, ⟨77, _⟩ => ⟨S8x4096x8x128, .f32⟩
  | .hbm, ⟨78, _⟩ => ⟨S8x4096x8x128, .f32⟩
  | .hbm, ⟨79, _⟩ => ⟨S_, .f32⟩
  | .hbm, ⟨80, _⟩ => ⟨S8x4096x8x128, .f32⟩
  | .hbm, ⟨81, _⟩ => ⟨S8x4096x8x128, .f32⟩
  | .hbm, ⟨82, _⟩ => ⟨S8x8x4096x128, .f32⟩
  | .hbm, ⟨83, _⟩ => ⟨S8x8x4096x128, .bf16⟩
  | _, _ => ⟨S8x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x8x4096x128 : Shape := ⟨4, ![8, 8, 4096, 128]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x1x1024 : Shape := ⟨3, ![2, 1, 1024]⟩
abbrev S2x1x5632 : Shape := ⟨3, ![2, 1, 5632]⟩
abbrev S1024x1024 : Shape := ⟨2, ![1024, 1024]⟩
abbrev S1x1024 : Shape := ⟨2, ![1, 1024]⟩
abbrev S1x512x1024 : Shape := ⟨3, ![1, 512, 1024]⟩
abbrev S1x8x512x128 : Shape := ⟨4, ![1, 8, 512, 128]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S8x576x128 : Shape := ⟨3, ![8, 576, 128]⟩
abbrev S22x512x256 : Shape := ⟨3, ![22, 512, 256]⟩
abbrev S22x2x8x256 : Shape := ⟨4, ![22, 2, 8, 256]⟩
abbrev S512x2816 : Shape := ⟨2, ![512, 2816]⟩
abbrev S512x1024 : Shape := ⟨2, ![512, 1024]⟩
abbrev S1x1x512x128 : Shape := ⟨4, ![1, 1, 512, 128]⟩
abbrev S512x128 : Shape := ⟨2, ![512, 128]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩
abbrev S8x256 : Shape := ⟨2, ![8, 256]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x3x256 : Shape := ⟨3, ![1, 3, 256]⟩
abbrev S3x256 : Shape := ⟨2, ![3, 256]⟩
abbrev S1x256 : Shape := ⟨2, ![1, 256]⟩
abbrev S1x1x8x256 : Shape := ⟨4, ![1, 1, 8, 256]⟩
abbrev S504x256 : Shape := ⟨2, ![504, 256]⟩
abbrev S1x1x256 : Shape := ⟨3, ![1, 1, 256]⟩
abbrev S2816x1024 : Shape := ⟨2, ![2816, 1024]⟩

abbrev nBuf : Space → Nat
  | .hbm => 17
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x8x4096x128, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S1024, .f32⟩
  | .hbm, ⟨9, _⟩ => ⟨S2x1x1024, .f32⟩
  | .hbm, ⟨10, _⟩ => ⟨S2x1024x5632, .bf16⟩
  | .hbm, ⟨11, _⟩ => ⟨S2x1x5632, .f32⟩
  | .hbm, ⟨12, _⟩ => ⟨S2x2816x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x512x128, .bf16⟩
  | .local _ .vmem, ⟨3, _⟩ => ⟨S1x8x512x128, .bf16⟩
  | .local _ .vmem, ⟨4, _⟩ => ⟨S1024x1024, .bf16⟩
  | .local _ .vmem, ⟨5, _⟩ => ⟨S1x1x1024, .f32⟩
  | .local _ .vmem, ⟨6, _⟩ => ⟨S1x1024x5632, .bf16⟩
  | .local _ .vmem, ⟨7, _⟩ => ⟨S1x3x5632, .f32⟩
  | .local _ .vmem, ⟨8, _⟩ => ⟨S1x1x5632, .f32⟩
  | .local _ .vmem, ⟨9, _⟩ => ⟨S1x2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S8x576x128, .f32⟩
  | .local _ .vmem, ⟨14, _⟩ => ⟨S22x512x256, .f32⟩
  | .local _ .vmem, ⟨15, _⟩ => ⟨S22x2x8x256, .f32⟩
  | .local _ .vmem, ⟨16, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S8x4096x1024 : Shape := ⟨3, ![8, 4096, 1024]⟩
abbrev S8x8x4096x128 : Shape := ⟨4, ![8, 8, 4096, 128]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S8x4096x8x128 : Shape := ⟨4, ![8, 4096, 8, 128]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4098x5632 : Shape := ⟨3, ![8, 4098, 5632]⟩
abbrev S1x1x5632 : Shape := ⟨3, ![1, 1, 5632]⟩
abbrev S5632 : Shape := ⟨1, ![5632]⟩
abbrev S1x5632 : Shape := ⟨2, ![1, 5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x8x4096x128, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S1024, .f32⟩
  | .hbm, ⟨9, _⟩ => ⟨S8x8x4096x128, .f32⟩
  | .hbm, ⟨10, _⟩ => ⟨S8x4096x8x128, .f32⟩
  | .hbm, ⟨11, _⟩ => ⟨S8x4096x1024, .f32⟩
  | .hbm, ⟨12, _⟩ => ⟨S1024x1024, .f32⟩
  | .hbm, ⟨13, _⟩ => ⟨S8x4096x1024, .f32⟩
  | .hbm, ⟨14, _⟩ => ⟨S8x4096x1024, .f32⟩
  | .hbm, ⟨15, _⟩ => ⟨S1x1024, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1x1024x5632, .f32⟩
  | .hbm, ⟨34, _⟩ => ⟨S1024x5632, .f32⟩
  | .hbm, ⟨35, _⟩ => ⟨S8x4096x5632, .f32⟩
  | .hbm, ⟨36, _⟩ => ⟨S_, .i32⟩
  | .hbm, ⟨37, _⟩ => ⟨S_, .f32⟩
  | .hbm, ⟨38, _⟩ => ⟨S8x4098x5632, .f32⟩
  | .hbm, ⟨39, _⟩ => ⟨S8x4096x5632, .f32⟩
  | .hbm, ⟨40, _⟩ => ⟨S1x1x5632, .f32⟩
  | .hbm, ⟨41, _⟩ => ⟨S5632, .f32⟩
  | .hbm, ⟨42, _⟩ => ⟨S1x1x5632, .f32⟩
  | .hbm, ⟨43, _⟩ => ⟨S8x4096x5632, .f32⟩
  | .hbm, ⟨44, _⟩ => ⟨S8x4096x5632, .f32⟩
  | .hbm, ⟨45, _⟩ => ⟨S_, .f32⟩
  | .hbm, ⟨46, _⟩ => ⟨S8x4096x5632, .f32⟩
  | .hbm, ⟨47, _⟩ => ⟨S8x4096x5632, .f32⟩
  | .hbm, ⟨48, _⟩ => ⟨S8x4096x5632, .f32⟩
  | .hbm, ⟨49, _⟩ => ⟨S1x1x5632, .f32⟩
  | .hbm, ⟨50, _⟩ => ⟨S5632, .f32⟩
  | .hbm, ⟨51, _⟩ => ⟨S1x1x5632, .f32⟩
  | .hbm, ⟨52, _⟩ => ⟨S8x4096x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S1x1x5632, .f32⟩
  | .hbm, ⟨57, _⟩ => ⟨S5632, .f32⟩
  | .hbm, ⟨58, _⟩ => ⟨S1x1x5632, .f32⟩
  | .hbm, ⟨59, _⟩ => ⟨S8x4096x5632, .f32⟩
  | .hbm, ⟨60, _⟩ => ⟨S8x4096x5632, .f32⟩
  | .hbm, ⟨61, _⟩ => ⟨S8x4096x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S8x4096x5632, .f32⟩
  | .hbm, ⟨66, _⟩ => ⟨S8x4096x5632, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S_, .f32⟩
  | .hbm, ⟨72, _⟩ => ⟨S8x4096x2816, .f32⟩
  | .hbm, ⟨73, _⟩ => ⟨S8x4096x2816, .f32⟩
  | .hbm, ⟨74, _⟩ => ⟨S_, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S1x2816x1024, .f32⟩
  | .hbm, ⟨80, _⟩ => ⟨S2816x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S8x4096x1, .f32⟩
  | .hbm, ⟨94, _⟩ => ⟨S8x4096x1024, .f32⟩
  | .hbm, ⟨95, _⟩ => ⟨S8x4096x1024, .f32⟩
  | .hbm, ⟨96, _⟩ => ⟨S1x1x1024, .f32⟩
  | .hbm, ⟨97, _⟩ => ⟨S8x4096x1024, .f32⟩
  | .hbm, ⟨98, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_3 : Ref sig .tc := ⟨.hbm, 84, rfl⟩
abbrev main_v61 : Ref sig .tc := ⟨.hbm, 85, rfl⟩
abbrev main_v62 : Ref sig .tc := ⟨.hbm, 86, rfl⟩
abbrev main_cst_4 : Ref sig .tc := ⟨.hbm, 87, rfl⟩
abbrev main_v63 : Ref sig .tc := ⟨.hbm, 88, rfl⟩
abbrev main_v64 : Ref sig .tc := ⟨.hbm, 89, rfl⟩
abbrev main_cst_5 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x1024 : Shape := ⟨3, ![2, 1, 1024]⟩
abbrev S2x1x5632 : Shape := ⟨3, ![2, 1, 5632]⟩
abbrev S1x512x1024 : Shape := ⟨3, ![1, 512, 1024]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S8x576x128 : Shape := ⟨3, ![8, 576, 128]⟩
abbrev S22x512x256 : Shape := ⟨3, ![22, 512, 256]⟩
abbrev S22x2x8x256 : Shape := ⟨4, ![22, 2, 8, 256]⟩
abbrev S512x2816 : Shape := ⟨2, ![512, 2816]⟩
abbrev S512x1024 : Shape := ⟨2, ![512, 1024]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩
abbrev S8x256 : Shape := ⟨2, ![8, 256]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x3x256 : Shape := ⟨3, ![1, 3, 256]⟩
abbrev S3x256 : Shape := ⟨2, ![3, 256]⟩
abbrev S1x256 : Shape := ⟨2, ![1, 256]⟩
abbrev S1x1x8x256 : Shape := ⟨4, ![1, 1, 8, 256]⟩
abbrev S504x256 : Shape := ⟨2, ![504, 256]⟩
abbrev S1x1x256 : Shape := ⟨3, ![1, 1, 256]⟩
abbrev S2816x1024 : Shape := ⟨2, ![2816, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S2x1x1024, .f32⟩
  | .hbm, ⟨7, _⟩ => ⟨S2x1024x5632, .bf16⟩
  | .hbm, ⟨8, _⟩ => ⟨S2x1x5632, .f32⟩
  | .hbm, ⟨9, _⟩ => ⟨S2x2816x1024, .bf16⟩
  | .hbm, ⟨10, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x3x5632, .f32⟩
  | .local _ .vmem, ⟨5, _⟩ => ⟨S1x1x5632, .f32⟩
  | .local _ .vmem, ⟨6, _⟩ => ⟨S1x2816x1024, .bf16⟩
  | .local _ .vmem, ⟨7, _⟩ => ⟨S1x512x1024, .f32⟩
  | .local _ .vmem, ⟨8, _⟩ => ⟨S1x512x1024, .f32⟩
  | .local _ .vmem, ⟨9, _⟩ => ⟨S8x576x128, .f32⟩
  | .local _ .vmem, ⟨10, _⟩ => ⟨S22x512x256, .f32⟩
  | .local _ .vmem, ⟨11, _⟩ => ⟨S22x2x8x256, .f32⟩
  | .local _ .vmem, ⟨12, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "neg_log2e" => some ((-((Real.log 2)⁻¹) : ℝ) : EReal)
  | _ => none
-- ==== Reference3Ideal.lean ====
abbrev S8x4096x1024 : Shape := ⟨3, ![8, 4096, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4098x5632 : Shape := ⟨3, ![8, 4098, 5632]⟩
abbrev S1x1x5632 : Shape := ⟨3, ![1, 1, 5632]⟩
abbrev S5632 : Shape := ⟨1, ![5632]⟩
abbrev S1x5632 : Shape := ⟨2, ![1, 5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1x1024x5632, .f32⟩
  | .hbm, ⟨25, _⟩ => ⟨S1024x5632, .f32⟩
  | .hbm, ⟨26, _⟩ => ⟨S8x4096x5632, .f32⟩
  | .hbm, ⟨27, _⟩ => ⟨S_, .i32⟩
  | .hbm, ⟨28, _⟩ => ⟨S_, .f32⟩
  | .hbm, ⟨29, _⟩ => ⟨S8x4098x5632, .f32⟩
  | .hbm, ⟨30, _⟩ => ⟨S8x4096x5632, .f32⟩
  | .hbm, ⟨31, _⟩ => ⟨S1x1x5632, .f32⟩
  | .hbm, ⟨32, _⟩ => ⟨S5632, .f32⟩
  | .hbm, ⟨33, _⟩ => ⟨S1x1x5632, .f32⟩
  | .hbm, ⟨34, _⟩ => ⟨S8x4096x5632, .f32⟩
  | .hbm, ⟨35, _⟩ => ⟨S8x4096x5632, .f32⟩
  | .hbm, ⟨36, _⟩ => ⟨S_, .f32⟩
  | .hbm, ⟨37, _⟩ => ⟨S8x4096x5632, .f32⟩
  | .hbm, ⟨38, _⟩ => ⟨S8x4096x5632, .f32⟩
  | .hbm, ⟨39, _⟩ => ⟨S8x4096x5632, .f32⟩
  | .hbm, ⟨40, _⟩ => ⟨S1x1x5632, .f32⟩
  | .hbm, ⟨41, _⟩ => ⟨S5632, .f32⟩
  | .hbm, ⟨42, _⟩ => ⟨S1x1x5632, .f32⟩
  | .hbm, ⟨43, _⟩ => ⟨S8x4096x5632, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S1x1x5632, .f32⟩
  | .hbm, ⟨48, _⟩ => ⟨S5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S8x4096x5632, .f32⟩
  | .hbm, ⟨57, _⟩ => ⟨S8x4096x5632, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S_, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S1x2816x1024, .f32⟩
  | .hbm, ⟨71, _⟩ => ⟨S2816x1024, .f32⟩
  | .hbm, ⟨72, _⟩ => ⟨S8x4096x1024, .f32⟩
  | .hbm, ⟨73, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Finite.lean ====
module

public import proofs.«01_k».proof.Defs
public import proofs.«01_k».proof.Proof.Gen.Pre_finite
public import Idealize.ShloMosaic.Lib.Pointwise
public import Idealize.ShloMosaic.Lib.ReduceAll
public import Idealize.ShloMosaic.PureOps.Ideal.Laws

/-! # The precondition read at an element: the values and parameters are reals -/

@[expose] public section

noncomputable section

namespace Cert.Finite

open Idealize.ShloMosaic Cert.Pre_finite

attribute [local instance] Cert.Pre_finite.Gen.facts

/-- A comparison of an extended real's magnitude with `+∞` that answers yes: the number is real. -/
theorem real_of_lt {x : EReal} (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x with
  | bot => simp [Ideal.cmp] at h
  | top => simp [Ideal.cmp] at h
  | coe r => exact ⟨r, rfl⟩

/-- One `all` of the precondition, read at an element. -/
theorem real_of_all {s : Shape} {axes : List (Fin s.rank)} (x : FVec Ideal s .f32) (hb : S_.BroadcastsInDim s ![])
    (hr : s.ReducesTo axes S_) (hu : 0 < S_.numel) (e : S_.Idx)
    (h : Host.reduce IntOp.andi (cmpf .olt (Host.absf x) (broadcastInDim s ![] hb (constant S_ .f32 0x7F800000#32)))
      (constantI S_ 1 1#1) hr hu e = 1#1) (i : s.Idx) : ∃ r : ℝ, x i = (r : EReal) := by
  haveI : Subsingleton S_.Idx := ⟨fun a b => funext fun d => d.elim0⟩
  exact real_of_lt (Host.reduce_andi_all _ _ hr hu e h i)

/-- The precondition, element by element. -/
theorem finite_of (a0 a1 : FVec Ideal S8x4096x8x2x64 .f32) (a2 : FVec Ideal S8x4096x8x128 .f32) (a3 : FVec Ideal S4x64 .f32)
    (a4 : FVec Ideal S128 .f32) (h : fn a0 a1 a2 a3 a4 (fun d => d.elim0) = 1#1) :
    (∀ i, ∃ r : ℝ, a2 i = (r : EReal)) ∧ (∀ i, ∃ r : ℝ, a3 i = (r : EReal)) := by
  dsimp only [fn] at h
  obtain ⟨h2, h3⟩ := IntOp.andi_eq_one.1 h
  exact ⟨real_of_all _ _ _ _ _ h2, real_of_all _ _ _ _ _ h3⟩

end Cert.Finite

end
-- ==== Proof.Softmax.lean ====
module

public import Idealize.ShloMosaic.PureOps.Ideal.Laws

/-! # The running softmax over the extended reals

One column of the kernel's running softmax: a maximum `m` and one accumulated number `acc`, updated block by block.
The weighted values are real; the scores are any extended reals (`⊥` for a masked one). -/

@[expose] public section

noncomputable section

namespace Cert.Softmax

open Idealize.ShloMosaic

/-- The weight `2 ^ s` of a score, as a real: zero for a masked score. -/
def wt (s : EReal) : ℝ := (Ideal.exp2 s).toReal

theorem wt_bot : wt ⊥ = 0 := by simp [wt]

theorem wt_coe (r : ℝ) : wt (r : EReal) = (2 : ℝ) ^ r := by simp [wt]

theorem wt_nonneg (s : EReal) : 0 ≤ wt s := by
  induction s with
  | bot => simp [wt]
  | top => simp [wt]
  | coe r => rw [wt_coe]; positivity

/-- Two to the power of a score less a real maximum. -/
theorem exp2_sub {s : EReal} (hs : s ≠ ⊤) (M : ℝ) :
    Ideal.exp2 (s - (M : EReal)) = ((wt s * (2 : ℝ) ^ (-M) : ℝ) : EReal) := by
  induction s with
  | bot => simp [wt_bot]
  | top => exact absurd rfl hs
  | coe r =>
    rw [wt_coe, ← EReal.coe_sub, Ideal.exp2_coe, ← Real.rpow_add (by norm_num)]
    rfl

/-- A sum of reals, read as extended reals. -/
theorem coe_sum {ι : Type} (t : Finset ι) (f : ι → ℝ) :
    ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- What the running pair holds, when `P` says that some score so far is `⊤` and `N` that some score so far is not
    `⊥`: nothing yet (`⊥` and zero), a real maximum `M` and `A · 2 ^ (-M)`, where `A` is the sum so far without a
    maximum taken out, or `⊤` and zero. -/
def Holds (m acc : EReal) (A : ℝ) (P N : Prop) : Prop :=
  (m = ⊥ ∧ acc = 0 ∧ A = 0 ∧ ¬P ∧ ¬N) ∨ (∃ M : ℝ, m = (M : EReal) ∧ acc = ((A * (2 : ℝ) ^ (-M) : ℝ) : EReal) ∧ ¬P ∧ N)
    ∨ (m = ⊤ ∧ acc = 0 ∧ P)

theorem holds_start : Holds ⊥ 0 0 False False := Or.inl ⟨rfl, rfl, rfl, id, id⟩

/-- One block under a real maximum: the old sum is rescaled to the new maximum and the block's weighted values are added. -/
theorem step_real {m acc : EReal} {A : ℝ}
    (h : (acc = 0 ∧ A = 0) ∨ ∃ M : ℝ, m = (M : EReal) ∧ acc = ((A * (2 : ℝ) ^ (-M) : ℝ) : EReal))
    {ι : Type} [Fintype ι] (s : ι → EReal) (v : ι → EReal)
    (u : ι → ℝ) (hs : ∀ k, s k ≠ ⊤) (hv : ∀ k, v k = (u k : EReal)) {m' : EReal} (M' : ℝ) (hm : m' = (M' : EReal)) :
    Ideal.exp2 (m - m') * acc + ∑ k, v k * Ideal.exp2 (s k - m')
      = (((A + ∑ k, u k * wt (s k)) * (2 : ℝ) ^ (-M') : ℝ) : EReal) := by
  have hsum : ∑ k, v k * Ideal.exp2 (s k - m') = ((∑ k, u k * wt (s k) * (2 : ℝ) ^ (-M') : ℝ) : EReal) := by
    rw [coe_sum]
    refine Finset.sum_congr rfl fun k _ => ?_
    rw [hv, hm, exp2_sub (hs k), ← EReal.coe_mul, mul_assoc]
  have hold : Ideal.exp2 (m - m') * acc = ((A * (2 : ℝ) ^ (-M') : ℝ) : EReal) := by
    rcases h with ⟨ha, hA⟩ | ⟨M, h1, h2⟩
    · rw [ha, hA]; simp
    · rw [h1, h2, hm, exp2_sub (by simp), wt_coe, ← EReal.coe_mul]
      congr 1
      rw [mul_comm, mul_assoc, ← mul_assoc ((2 : ℝ) ^ (-M)), ← Real.rpow_add (by norm_num)]
      simp
  rw [hsum, hold, ← EReal.coe_add, add_mul, Finset.sum_mul]

/-- A maximum of several scores is `⊤` exactly when one of them is. -/
theorem max_top {m : EReal} {ι : Type} [Fintype ι] (s : ι → EReal) :
    max m (Finset.univ.fold max ⊥ s) = ⊤ ↔ m = ⊤ ∨ ∃ k, s k = ⊤ := by
  rw [← top_le_iff, le_max_iff, Finset.le_fold_max, top_le_iff]
  simp

/-- A maximum of several scores is `⊥` exactly when all of them are. -/
theorem max_bot {m : EReal} {ι : Type} [Fintype ι] (s : ι → EReal) :
    max m (Finset.univ.fold max ⊥ s) = ⊥ ↔ m = ⊥ ∧ ∀ k, s k = ⊥ := by
  rw [← le_bot_iff, max_le_iff, Finset.fold_max_le, le_bot_iff]
  simp

/-- Nothing is left of a block under an infinite maximum above its scores. -/
theorem exp2_inf {x m : EReal} (hm : m = ⊤ ∨ (m = ⊥ ∧ x = ⊥)) : Ideal.exp2 (x - m) = 0 := by
  rcases hm with rfl | ⟨rfl, rfl⟩
  · rw [EReal.sub_top, Ideal.exp2_bot]
  · rw [sub_eq_add_neg, EReal.bot_add, Ideal.exp2_bot]

/-- One block: the maximum takes in the block's scores, the old sum is rescaled to it, and the block's weighted values
    are added. -/
theorem Holds.step {m acc : EReal} {A : ℝ} {P N : Prop} (h : Holds m acc A P N) {ι : Type} [Fintype ι] (s : ι → EReal)
    (v : ι → EReal) (u : ι → ℝ) (hv : ∀ k, v k = (u k : EReal)) {m' : EReal}
    (hm : m' = max m (Finset.univ.fold max ⊥ s)) :
    Holds m' (Ideal.exp2 (m - m') * acc + ∑ k, v k * Ideal.exp2 (s k - m')) (A + ∑ k, u k * wt (s k))
      (P ∨ ∃ k, s k = ⊤) (N ∨ ∃ k, s k ≠ ⊥) := by
  have ht := max_top (m := m) s
  have hb := max_bot (m := m) s
  rw [← hm] at ht hb
  have hP : m = ⊤ ↔ P := by
    rcases h with ⟨h1, -, -, h2, -⟩ | ⟨M, h1, -, h2, -⟩ | ⟨h1, -, h2⟩ <;> rw [h1] <;> simp [h2]
  have hacc : m = ⊤ ∨ m = ⊥ → acc = 0 := by
    rcases h with ⟨h1, h2, -⟩ | ⟨M, h1, -⟩ | ⟨h1, h2, -⟩
    · exact fun _ => h2
    · rw [h1]; simp
    · exact fun _ => h2
  by_cases h1 : m' = ⊤
  · refine Or.inr (Or.inr ⟨h1, ?_, (ht.1 h1).imp hP.1 id⟩)
    rw [exp2_inf (Or.inl h1), zero_mul, zero_add]
    exact Finset.sum_eq_zero fun k _ => by rw [exp2_inf (Or.inl h1), mul_zero]
  have hnt : ¬(m = ⊤ ∨ ∃ k, s k = ⊤) := fun z => h1 (ht.2 z)
  rw [not_or, not_exists] at hnt
  have hPn : ¬(P ∨ ∃ k, s k = ⊤) := fun z => h1 (ht.2 (z.imp hP.2 id))
  by_cases h2 : m' = ⊥
  · obtain ⟨hmb, hsb⟩ := hb.1 h2
    have hA : A = 0 ∧ ¬N := by
      rcases h with ⟨-, -, h3, -, h4⟩ | ⟨M, h3, -⟩ | ⟨h3, -⟩
      · exact ⟨h3, h4⟩
      · rw [hmb] at h3; simp at h3
      · rw [hmb] at h3; simp at h3
    refine Or.inl ⟨h2, ?_, ?_, hPn, ?_⟩
    · rw [hacc (Or.inr hmb), mul_zero, zero_add]
      exact Finset.sum_eq_zero fun k _ => by rw [exp2_inf (Or.inr ⟨h2, hsb k⟩), mul_zero]
    · rw [hA.1, zero_add]
      exact Finset.sum_eq_zero fun k _ => by rw [hsb k, wt_bot, mul_zero]
    · rintro (h | ⟨k, h⟩)
      · exact hA.2 h
      · exact h (hsb k)
  · refine Or.inr (Or.inl ⟨m'.toReal, (EReal.coe_toReal h1 h2).symm, ?_, hPn, ?_⟩)
    · refine step_real ?_ s v u hnt.2 hv _ (EReal.coe_toReal h1 h2).symm
      rcases h with ⟨-, h4, h5, -⟩ | ⟨M, h4, h5, -⟩ | ⟨h4, -⟩
      · exact Or.inl ⟨h4, h5⟩
      · exact Or.inr ⟨M, h4, h5⟩
      · exact absurd h4 hnt.1
    · by_contra hN
      rw [not_or] at hN
      refine h2 (hb.2 ⟨?_, fun k => by_contra fun hk => hN.2 ⟨k, hk⟩⟩)
      rcases h with ⟨h4, -⟩ | ⟨M, -, -, -, h4⟩ | ⟨h4, -⟩
      · exact h4
      · exact absurd h4 hN.1
      · exact absurd h4 hnt.1

/-- The maximum of a block's scores, none of them `⊤` and one of them real, above any running maximum, is real. -/
theorem max_real {m : EReal} (hm : m ≠ ⊤) {ι : Type} [Fintype ι] (s : ι → EReal) (hs : ∀ k, s k ≠ ⊤) (k₀ : ι)
    (h₀ : s k₀ ≠ ⊥) : ∃ M : ℝ, max m (Finset.univ.fold max ⊥ s) = (M : EReal) := by
  have hfold : Finset.univ.fold max ⊥ s ≠ ⊤ := by
    have : Finset.univ.fold max ⊥ s < ⊤ :=
      (Finset.fold_max_lt (⊤ : EReal)).2 ⟨bot_lt_top, fun k _ => lt_top_iff_ne_top.2 (hs k)⟩
    exact this.ne
  have hlow : s k₀ ≤ Finset.univ.fold max ⊥ s := (Finset.le_fold_max _).2 (Or.inr ⟨k₀, Finset.mem_univ _, le_rfl⟩)
  have hb : max m (Finset.univ.fold max ⊥ s) ≠ ⊥ := by
    intro h
    exact h₀ (le_bot_iff.1 (hlow.trans ((le_max_right _ _).trans h.le)))
  have ht : max m (Finset.univ.fold max ⊥ s) ≠ ⊤ := by
    rcases max_choice m (Finset.univ.fold max ⊥ s) with h | h <;> rw [h] <;> assumption
  exact ⟨_, (EReal.coe_toReal ht hb).symm⟩

/-- The quotient of two accumulated sums under one maximum is the quotient of the sums. -/
theorem div_acc {A D M : ℝ} (hD : D ≠ 0) :
    Ideal.div ((A * (2 : ℝ) ^ (-M) : ℝ) : EReal) ((D * (2 : ℝ) ^ (-M) : ℝ) : EReal) = ((A / D : ℝ) : EReal) := by
  have h2 : (2 : ℝ) ^ (-M) ≠ 0 := (Real.rpow_pos_of_pos (by norm_num) _).ne'
  rw [Ideal.div_coe (mul_ne_zero hD h2), ← EReal.coe_mul]
  congr 1
  field_simp

/-- Two accumulated sums held under the same running maximum, divided, when no score is `⊤` and one is not `⊥`. -/
theorem Holds.div {m a d : EReal} {A D : ℝ} {P N : Prop} (ha : Holds m a A P N) (hd : Holds m d D P N) (hP : ¬P) (hN : N)
    (hD : D ≠ 0) : Ideal.div a d = ((A / D : ℝ) : EReal) := by
  rcases hd with ⟨-, -, -, -, h⟩ | ⟨M, hM, hd, -⟩ | ⟨-, -, h⟩
  · exact absurd hN h
  · rcases ha with ⟨-, -, -, -, h⟩ | ⟨M', hM', ha, -⟩ | ⟨-, -, h⟩
    · exact absurd hN h
    · obtain rfl : M' = M := by rw [hM] at hM'; exact (EReal.coe_injective hM').symm
      rw [ha, hd, div_acc hD]
    · exact absurd h hP
  · exact absurd h hP

/-- Zero over zero. -/
theorem div_zero_zero : Ideal.div 0 0 = ⊥ := by simp [Ideal.div]

/-- Two accumulated sums, divided, when some score is `⊤` or all are `⊥`: both are zero. -/
theorem Holds.div_inf {m a d : EReal} {A D : ℝ} {P N : Prop} (ha : Holds m a A P N) (hd : Holds m d D P N)
    (h : P ∨ ¬N) : Ideal.div a d = ⊥ := by
  have zero : ∀ {a A}, Holds m a A P N → a = 0 := fun ha => by
    rcases ha with ⟨-, h1, -⟩ | ⟨M, -, -, h1, h2⟩ | ⟨-, h1, -⟩
    · exact h1
    · exact absurd h (by simp [h1, h2])
    · exact h1
  rw [zero ha, zero hd, div_zero_zero]

/-- The host's softmax weight: the exponential of a score less the maximum, over the sum of them, does not depend on
    the maximum taken out. -/
theorem exp_sub {s : EReal} (hs : s ≠ ⊤) (M : ℝ) :
    Ideal.exp (s - (M : EReal)) = (((Ideal.exp s).toReal * Real.exp (-M) : ℝ) : EReal) := by
  induction s with
  | bot => simp
  | top => exact absurd rfl hs
  | coe r =>
    rw [← EReal.coe_sub, Ideal.exp_coe, Ideal.exp_coe, EReal.toReal_coe, ← Real.exp_add]
    rfl

end Cert.Softmax

end
-- ==== Proof.Spec.lean ====
module

public import proofs.«01_k».proof.Proof.Softmax
public import Idealize.ShloMosaic.Lib.Pointwise
public import Idealize.ShloMosaic.Lib.WordCmp

/-! # What both programs compute

Differential attention at one batch row, head, query and value lane, from values that are real and any queries and keys. -/

@[expose] public section

noncomputable section

namespace Cert.Spec

open Idealize.ShloMosaic

abbrev QK : Shape := ⟨5, ![8, 4096, 8, 2, 64]⟩
abbrev VV : Shape := ⟨4, ![8, 4096, 8, 128]⟩
abbrev LL : Shape := ⟨2, ![4, 64]⟩
abbrev WW : Shape := ⟨1, ![128]⟩

/-- A query against a key, in one of the two score components. -/
def qk (q k : FVec Ideal QK .f32) (b h : Fin 8) (c : Fin 2) (i j : Fin 4096) : EReal :=
  ∑ d : Fin 64, q (ix5 b i h c d) * k (ix5 b j h c d)

/-- The weight of a key for a query before it is normalised, from their product. -/
def expw (z : EReal) : ℝ := (Ideal.exp (z * ((1 / 8 : ℝ) : EReal))).toReal

/-- The softmax weight before it is normalised: zero for a key after the query. -/
def wgt (q k : FVec Ideal QK .f32) (b h : Fin 8) (c : Fin 2) (i j : Fin 4096) : ℝ :=
  if j.val ≤ i.val then expw (qk q k b h c i j) else 0

/-- Some score of the query is `⊤`. -/
def AnyTop (q k : FVec Ideal QK .f32) (b h : Fin 8) (c : Fin 2) (i : Fin 4096) : Prop :=
  ∃ j : Fin 4096, j.val ≤ i.val ∧ qk q k b h c i j = ⊤

/-- Some score of the query is not `⊥`. -/
def AnyUp (q k : FVec Ideal QK .f32) (b h : Fin 8) (c : Fin 2) (i : Fin 4096) : Prop :=
  ∃ j : Fin 4096, j.val ≤ i.val ∧ qk q k b h c i j ≠ ⊥

/-- The weighted sum of the values' lane `e`. -/
def num (q k : FVec Ideal QK .f32) (v : FVec Ideal VV .f32) (b h : Fin 8) (c : Fin 2) (i : Fin 4096) (e : Fin 128) : ℝ :=
  ∑ j, wgt q k b h c i j * (v (ix4 b j h e)).toReal

/-- The sum of the weights. -/
def den (q k : FVec Ideal QK .f32) (b h : Fin 8) (c : Fin 2) (i : Fin 4096) : ℝ := ∑ j, wgt q k b h c i j

theorem expw_nonneg (z : EReal) : 0 ≤ expw z := by
  unfold expw
  induction z * ((1 / 8 : ℝ) : EReal) with
  | bot => simp
  | top => simp
  | coe r => rw [Ideal.exp_coe, EReal.toReal_coe]; exact (Real.exp_pos _).le

/-- The weight of a real product is positive. -/
theorem expw_pos {z : EReal} (hb : z ≠ ⊥) (ht : z ≠ ⊤) : 0 < expw z := by
  unfold expw
  rw [← EReal.coe_toReal ht hb, ← EReal.coe_mul, Ideal.exp_coe, EReal.toReal_coe]
  exact Real.exp_pos _

theorem wgt_nonneg (q k : FVec Ideal QK .f32) (b h : Fin 8) (c : Fin 2) (i j : Fin 4096) : 0 ≤ wgt q k b h c i j := by
  unfold wgt; split
  · exact expw_nonneg _
  · exact le_rfl

/-- If no score is `⊤` and one is not `⊥`, the weights' sum is positive. -/
theorem den_pos {q k : FVec Ideal QK .f32} {b h : Fin 8} {c : Fin 2} {i : Fin 4096} (hP : ¬AnyTop q k b h c i)
    (hN : AnyUp q k b h c i) : 0 < den q k b h c i := by
  obtain ⟨j, hj, hb⟩ := hN
  refine Finset.sum_pos' (fun j _ => wgt_nonneg q k b h c i j) ⟨j, Finset.mem_univ _, ?_⟩
  unfold wgt
  rw [if_pos hj]
  exact expw_pos hb fun ht => hP ⟨j, hj, ht⟩

open Classical in
/-- One of the two attentions: the weighted values over the weights' sum, or zero over zero. -/
def frac (q k : FVec Ideal QK .f32) (v : FVec Ideal VV .f32) (b h : Fin 8) (c : Fin 2) (i : Fin 4096) (e : Fin 128) : EReal :=
  if ¬AnyTop q k b h c i ∧ AnyUp q k b h c i then ((num q k v b h c i e / den q k b h c i : ℝ) : EReal) else ⊥

/-- The weight of the second softmax, from the four rows of parameters. -/
def lam (l : FVec Ideal LL .f32) : EReal :=
  Ideal.exp (∑ x : Fin 64, l (ix2 0 x) * l (ix2 1 x)) - Ideal.exp (∑ x : Fin 64, l (ix2 2 x) * l (ix2 3 x))
    + Ideal.ofBits .f32 0x3EB60549#32

/-- The difference of the two attentions. -/
def diff (q k : FVec Ideal QK .f32) (v : FVec Ideal VV .f32) (l : FVec Ideal LL .f32) (b h : Fin 8) (i : Fin 4096)
    (e : Fin 128) : EReal := frac q k v b h 0 i e - lam l * frac q k v b h 1 i e

/-- The sub-layer norm of one row: over its root mean square, by the weight and by `1 - lambda_init`. -/
def norm (o : Fin 128 → EReal) (w : EReal) (e : Fin 128) : EReal :=
  o e * Ideal.rsqrt (Ideal.div (∑ x, o x * o x) (Ideal.ofBits .f32 0x43000000#32) + Ideal.ofBits .f32 0x358637BD#32) * w
    * Ideal.ofBits .f32 0x3F24FD5C#32

theorem ofBits_ninf : Ideal.ofBits .f32 0xFF800000#32 = ⊥ := by simp [Ideal.ofBits, Ideal.ieee]

theorem ofBits_eighth : Ideal.ofBits .f32 0x3E000000#32 = ((1 / 8 : ℝ) : EReal) := by
  simp [Ideal.ofBits, Ideal.ieee, -EReal.coe_mul]; norm_num

theorem ofBits_lam_real : ∃ r : ℝ, Ideal.ofBits .f32 0x3EB60549#32 = (r : EReal) := by
  simp [Ideal.ofBits, Ideal.ieee, -EReal.coe_mul]

/-- A sum of products of reals is a real. -/
theorem sum_mul_coe {n : ℕ} (f g : Fin n → EReal) (hf : ∀ x, ∃ r : ℝ, f x = (r : EReal)) (hg : ∀ x, ∃ r : ℝ, g x = (r : EReal)) :
    ∑ x, f x * g x = ((∑ x, (f x).toReal * (g x).toReal : ℝ) : EReal) := by
  rw [Softmax.coe_sum]
  refine Finset.sum_congr rfl fun x _ => ?_
  obtain ⟨r, hr⟩ := hf x
  obtain ⟨s, hs⟩ := hg x
  rw [hr, hs, EReal.toReal_coe, EReal.toReal_coe, EReal.coe_mul]

/-- `lambda` is real when its parameters are. -/
theorem lam_coe (l : FVec Ideal LL .f32) (hl : ∀ i, ∃ r : ℝ, l i = (r : EReal)) : lam l = ((lam l).toReal : EReal) := by
  obtain ⟨r, hr⟩ := ofBits_lam_real
  have h : ∃ s : ℝ, lam l = (s : EReal) := by
    unfold lam
    rw [sum_mul_coe _ _ (fun x => hl _) (fun x => hl _), sum_mul_coe _ _ (fun x => hl _) (fun x => hl _), hr,
      Ideal.exp_coe, Ideal.exp_coe, ← EReal.coe_sub, ← EReal.coe_add]
    exact ⟨_, rfl⟩
  obtain ⟨s, hs⟩ := h
  rw [hs, EReal.toReal_coe]

/-- A select on a comparison of two small positions is an `if`. -/
theorem select_sle {α : Type} {x y : ℕ} (hx : x < 2 ^ 31) (hy : y < 2 ^ 31) (a b : α) :
    Scalar.select (IntOp.cmpi .sle (BitVec.ofNat 32 x) (BitVec.ofNat 32 y)) a b = if x ≤ y then a else b := by
  have h : IntOp.cmpi .sle (BitVec.ofNat 32 x) (BitVec.ofNat 32 y) = 1 ↔ x ≤ y := by
    exact WordCmp.cmpi_sle_ofNat_eq_one_iff (w := 32) hx hy
  unfold Scalar.select
  simp only [h]

/-- A row's softmax with some scores masked by `⊥`, none of the others `⊤` and one of them real: each weight is its
    exponential over their sum. -/
theorem softmax_row {n : ℕ} (σ : Fin n → EReal) (keep : Fin n → Prop) [DecidablePred keep] (k₀ : Fin n) (h₀ : keep k₀)
    (hb : σ k₀ ≠ ⊥) (ht : ∀ k, keep k → σ k ≠ ⊤) (s : Fin n → EReal) (hs : ∀ k, s k = if keep k then σ k else ⊥) (k : Fin n) :
    Ideal.div (Ideal.exp (s k - max ⊥ (Finset.univ.fold max ⊥ s))) (∑ x, Ideal.exp (s x - max ⊥ (Finset.univ.fold max ⊥ s)))
      = (((if keep k then (Ideal.exp (σ k)).toReal else 0) / ∑ x, (if keep x then (Ideal.exp (σ x)).toReal else 0) : ℝ) : EReal) := by
  have hnt : ∀ k, s k ≠ ⊤ := fun k => by
    rw [hs]; split
    · exact ht k ‹_›
    · simp
  obtain ⟨M, hM⟩ := Softmax.max_real (m := ⊥) (by simp) s hnt k₀ (by rw [hs, if_pos h₀]; exact hb)
  have hw : ∀ x, (Ideal.exp (s x)).toReal = if keep x then (Ideal.exp (σ x)).toReal else 0 := fun x => by
    rw [hs]; split <;> simp
  have hnn : ∀ z, 0 ≤ (Ideal.exp z).toReal := fun z => by
    induction z with
    | bot => simp
    | top => simp
    | coe r => rw [Ideal.exp_coe, EReal.toReal_coe]; exact (Real.exp_pos _).le
  have he : Real.exp (-M) ≠ 0 := (Real.exp_pos _).ne'
  have hpos : 0 < ∑ x, (if keep x then (Ideal.exp (σ x)).toReal else 0) :=
    Finset.sum_pos' (fun x _ => by split; exacts [hnn _, le_rfl])
      ⟨k₀, Finset.mem_univ _, by
        rw [if_pos h₀, ← EReal.coe_toReal (ht k₀ h₀) hb, Ideal.exp_coe, EReal.toReal_coe]; exact Real.exp_pos _⟩
  rw [hM]
  simp only [Softmax.exp_sub (hnt _), hw]
  rw [← Softmax.coe_sum, ← Finset.sum_mul, Ideal.div_coe (mul_ne_zero hpos.ne' he), ← EReal.coe_mul]
  congr 1
  field_simp

/-- A row's softmax when some score is `⊤` or all are `⊥`: zero over zero. -/
theorem softmax_row_inf {n : ℕ} (s : Fin n → EReal) (h : (∃ k, s k = ⊤) ∨ ∀ k, s k = ⊥) (k : Fin n) :
    Ideal.div (Ideal.exp (s k - max ⊥ (Finset.univ.fold max ⊥ s))) (∑ x, Ideal.exp (s x - max ⊥ (Finset.univ.fold max ⊥ s)))
      = ⊥ := by
  have h0 : ∀ x, Ideal.exp (s x - max ⊥ (Finset.univ.fold max ⊥ s)) = 0 := fun x => by
    rcases h with h | h
    · rw [(Softmax.max_top s).2 (Or.inr h), EReal.sub_top, Ideal.exp_bot]
    · rw [h x, sub_eq_add_neg, EReal.bot_add, Ideal.exp_bot]
  simp only [h0, Finset.sum_const_zero]
  exact Softmax.div_zero_zero

/-- Zero or an infinity. -/
def Far (z : EReal) : Prop := z = 0 ∨ z = ⊤ ∨ z = ⊥

theorem Far.add {x y : EReal} (hx : Far x) (hy : Far y) : Far (x + y) := by
  rcases hx with rfl | rfl | rfl <;> rcases hy with rfl | rfl | rfl <;> simp [Far]

theorem Far.sum {ι : Type} (t : Finset ι) (f : ι → EReal) (h : ∀ i, Far (f i)) : Far (∑ i ∈ t, f i) := by
  classical
  induction t using Finset.induction_on with
  | empty => exact Or.inl rfl
  | insert a t ha ih => rw [Finset.sum_insert ha]; exact (h a).add ih

/-- A product with an infinity is zero or an infinity. -/
theorem Far.mul (x : EReal) {z : EReal} (hz : z = ⊤ ∨ z = ⊥) : Far (x * z) := by
  induction x with
  | bot => rcases hz with rfl | rfl <;> simp [Far]
  | top => rcases hz with rfl | rfl <;> simp [Far]
  | coe r =>
    rcases lt_trichotomy r 0 with h | rfl | h
    · rcases hz with rfl | rfl <;> simp [Far, EReal.coe_mul_top_of_neg h, EReal.coe_mul_bot_of_neg h]
    · simp [Far]
    · rcases hz with rfl | rfl <;> simp [Far, EReal.coe_mul_top_of_pos h, EReal.coe_mul_bot_of_pos h]

theorem ofBits_width : Ideal.ofBits .f32 0x43000000#32 = ((128 : ℝ) : EReal) := by
  simp [Ideal.ofBits, Ideal.ieee, -EReal.coe_mul]; norm_num

theorem ofBits_eps : ∃ r : ℝ, Ideal.ofBits .f32 0x358637BD#32 = (r : EReal) := by
  simp [Ideal.ofBits, Ideal.ieee, -EReal.coe_mul]

/-- The norm puts a zero and an infinity to zero: an infinite entry makes the root mean square infinite. -/
theorem norm_far (o : Fin 128 → EReal) (w : EReal) (e : Fin 128) (h : Far (o e)) : norm o w e = 0 := by
  unfold norm
  have key : o e * Ideal.rsqrt (Ideal.div (∑ x, o x * o x) (Ideal.ofBits .f32 0x43000000#32) + Ideal.ofBits .f32 0x358637BD#32) = 0 := by
    by_cases h0 : o e = 0
    · rw [h0, zero_mul]
    · have hsq : o e * o e = ⊤ := by
        rcases h with h | h | h
        · exact absurd h h0
        · rw [h]; simp
        · rw [h]; simp
      have hnn : ∀ x, 0 ≤ o x * o x := fun x => by
        induction o x with
        | bot => simp
        | top => simp
        | coe r => rw [← EReal.coe_mul]; exact EReal.coe_nonneg.2 (mul_self_nonneg r)
      have hsum : ∑ x, o x * o x = ⊤ := by
        refine top_le_iff.1 ?_
        rw [← hsq]
        exact Finset.single_le_sum (f := fun x => o x * o x) (fun x _ => hnn x) (Finset.mem_univ e)
      obtain ⟨r, hr⟩ := ofBits_eps
      rw [hsum, ofBits_width, hr, Ideal.div_coe (by norm_num), EReal.top_mul_coe_of_pos (by norm_num), EReal.top_add_coe]
      show o e * 0 = 0
      exact mul_zero _
  rw [key, zero_mul, zero_mul]

/-- A common positive factor of a sum. -/
theorem sum_mul_pos {ι : Type} (t : Finset ι) (f : ι → EReal) {c : ℝ} (hc : 0 < c) :
    ∑ i ∈ t, f i * (c : EReal) = (∑ i ∈ t, f i) * (c : EReal) := by
  classical
  induction t using Finset.induction_on with
  | empty => simp
  | insert a t ha ih =>
    rw [Finset.sum_insert ha, Finset.sum_insert ha, ih,
      EReal.right_distrib_of_nonneg_of_ne_top (EReal.coe_nonneg.2 hc.le) (EReal.coe_ne_top c)]

/-- A positive factor keeps `⊤` and `⊥` apart from the rest. -/
theorem mul_pos_top (z : EReal) {c : ℝ} (hc : 0 < c) : z * (c : EReal) = ⊤ ↔ z = ⊤ := by
  induction z with
  | bot => rw [EReal.bot_mul_coe_of_pos hc]
  | top => rw [EReal.top_mul_coe_of_pos hc]
  | coe r => rw [← EReal.coe_mul]; simp only [EReal.coe_ne_top]

theorem mul_pos_bot (z : EReal) {c : ℝ} (hc : 0 < c) : z * (c : EReal) = ⊥ ↔ z = ⊥ := by
  induction z with
  | bot => rw [EReal.bot_mul_coe_of_pos hc]
  | top => rw [EReal.top_mul_coe_of_pos hc]
  | coe r => rw [← EReal.coe_mul]; simp only [EReal.coe_ne_bot]

end Cert.Spec

end
-- ==== Proof.Ref.lean ====
module

public import proofs.«01_k».proof.Proof.Gen.ReferenceIdeal.Run
public import proofs.«01_k».proof.Proof.Spec
public import Idealize.ShloMosaic.Lib.Tactic.CleanTypes

/-! # The reference's result at an index -/

@[expose] public section

set_option maxRecDepth 16384

noncomputable section

namespace Cert.Ref

open Idealize.ShloMosaic Idealize.ShloMosaic.TcCoe Idealize.SL.Sem Cert.ReferenceIdeal Cert.ReferenceIdeal.Gen Cert.Spec

/-- The masked scores, as the reference's text has them. -/
def scoreV (q k : FVec Ideal S8x4096x8x2x64 .f32) : FVec Ideal S8x8x2x4096x4096 .f32 :=
  select (broadcastInDim S8x8x2x4096x4096 ![0, 1, 2, 3, 4] bcast_S1x1x1x4096x4096_S8x8x2x4096x4096_0_1_2_3_4 (broadcastInDim S1x1x1x4096x4096 ![3, 4]
    bcast_S4096x4096_S1x1x1x4096x4096_3_4 (cmpi .sle (broadcastInDim S4096x4096 ![0, 1] bcast_S1x4096_S4096x4096_0_1 (broadcastInDim S1x4096 ![1]
    bcast_S4096_S1x4096_1 (iotaInDim S4096 32 0))) (broadcastInDim S4096x4096 ![0, 1] bcast_S4096x1_S4096x4096_0_1 (broadcastInDim S4096x1 ![0]
    bcast_S4096_S4096x1_0 (iotaInDim S4096 32 0)))))) (mulf (Host.dotGeneral dot_S8x4096x8x2x64_S8x4096x8x2x64_S8x8x2x4096x4096_4_4_1_1_023_023 none q k)
    (broadcastInDim S8x8x2x4096x4096 ![] bcast_S_S8x8x2x4096x4096 (constant S_ .f32 0x3E000000#32))) (broadcastInDim S8x8x2x4096x4096 ![]
    bcast_S_S8x8x2x4096x4096 (id (constant S_ .f32 0xFF800000#32)))

/-- Each row's maximum. -/
def topV (s : FVec Ideal S8x8x2x4096x4096 .f32) : FVec Ideal S8x8x2x4096 .f32 :=
  Host.reduce FloatOps.maximumf s (constant S_ .f32 0xFF800000#32) reducesTo_S8x8x2x4096x4096_S8x8x2x4096_d4 h_S_

/-- The scores less each row's maximum. -/
def shiftV (s : FVec Ideal S8x8x2x4096x4096 .f32) (u : FVec Ideal S8x8x2x4096 .f32) : FVec Ideal S8x8x2x4096x4096 .f32 :=
  subf s (broadcastInDim S8x8x2x4096x4096 ![0, 1, 2, 3, 4] bcast_S8x8x2x4096x1_S8x8x2x4096x4096_0_1_2_3_4
    (broadcastInDim S8x8x2x4096x1 ![0, 1, 2, 3] bcast_S8x8x2x4096_S8x8x2x4096x1_0_1_2_3 (maximumf (broadcastInDim S8x8x2x4096 ![] bcast_S_S8x8x2x4096 (constant S_ .f32 0xFF800000#32)) u)))

/-- The softmax of shifted scores. -/
def softV (s : FVec Ideal S8x8x2x4096x4096 .f32) : FVec Ideal S8x8x2x4096x4096 .f32 :=
  Host.divf (Host.exp s) (broadcastInDim S8x8x2x4096x4096 ![0, 1, 2, 3, 4] bcast_S8x8x2x4096x1_S8x8x2x4096x4096_0_1_2_3_4 (broadcastInDim S8x8x2x4096x1
    ![0, 1, 2, 3] bcast_S8x8x2x4096_S8x8x2x4096x1_0_1_2_3 (Host.reduceAdd (Host.exp s) (constant S_ .f32 0x00000000#32)
    reducesTo_S8x8x2x4096x4096_S8x8x2x4096_d4 h_S_)))

/-- The weight of the second softmax. -/
def lamV (l : FVec Ideal S4x64 .f32) : FVec Ideal S_ .f32 :=
  addf (subf (Host.exp (Host.reduceAdd (mulf (shapeCast _ (extractStridedSlice S1x64 ![0, 0] l slices_S4x64_S1x64_0_0) shapeCasts_S1x64_S64) (shapeCast
    _ (extractStridedSlice S1x64 ![1, 0] l slices_S4x64_S1x64_1_0) shapeCasts_S1x64_S64)) (constant S_ .f32 0x00000000#32) reducesTo_S64_S_d0 h_S_))
    (Host.exp (Host.reduceAdd (mulf (shapeCast _ (extractStridedSlice S1x64 ![2, 0] l slices_S4x64_S1x64_2_0) shapeCasts_S1x64_S64) (shapeCast _
    (extractStridedSlice S1x64 ![3, 0] l slices_S4x64_S1x64_3_0) shapeCasts_S1x64_S64)) (constant S_ .f32 0x00000000#32) reducesTo_S64_S_d0 h_S_)))
    (constant S_ .f32 0x3EB60549#32)

/-- The two softmaxes' difference against the values. -/
def attV (p : FVec Ideal S8x8x2x4096x4096 .f32) (v : FVec Ideal S8x4096x8x128 .f32) (a : FVec Ideal S_ .f32) : FVec Ideal S8x4096x8x128 .f32 :=
  transpose S8x4096x8x128 [0, 3, 1, 2] (Host.dotGeneral dot_S8x4096x8x128_S8x8x4096x4096_S8x8x128x4096_1_3_3_2_02_01 none v (subf (shapeCast _
    (extractStridedSlice S8x8x1x4096x4096 ![0, 0, 0, 0, 0] p slices_S8x8x2x4096x4096_S8x8x1x4096x4096_0_0_0_0_0)
    shapeCasts_S8x8x1x4096x4096_S8x8x4096x4096) (mulf (broadcastInDim S8x8x4096x4096 ![] bcast_S_S8x8x4096x4096 a) (shapeCast _ (extractStridedSlice
    S8x8x1x4096x4096 ![0, 0, 1, 0, 0] p slices_S8x8x2x4096x4096_S8x8x1x4096x4096_0_0_1_0_0) shapeCasts_S8x8x1x4096x4096_S8x8x4096x4096))))
    transposes_S8x8x128x4096_S8x4096x8x128_0_3_1_2

/-- The sub-layer norm, heads first. -/
def normV (o : FVec Ideal S8x4096x8x128 .f32) (w : FVec Ideal S128 .f32) : FVec Ideal S8x8x4096x128 .bf16 :=
  truncf .bf16 (transpose S8x8x4096x128 [0, 2, 1, 3] (mulf (mulf (mulf o (broadcastInDim S8x4096x8x128 ![0, 1, 2, 3]
    bcast_S8x4096x8x1_S8x4096x8x128_0_1_2_3 (Host.rsqrt (addf (Host.divf (broadcastInDim S8x4096x8x1 ![0, 1, 2] bcast_S8x4096x8_S8x4096x8x1_0_1_2
    (Host.reduceAdd (mulf o o) (constant S_ .f32 0x00000000#32) reducesTo_S8x4096x8x128_S8x4096x8_d3 h_S_)) (broadcastInDim S8x4096x8x1 ![]
    bcast_S_S8x4096x8x1 (constant S_ .f32 0x43000000#32))) (broadcastInDim S8x4096x8x1 ![] bcast_S_S8x4096x8x1 (constant S_ .f32 0x358637BD#32))))))
    (broadcastInDim S8x4096x8x128 ![0, 1, 2, 3] bcast_S1x1x1x128_S8x4096x8x128_0_1_2_3 (broadcastInDim S1x1x1x128 ![3] bcast_S128_S1x1x1x128_3 w)))
    (broadcastInDim S8x4096x8x128 ![] bcast_S_S8x4096x8x128 (constant S_ .f32 0x3F24FD5C#32))) transposes_S8x4096x8x128_S8x8x4096x128_0_2_1_3)
    bitsLt_bf16_f32

/-- The reference's masked score. -/
def score (q k : FVec Ideal QK .f32) (b h : Fin 8) (c : Fin 2) (i j : Fin 4096) : EReal :=
  Scalar.select (IntOp.cmpi .sle (BitVec.ofNat 32 j.val) (BitVec.ofNat 32 i.val))
    ((∑ x, q (ix5 b i h c x) * k (ix5 b j h c x)) * Ideal.ofBits .f32 0x3E000000#32) (Ideal.ofBits .f32 0xFF800000#32)

/-- The largest score of a row, taken above `⊥` as the softmax does. -/
def top (q k : FVec Ideal QK .f32) (b h : Fin 8) (c : Fin 2) (i : Fin 4096) : EReal :=
  max (Ideal.ofBits .f32 0xFF800000#32) (Finset.univ.fold max (Ideal.ofBits .f32 0xFF800000#32) (score q k b h c i))

/-- One softmax weight. -/
def soft (q k : FVec Ideal QK .f32) (b h : Fin 8) (c : Fin 2) (i j : Fin 4096) : EReal :=
  Ideal.div (Ideal.exp (score q k b h c i j - top q k b h c i))
    (∑ x, Ideal.exp (score q k b h c i x - top q k b h c i))

/-- The two weights' difference against the values' lane. -/
def row (q k : FVec Ideal QK .f32) (v : FVec Ideal VV .f32) (l : FVec Ideal LL .f32) (b h : Fin 8) (i : Fin 4096)
    (e : Fin 128) : EReal :=
  ∑ j, v (ix4 b j h e) * (soft q k b h 0 i j - lam l * soft q k b h 1 i j)

/-- A masked score at an index. -/
theorem scoreV_at (q k : FVec Ideal QK .f32) (b h : Fin 8) (c : Fin 2) (i j : Fin 4096) :
    scoreV q k (ix5 b h c i j) = score q k b h c i j := by
  unfold scoreV
  pointwise
  rfl

/-- A row's fold under any commutative and associative operation. -/
theorem fold_at (op : EReal → EReal → EReal) [Std.Commutative op] [Std.Associative op] (s : FVec Ideal S8x8x2x4096x4096 .f32)
    (u : FVec Ideal S_ .f32) (b h : Fin 8) (c : Fin 2) (i : Fin 4096) :
    Host.reduce op s u reducesTo_S8x8x2x4096x4096_S8x8x2x4096_d4 h_S_ (ix4 b h c i)
      = Finset.univ.fold op (u (Shape.Idx.first h_S_)) fun x => s (ix5 b h c i x) := by
  simp only [pointwise]

/-- Equal operations fold to the same. -/
theorem fold_op {ι : Type} [Fintype ι] (op op' : EReal → EReal → EReal) [Std.Commutative op] [Std.Associative op]
    [Std.Commutative op'] [Std.Associative op'] (h : op = op') (b : EReal) (f : ι → EReal) :
    Finset.univ.fold op b f = Finset.univ.fold op' b f := by
  subst h
  rfl

/-- A row's maximum at an index. -/
theorem topV_at (s : FVec Ideal S8x8x2x4096x4096 .f32) (b h : Fin 8) (c : Fin 2) (i : Fin 4096) :
    topV s (ix4 b h c i) = Finset.univ.fold max (Ideal.ofBits .f32 0xFF800000#32) fun x => s (ix5 b h c i x) :=
  (fold_at (FloatOps.maximumf (F := Ideal) (φ := .f32)) s _ b h c i).trans (fold_op _ _ rfl _ _)

/-- A shifted score at an index. -/
theorem shiftV_at (s : FVec Ideal S8x8x2x4096x4096 .f32) (u : FVec Ideal S8x8x2x4096 .f32) (b h : Fin 8) (c : Fin 2) (i j : Fin 4096) :
    shiftV s u (ix5 b h c i j) = s (ix5 b h c i j) - max (Ideal.ofBits .f32 0xFF800000#32) (u (ix4 b h c i)) := by
  unfold shiftV
  pointwise

/-- A softmax weight at an index. -/
theorem softV_at (s : FVec Ideal S8x8x2x4096x4096 .f32) (b h : Fin 8) (c : Fin 2) (i j : Fin 4096) :
    softV s (ix5 b h c i j) = Ideal.div (Ideal.exp (s (ix5 b h c i j))) (∑ x, Ideal.exp (s (ix5 b h c i x))) := by
  unfold softV
  pointwise

/-- The weight of the second softmax at its only index. -/
theorem lamV_at (l : FVec Ideal LL .f32) : lamV l ix0 = lam l := by
  unfold lamV
  pointwise
  rfl

/-- The attention at an index. -/
theorem attV_at (p : FVec Ideal S8x8x2x4096x4096 .f32) (v : FVec Ideal VV .f32) (a : FVec Ideal S_ .f32) (b h : Fin 8) (i : Fin 4096)
    (e : Fin 128) :
    attV p v a (ix4 b i h e) = ∑ j, v (ix4 b j h e) * (p (ix5 b h 0 i j) - a ix0 * p (ix5 b h 1 i j)) := by
  unfold attV
  pointwise

/-- The norm at an index. -/
theorem normV_at (o : FVec Ideal S8x4096x8x128 .f32) (w : FVec Ideal WW .f32) (b h : Fin 8) (i : Fin 4096) (e : Fin 128) :
    normV o w (ix4 b h i e) = Spec.norm (fun e => o (ix4 b i h e)) (w (ix1 e)) e := by
  unfold normV
  pointwise
  rfl

/-- The masked scores of the reference's arguments. -/
def scores (m : (ℓ : Loc nD τ sig) → Buf (Elt Ideal) ℓ) (c : Dev nD) : FVec Ideal S8x8x2x4096x4096 .f32 :=
  scoreV (m ((c : Thread nD τ).loc main_arg0)) (m ((c : Thread nD τ).loc main_arg1))

/-- The reference's result, step by step. -/
theorem res_eq (m : (ℓ : Loc nD τ sig) → Buf (Elt Ideal) ℓ) (c : Dev nD) :
    (Cert.ReferenceIdeal.Value.res_main_v63 m c : FVec Ideal S8x8x4096x128 .bf16)
      = normV (attV (softV (shiftV (scores m c) (topV (scores m c))))
          (m ((c : Thread nD τ).loc main_arg2)) (lamV (m ((c : Thread nD τ).loc main_arg3)))) (m ((c : Thread nD τ).loc main_arg4)) := by
  delta Cert.ReferenceIdeal.Value.res_main_v63 normV attV softV shiftV topV scores scoreV lamV
  rfl

/-- The reference's result read at an index, over extended reals. -/
theorem res_at (m : (ℓ : Loc nD τ sig) → Buf (Elt Ideal) ℓ) (c : Dev nD) (b h : Fin 8) (q : Fin 4096) (e : Fin 128) :
    (Cert.ReferenceIdeal.Value.res_main_v63 m c : FVec Ideal S8x8x4096x128 .bf16) (ix4 b h q e)
      = Spec.norm (row (m ((c : Thread nD τ).loc main_arg0)) (m ((c : Thread nD τ).loc main_arg1))
          (m ((c : Thread nD τ).loc main_arg2)) (m ((c : Thread nD τ).loc main_arg3)) b h q)
          ((m ((c : Thread nD τ).loc main_arg4) : FVec Ideal WW .f32) (ix1 e)) e := by
  rw [res_eq, normV_at]
  congr 1
  funext e
  rw [attV_at]
  unfold row soft top
  simp only [softV_at, shiftV_at, topV_at, scores, scoreV_at, lamV_at]

/-- A masked score is `⊥`, an unmasked one is the query against the key over eight. -/
theorem score_eq (q k : FVec Ideal QK .f32) (b h : Fin 8) (c : Fin 2) (i j : Fin 4096) :
    score q k b h c i j = if j.val ≤ i.val then qk q k b h c i j * ((1 / 8 : ℝ) : EReal) else ⊥ := by
  unfold score
  rw [select_sle (by omega) (by omega), ofBits_ninf, ofBits_eighth]
  rfl

/-- One softmax weight, when no score is `⊤` and one is not `⊥`. -/
theorem soft_eq (q k : FVec Ideal QK .f32) (b h : Fin 8) (c : Fin 2) (i j : Fin 4096) (hP : ¬AnyTop q k b h c i)
    (hN : AnyUp q k b h c i) : soft q k b h c i j = ((wgt q k b h c i j / den q k b h c i : ℝ) : EReal) := by
  obtain ⟨j₀, h₀, hb⟩ := hN
  unfold soft top
  rw [ofBits_ninf]
  exact softmax_row (fun j => qk q k b h c i j * ((1 / 8 : ℝ) : EReal)) (fun j => j.val ≤ i.val) j₀ h₀
    (fun z => hb ((mul_pos_bot _ (by norm_num)).1 z)) (fun j hj z => hP ⟨j, hj, (mul_pos_top _ (by norm_num)).1 z⟩)
    (score q k b h c i) (score_eq q k b h c i) j

/-- One softmax weight, when some score is `⊤` or all are `⊥`. -/
theorem soft_inf (q k : FVec Ideal QK .f32) (b h : Fin 8) (c : Fin 2) (i j : Fin 4096)
    (H : ¬(¬AnyTop q k b h c i ∧ AnyUp q k b h c i)) : soft q k b h c i j = ⊥ := by
  unfold soft top
  rw [ofBits_ninf]
  refine softmax_row_inf _ ?_ j
  by_cases hP : AnyTop q k b h c i
  · obtain ⟨j, hj, ht⟩ := hP
    refine Or.inl ⟨j, ?_⟩
    rw [score_eq, if_pos hj, mul_pos_top _ (by norm_num)]
    exact ht
  · refine Or.inr fun j => ?_
    rw [score_eq]
    split
    · rw [mul_pos_bot _ (by norm_num)]
      by_contra hb
      exact H ⟨hP, j, ‹_›, hb⟩
    · rfl

/-- The reference's row of attention, when both softmaxes are regular. -/
theorem row_eq (q k : FVec Ideal QK .f32) (v : FVec Ideal VV .f32) (l : FVec Ideal LL .f32)
    (hv : ∀ i, ∃ r : ℝ, v i = (r : EReal)) (hl : ∀ i, ∃ r : ℝ, l i = (r : EReal)) (b h : Fin 8) (i : Fin 4096)
    (h0 : ¬AnyTop q k b h 0 i ∧ AnyUp q k b h 0 i) (h1 : ¬AnyTop q k b h 1 i ∧ AnyUp q k b h 1 i) :
    row q k v l b h i = diff q k v l b h i := by
  funext e
  unfold row diff frac
  rw [if_pos h0, if_pos h1, lam_coe l hl]
  simp only [soft_eq q k b h 0 i _ h0.1 h0.2, soft_eq q k b h 1 i _ h1.1 h1.2]
  have hterm : ∀ j : Fin 4096, v (ix4 b j h e) * (((wgt q k b h 0 i j / den q k b h 0 i : ℝ) : EReal)
      - ((lam l).toReal : EReal) * ((wgt q k b h 1 i j / den q k b h 1 i : ℝ) : EReal))
      = (((wgt q k b h 0 i j * (v (ix4 b j h e)).toReal) / den q k b h 0 i
        - (lam l).toReal * ((wgt q k b h 1 i j * (v (ix4 b j h e)).toReal) / den q k b h 1 i) : ℝ) : EReal) := fun j => by
    obtain ⟨r, hr⟩ := hv (ix4 b j h e)
    rw [hr, ← EReal.coe_mul, ← EReal.coe_sub, ← EReal.coe_mul, EReal.toReal_coe]
    congr 1
    ring
  rw [Finset.sum_congr rfl fun j _ => hterm j, ← Softmax.coe_sum, ← EReal.coe_mul, ← EReal.coe_sub]
  congr 1
  rw [Finset.sum_sub_distrib, ← Finset.mul_sum, ← Finset.sum_div, ← Finset.sum_div]
  rfl

/-- The reference's row of attention, when the second softmax is zero over zero and its weight is zero. -/
theorem row_eq_zero (q k : FVec Ideal QK .f32) (v : FVec Ideal VV .f32) (l : FVec Ideal LL .f32)
    (hv : ∀ i, ∃ r : ℝ, v i = (r : EReal)) (b h : Fin 8) (i : Fin 4096)
    (h0 : ¬AnyTop q k b h 0 i ∧ AnyUp q k b h 0 i) (hz : lam l = 0) : row q k v l b h i = diff q k v l b h i := by
  funext e
  unfold row diff frac
  rw [if_pos h0, hz]
  simp only [soft_eq q k b h 0 i _ h0.1 h0.2, zero_mul, sub_zero]
  have hterm : ∀ j : Fin 4096, v (ix4 b j h e) * ((wgt q k b h 0 i j / den q k b h 0 i : ℝ) : EReal)
      = (((wgt q k b h 0 i j * (v (ix4 b j h e)).toReal) / den q k b h 0 i : ℝ) : EReal) := fun j => by
    obtain ⟨r, hr⟩ := hv (ix4 b j h e)
    rw [hr, ← EReal.coe_mul, EReal.toReal_coe]
    congr 1
    ring
  rw [Finset.sum_congr rfl fun j _ => hterm j, ← Softmax.coe_sum, ← Finset.sum_div]
  rfl

/-- The norm of the reference's row, when every difference of weights is one infinity. -/
theorem norm_row_inf (q k : FVec Ideal QK .f32) (v : FVec Ideal VV .f32) (l : FVec Ideal LL .f32) (w : EReal) (b h : Fin 8)
    (i : Fin 4096) (e : Fin 128) (H : ∀ j, soft q k b h 0 i j - lam l * soft q k b h 1 i j = ⊤
      ∨ soft q k b h 0 i j - lam l * soft q k b h 1 i j = ⊥) : norm (row q k v l b h i) w e = 0 :=
  norm_far _ _ _ (Far.sum _ _ fun j => Far.mul _ (H j))

/-- A real weight other than zero, times `⊥`, taken from a real. -/
theorem sub_inf (x : ℝ) {z : ℝ} (hz : z ≠ 0) : (x : EReal) - (z : EReal) * ⊥ = ⊤ ∨ (x : EReal) - (z : EReal) * ⊥ = ⊥ := by
  rcases lt_or_gt_of_ne hz with h | h
  · rw [EReal.coe_mul_bot_of_neg h]; simp
  · rw [EReal.coe_mul_bot_of_pos h]; simp

/-- The norm of the reference's row is that of the difference of the two attentions. -/
theorem norm_row (q k : FVec Ideal QK .f32) (v : FVec Ideal VV .f32) (l : FVec Ideal LL .f32) (w : EReal)
    (hv : ∀ i, ∃ r : ℝ, v i = (r : EReal)) (hl : ∀ i, ∃ r : ℝ, l i = (r : EReal)) (b h : Fin 8) (i : Fin 4096) (e : Fin 128) :
    norm (row q k v l b h i) w e = norm (diff q k v l b h i) w e := by
  by_cases h0 : ¬AnyTop q k b h 0 i ∧ AnyUp q k b h 0 i
  · by_cases h1 : ¬AnyTop q k b h 1 i ∧ AnyUp q k b h 1 i
    · rw [row_eq q k v l hv hl b h i h0 h1]
    · by_cases hz : lam l = 0
      · rw [row_eq_zero q k v l hv b h i h0 hz]
      · have hz' : (lam l).toReal ≠ 0 := fun z => hz (by rw [lam_coe l hl, z, EReal.coe_zero])
        rw [norm_row_inf, norm_far]
        · unfold diff frac
          rw [if_pos h0, if_neg h1, lam_coe l hl]
          exact Or.inr (sub_inf _ hz')
        · intro j
          rw [soft_eq q k b h 0 i j h0.1 h0.2, soft_inf q k b h 1 i j h1, lam_coe l hl]
          exact sub_inf _ hz'
  · rw [norm_row_inf, norm_far]
    · unfold diff frac
      rw [if_neg h0, sub_eq_add_neg, EReal.bot_add]
      exact Or.inr (Or.inr rfl)
    · intro j
      rw [soft_inf q k b h 0 i j h0, sub_eq_add_neg, EReal.bot_add]
      exact Or.inr rfl

end Cert.Ref

end
-- ==== Proof.Model.lean ====
module

public import proofs.«01_k».proof.Proof.Gen.KernelIdeal.Skeleton
public import Idealize.ShloMosaic.Lib.Pipeline.ValueKit
public import Idealize.ShloMosaic.Lib.Pointwise

/-! # The kernel's vector steps

What one query block of the attention kernel does, each step as a function of the blocks it reads, in the kernel's own operations. -/

@[expose] public section

noncomputable section

namespace Cert.Model

open Idealize.ShloMosaic Cert.KernelIdeal Cert.KernelIdeal.Gen

variable {F : FTy → Type} [FloatOps F] [Named F]

/-- A block of queries, scaled and rounded. -/
def scaled (q : Vec F S1x1x512x128 .f32) : FVec F S512x128 .bf16 :=
  truncf .bf16 (mulf (shapeCast S512x128 q shapeCasts_S1x1x512x128_S512x128)
    (broadcast S512x128 (Named.named κ "q_scale" 0x3E38AA3B#32 : F .f32))) bitsLt_bf16_f32

/-- The scaled queries twice, once with the lanes of the first component kept and once with those of the second. -/
def stacked (q : Vec F S1x1x512x128 .f32) : FVec F S1024x128 .bf16 :=
  concatenate S1024x128 0
    [⟨S512x128, select (cmpi .slt (iota .tc S512x128 32 [1] iota_S512x128_d1_w32) (broadcast S512x128 64#32)) (scaled q)
        (broadcast S512x128 (Scalar.ofBits .bf16 0x0000#16 : F .bf16))⟩,
     ⟨S512x128, select (cmpi .sge (iota .tc S512x128 32 [1] iota_S512x128_d1_w32) (broadcast S512x128 64#32)) (scaled q)
        (broadcast S512x128 (Scalar.ofBits .bf16 0x0000#16 : F .bf16))⟩] concatenates_S512x128_S512x128_S1024x128_d0

/-- The scores of a block of keys against a block of queries, both components side by side. -/
def score (k : Vec F S1x1x512x128 .bf16) (q : Vec F S1x1x512x128 .f32) : FVec F S512x1024 .f32 :=
  matmul dot_S512x128_S1024x128_S512x1024_1_1_0_0_n_n none (shapeCast S512x128 k shapeCasts_S1x1x512x128_S512x128) (stacked q)
    (constant S512x1024 .f32 0x00000000#32)

/-- The scores as they are stored. -/
def sto (k : Vec F S1x1x512x128 .bf16) (q : Vec F S1x1x512x128 .f32) : FVec F S512x1024 .f32 :=
  shapeCast S512x1024 (score k q) shapeCasts_S512x1024_S512x1024

/-- The largest entry of every column. -/
def colMax (s : FVec F S512x1024 .f32) : FVec F S1x1024 .f32 :=
  shapeCast S1x1024 (multiReduction .maximumf [0] S1024 s 0xFF800000#32 reduces_S512x1024_S1024 (.inl rfl) rfl) shapeCasts_S1024_S1x1024

/-- The largest score of every column, as it is stored. -/
def cmx (k : Vec F S1x1x512x128 .bf16) (q : Vec F S1x1x512x128 .f32) : FVec F S1x1024 .f32 :=
  shapeCast S1x1024 (colMax (score k q)) shapeCasts_S1x1024_S1x1024

/-- The scores of the diagonal block, with those of later keys put to minus infinity. -/
def masked (s : Vec F S512x1024 .f32) : Vec F S512x1024 .f32 :=
  select (concatenate S512x1024 1
      [⟨S512x512, cmpi .sle (iota .tc S512x512 32 [0] iota_S512x512_d0_w32) (iota .tc S512x512 32 [1] iota_S512x512_d1_w32)⟩,
       ⟨S512x512, cmpi .sle (iota .tc S512x512 32 [0] iota_S512x512_d0_w32) (iota .tc S512x512 32 [1] iota_S512x512_d1_w32)⟩]
      concatenates_S512x512_S512x512_S512x1024_d1)
    s (broadcast S512x1024 (Scalar.ofBits .f32 0xFF800000#32 : F .f32))

/-- The accumulator rescaled from the maximum `m` to `n`, with a block of keys added. -/
def addBlock (m n : FVec F S1x1024 .f32) (s : Vec F S512x1024 .f32) (a : FVec F S136x1024 .f32) (v : Vec F S1x1x136x512 .bf16) : FVec F S136x1024 .f32 :=
  shapeCast S136x1024
    (addf (mulf (broadcastTo S136x1024 (exp2 (subf m n)) broadcasts_S1x1024_S136x1024) a)
      (matmul dot_S136x512_S512x1024_S136x1024_1_0_0_1_n_n none (shapeCast S136x512 v shapeCasts_S1x1x136x512_S136x512)
        (truncf .bf16 (exp2 (subf s (broadcastTo S512x1024 n broadcasts_S1x1024_S512x1024))) bitsLt_bf16_f32)
        (constant S136x1024 .f32 0x00000000#32)))
    shapeCasts_S136x1024_S136x1024

/-- The maximum before the first block. -/
def max0 : FVec F S1x1024 .f32 :=
  shapeCast S1x1024 (broadcast S1x1024 (Scalar.ofBits .f32 0xFF800000#32 : F .f32)) shapeCasts_S1x1024_S1x1024

/-- The accumulator before the first block. -/
def acc0 : FVec F S136x1024 .f32 :=
  shapeCast S136x1024 (broadcast S136x1024 (Scalar.ofBits .f32 0x00000000#32 : F .f32)) shapeCasts_S136x1024_S136x1024

/-- The maximum after a block that isn't masked. -/
def maxU (m c : FVec F S1x1024 .f32) : FVec F S1x1024 .f32 :=
  shapeCast S1x1024 (maximumf m c) shapeCasts_S1x1024_S1x1024

/-- The accumulator after a block that isn't masked. -/
def accU (m c : FVec F S1x1024 .f32) (s : Vec F S512x1024 .f32) (a : FVec F S136x1024 .f32) (v : Vec F S1x1x136x512 .bf16) : FVec F S136x1024 .f32 :=
  addBlock m (maximumf m c) s a v

/-- The accumulator after the diagonal block. -/
def accM (m : FVec F S1x1024 .f32) (s : Vec F S512x1024 .f32) (a : FVec F S136x1024 .f32) (v : Vec F S1x1x136x512 .bf16) : FVec F S136x1024 .f32 :=
  addBlock m (maximumf m (colMax (masked s))) (masked s) a v

/-- The weight of the second component. -/
def lamV (l : Vec F S4x64 .f32) : FVec F S1x1 .f32 :=
  addf
    (subf
      (exp (shapeCast S1x1 (multiReduction .add [1] S1 (mulf (extractStridedSlice S1x64 ![0, 0] l slices_S4x64_o0_0_S1x64)
        (extractStridedSlice S1x64 ![1, 0] l slices_S4x64_o1_0_S1x64)) 0x00000000#32 reduces_S1x64_S1 (.inl rfl) rfl) shapeCasts_S1_S1x1))
      (exp (shapeCast S1x1 (multiReduction .add [1] S1 (mulf (extractStridedSlice S1x64 ![2, 0] l slices_S4x64_o2_0_S1x64)
        (extractStridedSlice S1x64 ![3, 0] l slices_S4x64_o3_0_S1x64)) 0x00000000#32 reduces_S1x64_S1 (.inl rfl) rfl) shapeCasts_S1_S1x1)))
    (broadcast S1x1 (Scalar.ofBits .f32 0x3EB60549#32 : F .f32))

/-- The accumulator's rows over its row of sums. -/
def ratio (a : Vec F S136x1024 .f32) : FVec F S128x1024 .f32 :=
  divf (extractStridedSlice S128x1024 ![0, 0] a slices_S136x1024_o0_0_S128x1024)
    (broadcastTo S128x1024 (extractStridedSlice S1x1024 ![128, 0] a slices_S136x1024_o128_0_S1x1024) broadcasts_S1x1024_S128x1024)

/-- The first component less the weighted second. -/
def diffV (l : Vec F S4x64 .f32) (a : Vec F S136x1024 .f32) : FVec F S128x512 .f32 :=
  subf (extractStridedSlice S128x512 ![0, 0] (ratio a) slices_S128x1024_o0_0_S128x512)
    (mulf (broadcastTo S128x512 (lamV l) broadcasts_S1x1_S128x512)
      (extractStridedSlice S128x512 ![0, 512] (ratio a) slices_S128x1024_o0_512_S128x512))

/-- The sub-layer norm of every column, transposed. -/
def normV (o : FVec F S128x512 .f32) (w : Vec F S128x1 .f32) : FVec F S1x1x512x128 .bf16 :=
  shapeCast S1x1x512x128
    (truncf .bf16
      (transpose S512x128 [1, 0]
        (mulf
          (mulf
            (mulf o
              (broadcastTo S128x512
                (rsqrt (addf
                  (divf (shapeCast S1x512 (multiReduction .add [0] S512 (mulf o o) 0x00000000#32 reduces_S128x512_S512 (.inl rfl) rfl) shapeCasts_S512_S1x512)
                    (broadcast S1x512 (Scalar.ofBits .f32 0x43000000#32 : F .f32)))
                  (broadcast S1x512 (Scalar.ofBits .f32 0x358637BD#32 : F .f32))))
                broadcasts_S1x512_S128x512))
            (broadcastTo S128x512 (shapeCast S128x1 w shapeCasts_S128x1_S128x1) broadcasts_S128x1_S128x512))
          (broadcast S128x512 (Scalar.ofBits .f32 0x3F24FD5C#32 : F .f32)))
        transposes_S128x512_p1_0_S512x128)
      bitsLt_bf16_f32)
    shapeCasts_S512x128_S1x1x512x128

/-- Block `n` of the keys. -/
def kBlk {e : EltTy} (K : Vec F S1x1x4096x128 e) (n : ℕ) : Vec F S1x1x512x128 e :=
  fun x => K (ix4 0 0 (Fin.ofNat 4096 (512 * n + (x 2).val)) (x 3))

/-- Block `n` of the transposed values. -/
def vBlk {e : EltTy} (V : Vec F S1x1x136x4096 e) (n : ℕ) : Vec F S1x1x136x512 e :=
  fun x => V (ix4 0 0 (x 2) (Fin.ofNat 4096 (512 * n + (x 3).val)))

/-- Block `g` of the queries of one grid point. -/
def qBlk {e : EltTy} (Q : Vec F S1x1x2048x128 e) (g : ℕ) : Vec F S1x1x512x128 e :=
  fun x => Q (ix4 0 0 (Fin.ofNat 2048 (512 * g + (x 2).val)) (x 3))

/-- A load of 512 rows of keys is a block. -/
theorem ld_k {e : EltTy} (K : Vec F S1x1x4096x128 e) (o : ℕ) (inb) (h : o % 512 = 0) :
    View.ld K (Rect.unit (s := S1x1x4096x128) ![0, 0, o, 0] ![1, 1, 512, 128] inb) = kBlk K (o / 512) := by
  have hb : o + 512 ≤ 4096 := inb 2
  funext x
  have hx : (x 2).val < 512 := (x 2).isLt
  pointwise
  refine congrArg (fun z : Fin 4096 => K (ix4 0 0 z (x 3))) (Fin.ext ?_)
  show o + (x 2).val = (512 * (o / 512) + (x 2).val) % 4096
  omega

/-- A load of 512 rows of queries is a block. -/
theorem ld_q {e : EltTy} (K : Vec F S1x1x2048x128 e) (o : ℕ) (inb) (h : o % 512 = 0) :
    View.ld K (Rect.unit (s := S1x1x2048x128) ![0, 0, o, 0] ![1, 1, 512, 128] inb) = qBlk K (o / 512) := by
  have hb : o + 512 ≤ 2048 := inb 2
  funext x
  have hx : (x 2).val < 512 := (x 2).isLt
  pointwise
  refine congrArg (fun z : Fin 2048 => K (ix4 0 0 z (x 3))) (Fin.ext ?_)
  show o + (x 2).val = (512 * (o / 512) + (x 2).val) % 2048
  omega

/-- A load of 512 columns of values is a block. -/
theorem ld_v {e : EltTy} (V : Vec F S1x1x136x4096 e) (o : ℕ) (inb) (h : o % 512 = 0) :
    View.ld V (Rect.unit (s := S1x1x136x4096) ![0, 0, 0, o] ![1, 1, 136, 512] inb) = vBlk V (o / 512) := by
  have hb : o + 512 ≤ 4096 := inb 3
  funext x
  have hx : (x 3).val < 512 := (x 3).isLt
  pointwise
  refine congrArg (fun z : Fin 4096 => V (ix4 0 0 (x 2) z)) (Fin.ext ?_)
  show o + (x 3).val = (512 * (o / 512) + (x 3).val) % 4096
  omega

/-- The stored scores of block `n`: those of block 0 come from before. -/
def scores (s : Vec F S512x1024 .f32) (K : Vec F S1x1x4096x128 .bf16) (q : Vec F S1x1x512x128 .f32) : ℕ → Vec F S512x1024 .f32
  | 0 => s
  | n + 1 => sto (kBlk K (n + 1)) q

/-- The stored column maxima of block `n`. -/
def maxes (c : Vec F S1x1024 .f32) (K : Vec F S1x1x4096x128 .bf16) (q : Vec F S1x1x512x128 .f32) : ℕ → Vec F S1x1024 .f32
  | 0 => c
  | n + 1 => cmx (kBlk K (n + 1)) q

/-- The running maximum after `n` blocks. -/
def mAt (c : ℕ → Vec F S1x1024 .f32) : ℕ → Vec F S1x1024 .f32
  | 0 => max0
  | n + 1 => maxU (mAt c n) (c n)

/-- The accumulator after `n` blocks. -/
def aAt (s : ℕ → Vec F S512x1024 .f32) (c : ℕ → Vec F S1x1024 .f32) (V : Vec F S1x1x136x4096 .bf16) : ℕ → Vec F S136x1024 .f32
  | 0 => acc0
  | n + 1 => accU (mAt c n) (c n) (s n) (aAt s c V n) (vBlk V n)

/-- What one query block writes: blocks 0 to `i - 1` of the keys, then block `i` with the mask. -/
def outB (l : Vec F S4x64 .f32) (w : Vec F S128x1 .f32) (V : Vec F S1x1x136x4096 .bf16)
    (s : ℕ → Vec F S512x1024 .f32) (c : ℕ → Vec F S1x1024 .f32) (i : ℕ) : Vec F S1x1x512x128 .bf16 :=
  normV (diffV l (accM (mAt c i) (s i) (aAt s c V i) (vBlk V i))) w

end Cert.Model
-- ==== Proof.Out.lean ====
module

public import proofs.«01_k».proof.Proof.Gen.KernelIdeal.Frame
public import proofs.«01_k».proof.Proof.Model
public import Idealize.ShloMosaic.Lib.Pipeline.ReadBack

/-! # What a grid point leaves, in the model's steps -/

@[expose] public section
set_option maxRecDepth 16384
set_option maxHeartbeats 2000000

noncomputable section

namespace Cert.Out

open Idealize.ShloMosaic Idealize.SL.Sem Cert Cert.KernelIdeal Cert.KernelIdeal.Gen Cert.Model

variable {F : FTy → Type} [FloatOps F] [Named F]

variable (m : (ℓ : Loc nD τ sig) → Buf (Elt F) ℓ)

/-- The four blocks of a point's output, last first. -/
def pieces (o : ℕ → Vec F S1x1x512x128 .bf16) : List (View.Piece (Elt F) S1x1x2048x128 .bf16) :=
  [⟨Rect.unit ![0, 0, 1536, 0] ![1, 1, 512, 128] inb_S1x1x2048x128_S1x1x512x128_0_0_1536_0, o 3⟩,
   ⟨Rect.unit ![0, 0, 1024, 0] ![1, 1, 512, 128] inb_S1x1x2048x128_S1x1x512x128_0_0_1024_0, o 2⟩,
   ⟨Rect.unit ![0, 0, 512, 0] ![1, 1, 512, 128] inb_S1x1x2048x128_S1x1x512x128_0_0_512_0, o 1⟩,
   ⟨Rect.unit ![0, 0, 0, 0] ![1, 1, 512, 128] inb_S1x1x2048x128_S1x1x512x128_0_0_0_0, o 0⟩]

/-- The scores of block 0 for query block `g` of a point: those of the first query block come from the point before. -/
def first {α : Type} (s : α) (f : ℕ → α) : ℕ → α
  | 0 => s
  | g + 1 => f (g + 1)

/-- What query block `g` writes, the first of its point being block `i` of the row. -/
def outG (x0 : Vec F S4x64 .f32) (x1 : Vec F S1x1x2048x128 .f32) (x3 : Vec F S1x1x4096x128 .bf16) (x5 : Vec F S1x1x136x4096 .bf16)
    (x6 : Vec F S128x1 .f32) (s : Vec F S512x1024 .f32) (c : Vec F S1x1024 .f32) (i g : ℕ) : Vec F S1x1x512x128 .bf16 :=
  outB x0 x6 x5 (scores (first s (fun g => sto (kBlk x3 0) (qBlk x1 g)) g) x3 (qBlk x1 g))
    (maxes (first c (fun g => cmx (kBlk x3 0) (qBlk x1 g)) g) x3 (qBlk x1 g)) (i + g)

/-- The pieces, one by one. -/
theorem pieces_eq (o : ℕ → Vec F S1x1x512x128 .bf16) {a b c d : Vec F S1x1x512x128 .bf16} (ha : a = o 0) (hb : b = o 1) (hc : c = o 2) (hd : d = o 3) :
    View.canon (Val := Elt F)
      [⟨Rect.unit ![0, 0, 1536, 0] ![1, 1, 512, 128] inb_S1x1x2048x128_S1x1x512x128_0_0_1536_0, d⟩,
       ⟨Rect.unit ![0, 0, 1024, 0] ![1, 1, 512, 128] inb_S1x1x2048x128_S1x1x512x128_0_0_1024_0, c⟩,
       ⟨Rect.unit ![0, 0, 512, 0] ![1, 1, 512, 128] inb_S1x1x2048x128_S1x1x512x128_0_0_512_0, b⟩,
       ⟨Rect.unit ![0, 0, 0, 0] ![1, 1, 512, 128] inb_S1x1x2048x128_S1x1x512x128_0_0_0_0, a⟩] = View.canon (pieces o) := by
  subst ha hb hc hd; rfl

/-- The first point, which computes the scores of block 0 itself. -/
theorem outs_A (c : Dev nD) (t : Fin cfg0.N) (h0 : t.val % 128 = 0) (h1 : ¬t.val % 2 = 1) :
    outsAt0 m c t.val t.isLt =
      (View.canon (pieces (outG (iblk m c 0 t) (iblk m c 1 t) (iblk m c 3 t) (iblk m c 5 t) (iblk m c 6 t) (sto (kBlk (iblk m c 3 t) 0) (qBlk (iblk m c 1 t) 0)) (cmx (kBlk (iblk m c 3 t) 0) (qBlk (iblk m c 1 t) 0)) 0)),
        sto (iblk m c 4 t) (iblk m c 2 t), cmx (iblk m c 4 t) (iblk m c 2 t)) := by
  rw [outsAt0_A m c t h0 h1]
  refine Prod.ext ?_ (Prod.ext ?_ ?_)
  · frame_open
    simp (disch := decide) only [↓ View.readCov_skip, ↓ View.readCov_cons_toLoadRect, ↓ View.readCov_fill]
    frame_out
    simp (disch := decide) only [read_unread_whole, ld_k, ld_v, ld_q, Nat.reduceDiv]
    simp only [pieces]
    rfl
  · frame_open
    simp (disch := decide) only [↓ View.readCov_skip, ↓ View.readCov_cons_toLoadRect, ↓ View.readCov_fill]
    frame_out
    rfl
  · frame_open
    simp (disch := decide) only [↓ View.readCov_skip, ↓ View.readCov_cons_toLoadRect, ↓ View.readCov_fill]
    frame_out
    rfl

/-- An odd point. -/
theorem outs_B (c : Dev nD) (t : Fin cfg0.N) (h0 : ¬t.val % 128 = 0) (h1 : t.val % 2 = 1) :
    outsAt0 m c t.val t.isLt =
      (View.canon (pieces (outG (iblk m c 0 t) (iblk m c 1 t) (iblk m c 3 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 4)),
        sto (iblk m c 4 t) (iblk m c 2 t), cmx (iblk m c 4 t) (iblk m c 2 t)) := by
  rw [outsAt0_B m c t h0 h1]
  refine Prod.ext ?_ (Prod.ext ?_ ?_)
  · frame_open
    simp (disch := decide) only [↓ View.readCov_skip, ↓ View.readCov_cons_toLoadRect, ↓ View.readCov_fill]
    frame_out
    simp (disch := decide) only [read_unread_whole, ld_k, ld_v, ld_q, Nat.reduceDiv]
    rw [(hs0_1 t).read_unread (iblk m c 1 t), ld_q (iblk m c 1 t) 512 _ rfl]
    refine pieces_eq _ ?_ ?_ ?_ ?_ <;> rfl
  · frame_open
    simp (disch := decide) only [↓ View.readCov_skip, ↓ View.readCov_cons_toLoadRect, ↓ View.readCov_fill]
    frame_out
    rfl
  · frame_open
    simp (disch := decide) only [↓ View.readCov_skip, ↓ View.readCov_cons_toLoadRect, ↓ View.readCov_fill]
    frame_out
    rfl

/-- An even point after the first. -/
theorem outs_C (c : Dev nD) (t : Fin cfg0.N) (h0 : ¬t.val % 128 = 0) (h1 : ¬t.val % 2 = 1) :
    outsAt0 m c t.val t.isLt =
      (View.canon (pieces (outG (iblk m c 0 t) (iblk m c 1 t) (iblk m c 3 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 0)),
        sto (iblk m c 4 t) (iblk m c 2 t), cmx (iblk m c 4 t) (iblk m c 2 t)) := by
  rw [outsAt0_C m c t h0 h1]
  refine Prod.ext ?_ (Prod.ext ?_ ?_)
  · frame_open
    simp (disch := decide) only [↓ View.readCov_skip, ↓ View.readCov_cons_toLoadRect, ↓ View.readCov_fill]
    frame_out
    simp (disch := decide) only [read_unread_whole, ld_k, ld_v, ld_q, Nat.reduceDiv]
    simp only [pieces]
    rfl
  · frame_open
    simp (disch := decide) only [↓ View.readCov_skip, ↓ View.readCov_cons_toLoadRect, ↓ View.readCov_fill]
    frame_out
    rfl
  · frame_open
    simp (disch := decide) only [↓ View.readCov_skip, ↓ View.readCov_cons_toLoadRect, ↓ View.readCov_fill]
    frame_out
    rfl

end Cert.Out
-- ==== Proof.Win.lean ====
module

public import proofs.«01_k».proof.Proof.Out

/-! # Where the windows' blocks lie, and what every grid point leaves

Point `t` is batch row `t / 16`, head `t / 2 % 8` and half `t % 2` of the queries. -/

@[expose] public section
set_option maxRecDepth 16384
set_option maxHeartbeats 2000000

noncomputable section

namespace Cert.Win

open Idealize.ShloMosaic Idealize.SL.Sem Cert Cert.KernelIdeal Cert.KernelIdeal.Gen Cert.Model Cert.Out

variable {F : FTy → Type} [FloatOps F] [Named F]

variable (m : (ℓ : Loc nD τ sig) → Buf (Elt F) ℓ)

/-- The index maps of the windows whose block depends on the point alone. -/
theorem idx : ∀ t : Fin grid0.N,
    win0_1.index t = ![t.val / 16, t.val / 2 % 8, t.val % 2, 0] ∧ win0_3.index t = ![t.val / 16, t.val / 2 % 8, 0, 0]
    ∧ win0_5.index t = ![t.val / 16, t.val / 2 % 8, 0, 0] ∧ win0_7.index t = ![t.val / 16, t.val / 2 % 8, t.val % 2, 0]
    ∧ win0_0.index t = ![0, 0] ∧ win0_6.index t = ![0, 0] := by
  decide +kernel

/-- The index maps of the windows that look at the next point. -/
theorem idx_next : ∀ t : Fin grid0.N, t.val + 1 < 128 →
    win0_2.index t = ![(t.val + 1) / 16, (t.val + 1) / 2 % 8, 4 * ((t.val + 1) % 2), 0]
    ∧ win0_4.index t = ![(t.val + 1) / 16, (t.val + 1) / 2 % 8, 0, 0] := by
  decide +kernel

theorem N_eq : cfg0.N = 128 := N_0

/-- An index of the heads-first arrays from a point. -/
def at4 (t r : ℕ) (e : Fin 128) : S8x8x4096x128.Idx :=
  ix4 (Fin.ofNat 8 (t / 16)) (Fin.ofNat 8 (t / 2)) (Fin.ofNat 4096 r) e

/-- A query block read from the queries. -/
theorem q_blk (c : Dev nD) (t : Fin cfg0.N) (g : ℕ) (hg : g < 4) (x : S1x1x512x128.Idx) :
    qBlk (iblk m c 1 t) g x = V m c main_v1 (at4 t.val (2048 * (t.val % 2) + 512 * g + (x 2).val) (x 3)) := by
  have ht : t.val < 128 := N_eq ▸ t.isLt
  have hx : (x 2).val < 512 := (x 2).isLt
  unfold qBlk at4
  blk_ext [iblk, (idx t).1] <;> simp only [Fin.val_ofNat] <;> omega

/-- A key block read from the keys. -/
theorem k_blk (c : Dev nD) (t : Fin cfg0.N) (n : ℕ) (hn : n < 8) (x : S1x1x512x128.Idx) :
    kBlk (iblk m c 3 t) n x = V m c main_v4 (at4 t.val (512 * n + (x 2).val) (x 3)) := by
  have ht : t.val < 128 := N_eq ▸ t.isLt
  have hx : (x 2).val < 512 := (x 2).isLt
  unfold kBlk at4
  blk_ext [iblk, (idx t).2.1] <;> simp only [Fin.val_ofNat] <;> omega

/-- A value block read from the transposed values. -/
theorem v_blk (c : Dev nD) (t : Fin cfg0.N) (n : ℕ) (hn : n < 8) (x : S1x1x136x512.Idx) :
    vBlk (iblk m c 5 t) n x
      = V m c main_v8 (ix4 (Fin.ofNat 8 (t.val / 16)) (Fin.ofNat 8 (t.val / 2)) (x 2) (Fin.ofNat 4096 (512 * n + (x 3).val))) := by
  have ht : t.val < 128 := N_eq ▸ t.isLt
  have hx : (x 3).val < 512 := (x 3).isLt
  unfold vBlk
  blk_ext [iblk, (idx t).2.2.1] <;> simp only [Fin.val_ofNat] <;> omega

/-- The parameters of the weight are read whole. -/
theorem l_blk (c : Dev nD) (t : Fin cfg0.N) (x : S4x64.Idx) : iblk m c 0 t x = V m c main_arg3 x := by
  have h := (idx t).2.2.2.2.1
  blk_ext [iblk, h]

/-- The norm's weights are read whole. -/
theorem w_blk (c : Dev nD) (t : Fin cfg0.N) (x : S128x1.Idx) : iblk m c 6 t x = V m c main_v9 x := by
  have h := (idx t).2.2.2.2.2
  blk_ext [iblk, h]

/-- The queries the next point starts with. -/
theorem q_next (c : Dev nD) (t u : Fin cfg0.N) (h : u.val = t.val + 1) : iblk m c 2 t = qBlk (iblk m c 1 u) 0 := by
  funext x
  have hu : u.val < 128 := N_eq ▸ u.isLt
  have hx : ((x : S1x1x512x128.Idx) 2).val < 512 := ((x : S1x1x512x128.Idx) 2).isLt
  refine Eq.trans ?_ (q_blk m c u 0 (by decide) x).symm
  unfold at4
  blk_ext [iblk, (idx_next t (h ▸ hu)).1] <;> simp only [Fin.val_ofNat] <;> omega

/-- The keys the next point starts with. -/
theorem k_next (c : Dev nD) (t u : Fin cfg0.N) (h : u.val = t.val + 1) : iblk m c 4 t = kBlk (iblk m c 3 u) 0 := by
  funext x
  have hu : u.val < 128 := N_eq ▸ u.isLt
  have hx : ((x : S1x1x512x128.Idx) 2).val < 512 := ((x : S1x1x512x128.Idx) 2).isLt
  refine Eq.trans ?_ (k_blk m c u 0 (by decide) x).symm
  unfold at4
  blk_ext [iblk, (idx_next t (h ▸ hu)).2] <;> simp only [Fin.val_ofNat] <;> omega

/-- Every point leaves the next point's first scores behind. -/
theorem carried (c : Dev nD) (t : Fin cfg0.N) :
    (outsAt0 m c t.val t.isLt).2 = (sto (iblk m c 4 t) (iblk m c 2 t), cmx (iblk m c 4 t) (iblk m c 2 t)) := by
  by_cases h1 : t.val % 2 = 1
  · rw [outs_B m c t (by omega) h1]
  · by_cases h0 : t.val % 128 = 0
    · rw [outs_A m c t h0 h1]
    · rw [outs_C m c t h0 h1]

/-- What query block `g` of a point writes. -/
def outT (x0 : Vec F S4x64 .f32) (x1 : Vec F S1x1x2048x128 .f32) (x3 : Vec F S1x1x4096x128 .bf16) (x5 : Vec F S1x1x136x4096 .bf16)
    (x6 : Vec F S128x1 .f32) (i g : ℕ) : Vec F S1x1x512x128 .bf16 :=
  outB x0 x6 x5 (fun n => sto (kBlk x3 n) (qBlk x1 g)) (fun n => cmx (kBlk x3 n) (qBlk x1 g)) (i + g)

/-- With the right scores carried in, every query block is `outT`. -/
theorem outG_eq (x0 : Vec F S4x64 .f32) (x1 : Vec F S1x1x2048x128 .f32) (x3 : Vec F S1x1x4096x128 .bf16) (x5 : Vec F S1x1x136x4096 .bf16)
    (x6 : Vec F S128x1 .f32) (i : ℕ) :
    outG x0 x1 x3 x5 x6 (sto (kBlk x3 0) (qBlk x1 0)) (cmx (kBlk x3 0) (qBlk x1 0)) i = outT x0 x1 x3 x5 x6 i := by
  funext g
  have e₁ : scores (first (sto (kBlk x3 0) (qBlk x1 0)) (fun g => sto (kBlk x3 0) (qBlk x1 g)) g) x3 (qBlk x1 g)
      = fun n => sto (kBlk x3 n) (qBlk x1 g) := by
    funext n
    cases n <;> cases g <;> rfl
  have e₂ : maxes (first (cmx (kBlk x3 0) (qBlk x1 0)) (fun g => cmx (kBlk x3 0) (qBlk x1 g)) g) x3 (qBlk x1 g)
      = fun n => cmx (kBlk x3 n) (qBlk x1 g) := by
    funext n
    cases n <;> cases g <;> rfl
  unfold outG outT
  rw [e₁, e₂]

/-- What every point writes. -/
theorem outs (c : Dev nD) (t : Fin cfg0.N) :
    (outsAt0 m c t.val t.isLt).1 =
      View.canon (pieces (outT (iblk m c 0 t) (iblk m c 1 t) (iblk m c 3 t) (iblk m c 5 t) (iblk m c 6 t) (4 * (t.val % 2)))) := by
  rw [← outG_eq]
  by_cases h0 : t.val % 128 = 0
  · rw [outs_A m c t h0 (by omega), show 4 * (t.val % 2) = 0 by omega]
  · have hc := carried m c ⟨t.val - 1, Nat.lt_of_le_of_lt (Nat.sub_le _ _) t.isLt⟩
    have e : t.val = (⟨t.val - 1, Nat.lt_of_le_of_lt (Nat.sub_le _ _) t.isLt⟩ : Fin cfg0.N).val + 1 := by
      show t.val = t.val - 1 + 1
      omega
    rw [q_next m c _ t e, k_next m c _ t e] at hc
    by_cases h1 : t.val % 2 = 1
    · rw [outs_B m c t h0 h1, hc, h1]
    · rw [outs_C m c t h0 h1, hc, show 4 * (t.val % 2) = 0 by omega]

end Cert.Win
-- ==== Proof.Read.lean ====
module

public import proofs.«01_k».proof.Proof.Model
public import proofs.«01_k».proof.Proof.Spec

/-! # The kernel's steps at an index, over extended reals -/

@[expose] public section

set_option maxRecDepth 16384

noncomputable section

namespace Cert.Read

open Idealize.ShloMosaic Cert.KernelIdeal Cert.KernelIdeal.Gen Cert.Model

/-- Column `r` of the scores' component `c`. -/
def col (c : Fin 2) (r : Fin 512) : Fin 1024 := ⟨512 * c.val + r.val, by omega⟩

/-- Lane `d` of component `c`. -/
def lane (c : Fin 2) (d : Fin 64) : Fin 128 := ⟨64 * c.val + d.val, by omega⟩

/-- The scale of the queries. -/
theorem scale_eq : (Named.named κ "q_scale" 0x3E38AA3B#32 : Ideal .f32) = (((8 * Real.log 2)⁻¹ : ℝ) : EReal) :=
  IdealRules.named_const.ideal_named_scalar _ _ _ _ rfl

theorem scale_pos : 0 < (8 * Real.log 2)⁻¹ := inv_pos.2 (mul_pos (by norm_num) (Real.log_pos (by norm_num)))

/-- A query against a key over the lanes of one component. -/
def dotc (k q : Fin 128 → EReal) (c : Fin 2) : EReal := ∑ d : Fin 64, q (lane c d) * k (lane c d)

/-- Comparing a lane with 64, below. -/
theorem lane_lt {α : Type} (x : Fin 128) (a b : α) :
    Scalar.select (IntOp.cmpi .slt (BitVec.ofNat 32 x.val) 64#32) a b = if x.val < 64 then a else b := by
  have h : IntOp.cmpi .slt (BitVec.ofNat 32 x.val) (BitVec.ofNat 32 64) = 1 ↔ x.val < 64 := by
    exact WordCmp.cmpi_slt_ofNat_eq_one_iff (w := 32) (by omega) (by decide)
  unfold Scalar.select
  simp only [h]

/-- Comparing a lane with 64, above. -/
theorem lane_ge {α : Type} (x : Fin 128) (a b : α) :
    Scalar.select (IntOp.cmpi .sge (BitVec.ofNat 32 x.val) 64#32) a b = if 64 ≤ x.val then a else b := by
  have h : IntOp.cmpi .sge (BitVec.ofNat 32 x.val) (BitVec.ofNat 32 64) = 1 ↔ 64 ≤ x.val := by
    exact WordCmp.cmpi_sge_ofNat_eq_one_iff (w := 32) (by omega) (by decide)
  unfold Scalar.select
  simp only [h]

/-- A sum over the lanes of which only one component's are kept. -/
theorem sum_lanes (f : Fin 128 → EReal) (c : Fin 2) (p : Fin 128 → Prop) [DecidablePred p]
    (hp : ∀ x, p x ↔ x.val / 64 = c.val) : (∑ x, if p x then f x else 0) = ∑ d : Fin 64, f (lane c d) := by
  rw [← Finset.sum_filter]
  refine (Finset.sum_bij (fun d _ => lane c d) (fun d _ => ?_) (fun a _ b _ h => ?_) (fun x hx => ?_) (fun _ _ => rfl)).symm
  · rw [Finset.mem_filter, hp]
    exact ⟨Finset.mem_univ _, by show (64 * c.val + d.val) / 64 = c.val; omega⟩
  · have := congrArg Fin.val h
    simp only [lane] at this
    exact Fin.ext (by omega)
  · rw [Finset.mem_filter, hp] at hx
    refine ⟨⟨x.val % 64, by omega⟩, Finset.mem_univ _, Fin.ext ?_⟩
    show 64 * c.val + x.val % 64 = x.val
    omega

/-- One score: the scaled product of a query and a key over one component's lanes. -/
theorem score_at (k : Vec Ideal S1x1x512x128 .bf16) (q : Vec Ideal S1x1x512x128 .f32) (kr qr : Fin 512 → Fin 128 → EReal)
    (hk : ∀ x d, k (ix4 0 0 x d) = kr x d) (hq : ∀ x d, q (ix4 0 0 x d) = qr x d)
    (x : Fin 512) (c : Fin 2) (r : Fin 512) :
    score k q (ix2 x (col c r)) = dotc (kr x) (qr r) c * (((8 * Real.log 2)⁻¹ : ℝ) : EReal) := by
  have e : ∀ p : Fin 128 → Prop, [DecidablePred p] → (∀ x, p x ↔ x.val / 64 = c.val) →
      (∑ d, kr x d * (if p d then qr r d * (((8 * Real.log 2)⁻¹ : ℝ) : EReal) else 0))
        = dotc (kr x) (qr r) c * (((8 * Real.log 2)⁻¹ : ℝ) : EReal) := fun p _ hp => by
    have : ∀ d, kr x d * (if p d then qr r d * (((8 * Real.log 2)⁻¹ : ℝ) : EReal) else 0)
        = if p d then qr r d * kr x d * (((8 * Real.log 2)⁻¹ : ℝ) : EReal) else 0 := fun d => by
      split
      · rw [mul_left_comm, mul_assoc]
      · rw [mul_zero]
    rw [Finset.sum_congr rfl fun d _ => this d, sum_lanes _ c p hp, dotc, Spec.sum_mul_pos _ _ scale_pos]
  unfold score stacked scaled
  pointwise
  simp only [hk, scale_eq, lane_lt, lane_ge]
  by_cases hc : c = 0
  · subst hc
    rw [← e (fun d => d.val < 64) (fun d => by show d.val < 64 ↔ d.val / 64 = 0; omega)]
    refine Finset.sum_congr rfl fun d _ => ?_
    rw [dif_pos (show (col 0 r).val < 512 by show 512 * 0 + r.val < 512; omega)]
    rw [show (⟨(col 0 r).val, by show 512 * 0 + r.val < 512; omega⟩ : Fin 512) = r from Fin.ext (by show 512 * 0 + r.val = r.val; omega), hq]
  · obtain rfl : c = 1 := by omega
    rw [← e (fun d => 64 ≤ d.val) (fun d => by show 64 ≤ d.val ↔ d.val / 64 = 1; omega)]
    refine Finset.sum_congr rfl fun d _ => ?_
    rw [dif_neg (show ¬(col 1 r).val < 512 by show ¬(512 * 1 + r.val < 512); omega)]
    rw [show (⟨(col 1 r).val - 512, by show 512 * 1 + r.val - 512 < 512; omega⟩ : Fin 512) = r from Fin.ext (by show 512 * 1 + r.val - 512 = r.val; omega), hq]

/-- A stored score. -/
theorem sto_at (k : Vec Ideal S1x1x512x128 .bf16) (q : Vec Ideal S1x1x512x128 .f32) (x : Fin 512) (y : Fin 1024) :
    sto k q (ix2 x y) = score k q (ix2 x y) := by
  unfold sto
  pointwise

/-- The largest entry of a column. -/
theorem colMax_at (s : FVec Ideal S512x1024 .f32) (y : Fin 1024) :
    colMax s (ix2 0 y) = Finset.univ.fold max ⊥ fun x => s (ix2 x y) := by
  rw [← Spec.ofBits_ninf]
  unfold colMax
  pointwise

/-- A stored column maximum. -/
theorem cmx_at (k : Vec Ideal S1x1x512x128 .bf16) (q : Vec Ideal S1x1x512x128 .f32) (y : Fin 1024) :
    cmx k q (ix2 0 y) = Finset.univ.fold max ⊥ fun x => score k q (ix2 x y) := by
  rw [← colMax_at]
  unfold cmx
  pointwise

/-- A masked score of the diagonal block: kept when the key isn't after the query. -/
theorem masked_at (s : FVec Ideal S512x1024 .f32) (x : Fin 512) (c : Fin 2) (r : Fin 512) :
    (masked (F := Ideal) s : FVec Ideal S512x1024 .f32) (ix2 x (col c r)) = if x.val ≤ r.val then s (ix2 x (col c r)) else ⊥ := by
  rw [← Spec.ofBits_ninf, ← Spec.select_sle (show x.val < 2 ^ 31 by omega) (show r.val < 2 ^ 31 by omega)]
  unfold masked
  pointwise
  by_cases hc : c = 0
  · subst hc
    rw [dif_pos (show (col 0 r).val < 512 by show 512 * 0 + r.val < 512; omega), show (col 0 r).val = r.val by show 512 * 0 + r.val = r.val; omega]
  · obtain rfl : c = 1 := by omega
    rw [dif_neg (show ¬(col 1 r).val < 512 by show ¬(512 * 1 + r.val < 512); omega), show (col 1 r).val - 512 = r.val by show 512 * 1 + r.val - 512 = r.val; omega]

/-- One entry of the accumulator after a block. -/
theorem addBlock_at (m n : FVec Ideal S1x1024 .f32) (s : FVec Ideal S512x1024 .f32) (a : FVec Ideal S136x1024 .f32)
    (v : Vec Ideal S1x1x136x512 .bf16) (x : Fin 136) (y : Fin 1024) :
    addBlock m n s a v (ix2 x y) = Ideal.exp2 (m (ix2 0 y) - n (ix2 0 y)) * a (ix2 x y)
      + ∑ z : Fin 512, v (ix4 0 0 x z) * Ideal.exp2 (s (ix2 z y) - n (ix2 0 y)) := by
  unfold addBlock
  pointwise
  rfl

/-- The maximum before the first block. -/
theorem max0_at (y : Fin 1024) : (max0 : FVec Ideal S1x1024 .f32) (ix2 0 y) = ⊥ := by
  rw [← Spec.ofBits_ninf]
  unfold max0
  pointwise

/-- The accumulator before the first block. -/
theorem acc0_at (x : Fin 136) (y : Fin 1024) : (acc0 : FVec Ideal S136x1024 .f32) (ix2 x y) = 0 := by
  unfold acc0
  pointwise

/-- The maximum after a block. -/
theorem maxU_at (m c : FVec Ideal S1x1024 .f32) (y : Fin 1024) : maxU m c (ix2 0 y) = max (m (ix2 0 y)) (c (ix2 0 y)) := by
  unfold maxU
  pointwise

/-- The difference of the two components at one value lane and query. -/
theorem diffV_at (l : Vec Ideal S4x64 .f32) (a : FVec Ideal S136x1024 .f32) (x : Fin 128) (r : Fin 512) :
    diffV l a (ix2 x r) = Ideal.div (a (ix2 (x.castLE (by decide)) (col 0 r))) (a (ix2 128 (col 0 r)))
      - Spec.lam l * Ideal.div (a (ix2 (x.castLE (by decide)) (col 1 r))) (a (ix2 128 (col 1 r))) := by
  have h0 : (⟨r.val, by omega⟩ : Fin 1024) = col 0 r := Fin.ext (by show r.val = 512 * 0 + r.val; omega)
  have h1 : (⟨512 + r.val, by omega⟩ : Fin 1024) = col 1 r := Fin.ext (by show 512 + r.val = 512 * 1 + r.val; omega)
  unfold diffV ratio lamV
  pointwise
  rw [h0, h1]
  rfl

/-- The norm at one query and value lane. -/
theorem normV_at (o : FVec Ideal S128x512 .f32) (w : Vec Ideal S128x1 .f32) (x : Fin 512) (y : Fin 128) :
    normV o w (ix4 0 0 x y) = Spec.norm (fun e => o (ix2 e x)) (w (ix2 y 0)) y := by
  unfold normV
  pointwise
  rfl

end Cert.Read
-- ==== Proof.Attn.lean ====
module

public import proofs.«01_k».proof.Proof.Read

/-! # One query block

The running softmax of one query block, from values that are real, is the quotient of two sums over all keys. -/

@[expose] public section

set_option maxRecDepth 16384

noncomputable section

namespace Cert.Attn

open Idealize.ShloMosaic Cert.KernelIdeal Cert.KernelIdeal.Gen Cert.Model Cert.Read

/-- Key `x` of block `n`. -/
def key (n : ℕ) (x : Fin 512) : Fin 4096 := Fin.ofNat 4096 (512 * n + x.val)

/-- The unnormalised weight of key `j` for a query. -/
def expw (kr : Fin 4096 → Fin 128 → EReal) (qr : Fin 128 → EReal) (c : Fin 2) (j : Fin 4096) : ℝ := Spec.expw (dotc (kr j) qr c)

/-- Two to a scaled score is the exponential of an eighth of the product. -/
theorem wt_scale (z : EReal) : Softmax.wt (z * (((8 * Real.log 2)⁻¹ : ℝ) : EReal)) = Spec.expw z := by
  have h : Real.log 2 ≠ 0 := (Real.log_pos (by norm_num)).ne'
  unfold Spec.expw
  induction z with
  | bot => rw [EReal.bot_mul_coe_of_pos scale_pos, EReal.bot_mul_coe_of_pos (by norm_num)]; simp [Softmax.wt]
  | top => rw [EReal.top_mul_coe_of_pos scale_pos, EReal.top_mul_coe_of_pos (by norm_num)]; simp [Softmax.wt]
  | coe r =>
    rw [← EReal.coe_mul, ← EReal.coe_mul, Softmax.wt_coe, Ideal.exp_coe, EReal.toReal_coe, Real.rpow_def_of_pos (by norm_num)]
    congr 1
    field_simp

/-- The keys and queries by name, and the values, which are real numbers. -/
structure Real4 (K : Vec Ideal S1x1x4096x128 .bf16) (V : Vec Ideal S1x1x136x4096 .bf16) (q : Vec Ideal S1x1x512x128 .f32)
    (kr : Fin 4096 → Fin 128 → EReal) (vr : Fin 136 → Fin 4096 → ℝ) (qr : Fin 512 → Fin 128 → EReal) : Prop where
  k : ∀ j d, K (ix4 0 0 j d) = kr j d
  v : ∀ e j, V (ix4 0 0 e j) = (vr e j : EReal)
  q : ∀ r d, q (ix4 0 0 r d) = qr r d

variable {K : Vec Ideal S1x1x4096x128 .bf16} {V : Vec Ideal S1x1x136x4096 .bf16} {q : Vec Ideal S1x1x512x128 .f32}
  {kr : Fin 4096 → Fin 128 → EReal} {vr : Fin 136 → Fin 4096 → ℝ} {qr : Fin 512 → Fin 128 → EReal}

/-- One stored score. -/
theorem sto_real (R : Real4 K V q kr vr qr) (n : ℕ) (x : Fin 512) (c : Fin 2) (r : Fin 512) :
    sto (kBlk K n) q (ix2 x (col c r)) = dotc (kr (key n x)) (qr r) c * (((8 * Real.log 2)⁻¹ : ℝ) : EReal) := by
  rw [sto_at]
  exact score_at (kBlk K n) q (fun x => kr (key n x)) qr (fun x d => R.k _ _) R.q x c r

/-- The stored column maximum is that of the stored scores. -/
theorem cmx_sto (n : ℕ) (y : Fin 1024) :
    cmx (kBlk K n) q (ix2 0 y) = Finset.univ.fold max ⊥ fun x => sto (kBlk K n) q (ix2 x y) := by
  rw [cmx_at]
  simp only [sto_at]

/-- The sum over the first `n` blocks of keys. -/
def part (kr : Fin 4096 → Fin 128 → EReal) (vr : Fin 136 → Fin 4096 → ℝ) (qr : Fin 128 → EReal) (c : Fin 2) (e : Fin 136) (n : ℕ) : ℝ :=
  ∑ j ∈ Finset.range (512 * n), vr e (Fin.ofNat 4096 j) * expw kr qr c (Fin.ofNat 4096 j)

/-- One more block. -/
theorem part_succ (kr : Fin 4096 → Fin 128 → EReal) (vr : Fin 136 → Fin 4096 → ℝ) (qr : Fin 128 → EReal) (c : Fin 2) (e : Fin 136) (n : ℕ) :
    part kr vr qr c e (n + 1) = part kr vr qr c e n + ∑ x : Fin 512, vr e (key n x) * expw kr qr c (key n x) := by
  unfold part key
  rw [show 512 * (n + 1) = 512 * n + 512 by ring, Finset.sum_range_add]
  exact congrArg _ (Fin.sum_univ_eq_sum_range (fun x => vr e (Fin.ofNat 4096 (512 * n + x)) * expw kr qr c (Fin.ofNat 4096 (512 * n + x))) 512).symm

/-- Some key before position `n` has a product with the query that satisfies `p`. -/
def Seen (p : EReal → Prop) (kr : Fin 4096 → Fin 128 → EReal) (qr : Fin 128 → EReal) (c : Fin 2) (n : ℕ) : Prop :=
  ∃ j : ℕ, j < n ∧ p (dotc (kr (Fin.ofNat 4096 j)) qr c)

/-- One more block, of which the keys up to `a` count. -/
theorem seen_succ (p : EReal → Prop) (kr : Fin 4096 → Fin 128 → EReal) (qr : Fin 128 → EReal) (c : Fin 2) (n a : ℕ) (ha : a ≤ 512) :
    (Seen p kr qr c (512 * n) ∨ ∃ x : Fin 512, x.val < a ∧ p (dotc (kr (key n x)) qr c)) ↔ Seen p kr qr c (512 * n + a) := by
  constructor
  · rintro (⟨j, hj, h⟩ | ⟨x, hx, h⟩)
    · exact ⟨j, by omega, h⟩
    · exact ⟨512 * n + x.val, by omega, h⟩
  · rintro ⟨j, hj, h⟩
    by_cases h' : j < 512 * n
    · exact Or.inl ⟨j, h', h⟩
    · refine Or.inr ⟨⟨j - 512 * n, by omega⟩, by show j - 512 * n < a; omega, ?_⟩
      have : key n ⟨j - 512 * n, by omega⟩ = Fin.ofNat 4096 j := by
        show Fin.ofNat 4096 (512 * n + (j - 512 * n)) = _
        rw [Nat.add_sub_cancel' (by omega)]
      rw [this]
      exact h

/-- After the first `n` blocks, unmasked, the running pair holds the sum over their keys. -/
theorem holds (R : Real4 K V q kr vr qr) (c : Fin 2) (r : Fin 512) (e : Fin 136) (n : ℕ) :
    Softmax.Holds (mAt (F := Ideal) (fun n => cmx (kBlk K n) q) n (ix2 0 (col c r)))
      (aAt (F := Ideal) (fun n => sto (kBlk K n) q) (fun n => cmx (kBlk K n) q) V n (ix2 e (col c r))) (part kr vr (qr r) c e n)
      (Seen (· = ⊤) kr (qr r) c (512 * n)) (Seen (· ≠ ⊥) kr (qr r) c (512 * n)) := by
  induction n with
  | zero =>
    have : part kr vr (qr r) c e 0 = 0 := by simp [part]
    have hS : ∀ p, Seen p kr (qr r) c (512 * 0) = False := fun p => by simp [Seen]
    rw [this, hS, hS]
    show Softmax.Holds ((max0 : FVec Ideal S1x1024 .f32) (ix2 0 (col c r))) ((acc0 : FVec Ideal S136x1024 .f32) (ix2 e (col c r))) 0 False False
    rw [max0_at, acc0_at]
    exact Softmax.holds_start
  | succ n ih =>
    have hm : maximumf (mAt (F := Ideal) (fun n => cmx (kBlk K n) q) n) (cmx (kBlk K n) q) (ix2 0 (col c r))
        = max (mAt (F := Ideal) (fun n => cmx (kBlk K n) q) n (ix2 0 (col c r)))
          (Finset.univ.fold max ⊥ fun x => sto (kBlk K n) q (ix2 x (col c r))) := by
      rw [← cmx_sto]
      rfl
    have := ih.step (fun x => sto (kBlk K n) q (ix2 x (col c r))) (fun x => vBlk V n (ix4 0 0 e x)) (fun x => vr e (key n x))
      (fun x => R.v _ _) hm
    rw [part_succ]
    have hw : ∀ x, Softmax.wt (sto (kBlk K n) q (ix2 x (col c r))) = expw kr (qr r) c (key n x) := fun x => by
      rw [sto_real R, wt_scale]
      rfl
    have hT : (Seen (· = ⊤) kr (qr r) c (512 * n) ∨ ∃ x, sto (kBlk K n) q (ix2 x (col c r)) = (⊤ : EReal))
        = Seen (· = ⊤) kr (qr r) c (512 * (n + 1)) := propext <| by
      rw [show 512 * (n + 1) = 512 * n + 512 by ring, ← seen_succ _ _ _ _ _ _ le_rfl]
      simp only [sto_real R, Spec.mul_pos_top _ scale_pos, Fin.is_lt, true_and]
    have hB : (Seen (· ≠ ⊥) kr (qr r) c (512 * n) ∨ ∃ x, sto (kBlk K n) q (ix2 x (col c r)) ≠ (⊥ : EReal))
        = Seen (· ≠ ⊥) kr (qr r) c (512 * (n + 1)) := propext <| by
      rw [show 512 * (n + 1) = 512 * n + 512 by ring, ← seen_succ _ _ _ _ _ _ le_rfl]
      simp only [sto_real R, ne_eq, Spec.mul_pos_bot _ scale_pos, Fin.is_lt, true_and]
    rw [hT, hB] at this
    simp only [hw] at this
    refine Eq.mp ?_ this
    show Softmax.Holds _ _ _ _ _ = Softmax.Holds (maxU (mAt (F := Ideal) (fun n => cmx (kBlk K n) q) n) (cmx (kBlk K n) q) (ix2 0 (col c r)))
      (accU (mAt (F := Ideal) (fun n => cmx (kBlk K n) q) n) (cmx (kBlk K n) q) (sto (kBlk K n) q)
        (aAt (F := Ideal) (fun n => sto (kBlk K n) q) (fun n => cmx (kBlk K n) q) V n) (vBlk V n) (ix2 e (col c r))) _ _ _
    unfold accU
    rw [addBlock_at, hm, maxU_at, cmx_sto]

/-- The sum over all keys that aren't after the query. -/
def total (kr : Fin 4096 → Fin 128 → EReal) (vr : Fin 136 → Fin 4096 → ℝ) (qr : Fin 128 → EReal) (c : Fin 2) (e : Fin 136) (p : ℕ) : ℝ :=
  ∑ j : Fin 4096, vr e j * if j.val ≤ p then expw kr qr c j else 0

/-- The blocks before the query's and the masked block of the query together are all keys. -/
theorem part_total (kr : Fin 4096 → Fin 128 → EReal) (vr : Fin 136 → Fin 4096 → ℝ) (qr : Fin 128 → EReal) (c : Fin 2) (e : Fin 136)
    (i : ℕ) (hi : i < 8) (r : Fin 512) :
    part kr vr qr c e i + ∑ x : Fin 512, vr e (key i x) * (if x.val ≤ r.val then expw kr qr c (key i x) else 0)
      = total kr vr qr c e (512 * i + r.val) := by
  let f : ℕ → ℝ := fun j => vr e (Fin.ofNat 4096 j) * if j ≤ 512 * i + r.val then expw kr qr c (Fin.ofNat 4096 j) else 0
  have h1 : part kr vr qr c e i = ∑ j ∈ Finset.range (512 * i), f j := by
    refine Finset.sum_congr rfl fun j hj => ?_
    have := Finset.mem_range.1 hj
    show _ = _ * ite _ _ _
    rw [if_pos (by omega)]
  have h2 : ∑ x : Fin 512, vr e (key i x) * (if x.val ≤ r.val then expw kr qr c (key i x) else 0)
      = ∑ x ∈ Finset.range 512, f (512 * i + x) := by
    rw [← Fin.sum_univ_eq_sum_range (fun x => f (512 * i + x))]
    refine Finset.sum_congr rfl fun x _ => ?_
    show _ = vr e (key i x) * (if 512 * i + x.val ≤ 512 * i + r.val then expw kr qr c (key i x) else 0)
    simp only [Nat.add_le_add_iff_left]
  have h3 : total kr vr qr c e (512 * i + r.val) = ∑ j ∈ Finset.range 4096, f j := by
    rw [← Fin.sum_univ_eq_sum_range f]
    refine Finset.sum_congr rfl fun j _ => ?_
    show _ = vr e (Fin.ofNat 4096 j.val) * (if j.val ≤ 512 * i + r.val then expw kr qr c (Fin.ofNat 4096 j.val) else 0)
    rw [show Fin.ofNat 4096 j.val = j from Fin.ext (Nat.mod_eq_of_lt j.isLt)]
  rw [h1, h2, h3, ← Finset.sum_range_add]
  refine Finset.sum_subset (fun j hj => Finset.mem_range.2 ?_) fun j _ hj => ?_
  · have := Finset.mem_range.1 hj
    omega
  · have : ¬j < 512 * i + 512 := fun h => hj (Finset.mem_range.2 h)
    show _ * ite _ _ _ = 0
    rw [if_neg (by omega), mul_zero]

/-- The scores of the masked block. -/
theorem masked_real (R : Real4 K V q kr vr qr) (n : ℕ) (x : Fin 512) (c : Fin 2) (r : Fin 512) :
    (masked (F := Ideal) (sto (kBlk K n) q) : FVec Ideal S512x1024 .f32) (ix2 x (col c r))
      = if x.val ≤ r.val then dotc (kr (key n x)) (qr r) c * (((8 * Real.log 2)⁻¹ : ℝ) : EReal) else ⊥ := by
  rw [masked_at, sto_real R]

/-- The running maximum after the masked block. -/
def last (K : Vec Ideal S1x1x4096x128 .bf16) (q : Vec Ideal S1x1x512x128 .f32) (c : Fin 2) (r : Fin 512) (i : ℕ) : EReal :=
  max (mAt (F := Ideal) (fun n => cmx (kBlk K n) q) i (ix2 0 (col c r)))
    (Finset.univ.fold max ⊥ fun x => (masked (F := Ideal) (sto (kBlk K i) q) : FVec Ideal S512x1024 .f32) (ix2 x (col c r)))

/-- After the masked block the running pair holds the totals. -/
theorem holds_last (R : Real4 K V q kr vr qr) (c : Fin 2) (r : Fin 512) (e : Fin 136) (i : ℕ) (hi : i < 8) :
    Softmax.Holds (last K q c r i) (accM (F := Ideal) (mAt (fun n => cmx (kBlk K n) q) i) (sto (kBlk K i) q)
          (aAt (fun n => sto (kBlk K n) q) (fun n => cmx (kBlk K n) q) V i) (vBlk V i) (ix2 e (col c r)))
      (total kr vr (qr r) c e (512 * i + r.val)) (Seen (· = ⊤) kr (qr r) c (512 * i + r.val + 1))
      (Seen (· ≠ ⊥) kr (qr r) c (512 * i + r.val + 1)) := by
  have hm : (maximumf (mAt (F := Ideal) (fun n => cmx (kBlk K n) q) i) (colMax (masked (F := Ideal) (sto (kBlk K i) q))) : FVec Ideal S1x1024 .f32) (ix2 0 (col c r))
      = last K q c r i := by
    unfold last
    rw [← colMax_at]
    rfl
  have hw : ∀ x, Softmax.wt ((masked (F := Ideal) (sto (kBlk K i) q) : FVec Ideal S512x1024 .f32) (ix2 x (col c r)))
      = if x.val ≤ r.val then expw kr (qr r) c (key i x) else 0 := fun x => by
    rw [masked_real R]; split
    · rw [wt_scale]; rfl
    · exact Softmax.wt_bot
  have hT : (Seen (· = ⊤) kr (qr r) c (512 * i) ∨ ∃ x,
        (masked (F := Ideal) (sto (kBlk K i) q) : FVec Ideal S512x1024 .f32) (ix2 x (col c r)) = (⊤ : EReal))
      = Seen (· = ⊤) kr (qr r) c (512 * i + r.val + 1) := propext <| by
    rw [add_assoc, ← seen_succ _ _ _ _ _ _ (by omega)]
    refine or_congr_right (exists_congr fun x => ?_)
    rw [masked_real R]
    by_cases hx : x.val ≤ r.val
    · rw [if_pos hx, Spec.mul_pos_top _ scale_pos]
      exact ⟨fun h => ⟨by omega, h⟩, fun h => h.2⟩
    · rw [if_neg hx]
      exact ⟨fun h => absurd h (by simp), fun h => absurd h.1 (by omega)⟩
  have hB : (Seen (· ≠ ⊥) kr (qr r) c (512 * i) ∨ ∃ x,
        (masked (F := Ideal) (sto (kBlk K i) q) : FVec Ideal S512x1024 .f32) (ix2 x (col c r)) ≠ (⊥ : EReal))
      = Seen (· ≠ ⊥) kr (qr r) c (512 * i + r.val + 1) := propext <| by
    rw [add_assoc, ← seen_succ _ _ _ _ _ _ (by omega)]
    refine or_congr_right (exists_congr fun x => ?_)
    rw [masked_real R]
    by_cases hx : x.val ≤ r.val
    · rw [if_pos hx, ne_eq, Spec.mul_pos_bot _ scale_pos]
      exact ⟨fun h => ⟨by omega, h⟩, fun h => h.2⟩
    · rw [if_neg hx]
      exact ⟨fun h => absurd rfl h, fun h => absurd h.1 (by omega)⟩
  have := (holds R c r e i).step
    (fun x => (masked (F := Ideal) (sto (kBlk K i) q) : FVec Ideal S512x1024 .f32) (ix2 x (col c r)))
    (fun x => vBlk V i (ix4 0 0 e x)) (fun x => vr e (key i x)) (fun x => R.v _ _) (m' := last K q c r i) rfl
  rw [hT, hB] at this
  simp only [hw] at this
  rw [part_total kr vr (qr r) c e i hi r] at this
  unfold accM
  rw [addBlock_at, hm]
  exact this

open Classical in
/-- After the masked block, an accumulator row over the row of sums is the quotient of the totals, or zero over zero. -/
theorem ratio_real (R : Real4 K V q kr vr qr) (c : Fin 2) (r : Fin 512) (e d : Fin 136) (i : ℕ) (hi : i < 8)
    (hd : ¬Seen (· = ⊤) kr (qr r) c (512 * i + r.val + 1) → Seen (· ≠ ⊥) kr (qr r) c (512 * i + r.val + 1) →
      total kr vr (qr r) c d (512 * i + r.val) ≠ 0) :
    Ideal.div (accM (F := Ideal) (mAt (fun n => cmx (kBlk K n) q) i) (sto (kBlk K i) q)
          (aAt (fun n => sto (kBlk K n) q) (fun n => cmx (kBlk K n) q) V i) (vBlk V i) (ix2 e (col c r)))
        (accM (F := Ideal) (mAt (fun n => cmx (kBlk K n) q) i) (sto (kBlk K i) q)
          (aAt (fun n => sto (kBlk K n) q) (fun n => cmx (kBlk K n) q) V i) (vBlk V i) (ix2 d (col c r)))
      = if ¬Seen (· = ⊤) kr (qr r) c (512 * i + r.val + 1) ∧ Seen (· ≠ ⊥) kr (qr r) c (512 * i + r.val + 1) then
          ((total kr vr (qr r) c e (512 * i + r.val) / total kr vr (qr r) c d (512 * i + r.val) : ℝ) : EReal)
        else ⊥ := by
  have he := holds_last R c r e i hi
  have hd' := holds_last R c r d i hi
  split
  · rename_i h
    exact he.div hd' h.1 h.2 (hd h.1 h.2)
  · rename_i h
    exact he.div_inf hd' (by by_contra h'; rw [not_or, not_not] at h'; exact h h')

/-- What one query block writes, at one query and value lane: the norm of the two quotients' difference. -/
theorem outB_real (R : Real4 K V q kr vr qr) (l : Vec Ideal S4x64 .f32) (w : Vec Ideal S128x1 .f32) (i : ℕ) (hi : i < 8)
    (r : Fin 512) (f : Fin 2 → Fin 128 → EReal)
    (hd : ∀ c, ¬Seen (· = ⊤) kr (qr r) c (512 * i + r.val + 1) → Seen (· ≠ ⊥) kr (qr r) c (512 * i + r.val + 1) →
      total kr vr (qr r) c 128 (512 * i + r.val) ≠ 0)
    (hf : ∀ c e, f c e = open Classical in
      if ¬Seen (· = ⊤) kr (qr r) c (512 * i + r.val + 1) ∧ Seen (· ≠ ⊥) kr (qr r) c (512 * i + r.val + 1) then
        ((total kr vr (qr r) c (e.castLE (by decide)) (512 * i + r.val) / total kr vr (qr r) c 128 (512 * i + r.val) : ℝ) : EReal)
      else ⊥) (e : Fin 128) :
    outB (F := Ideal) l w V (fun n => sto (kBlk K n) q) (fun n => cmx (kBlk K n) q) i (ix4 0 0 r e)
      = Spec.norm (fun e => f 0 e - Spec.lam l * f 1 e) (w (ix2 e 0)) e := by
  unfold outB
  rw [normV_at]
  congr 1
  funext e
  rw [diffV_at, ratio_real R _ _ _ _ i hi (hd _), ratio_real R _ _ _ _ i hi (hd _), hf, hf]

end Cert.Attn
-- ==== Proof.Launch.lean ====
module

public import proofs.«01_k».proof.Proof.Win
public import proofs.«01_k».proof.Proof.Attn

/-! # The launch's result -/

@[expose] public section

set_option maxRecDepth 16384

noncomputable section

namespace Cert.Launch

open Idealize.ShloMosaic Idealize.ShloMosaic.TcCoe Idealize.SL.Sem Cert.KernelIdeal Cert.KernelIdeal.Gen Cert.Model Cert.Read Cert.Win

variable (m : (ℓ : Loc nD τ sig) → Buf (Elt Ideal) ℓ)

/-- The queries. -/
abbrev argQ (c : Dev nD) : FVec Ideal Spec.QK .f32 := m ((c : Thread nD τ).loc main_arg0)
/-- The keys. -/
abbrev argK (c : Dev nD) : FVec Ideal Spec.QK .f32 := m ((c : Thread nD τ).loc main_arg1)
/-- The values. -/
abbrev argV (c : Dev nD) : FVec Ideal Spec.VV .f32 := m ((c : Thread nD τ).loc main_arg2)
/-- The parameters of the second softmax's weight. -/
abbrev argL (c : Dev nD) : FVec Ideal Spec.LL .f32 := m ((c : Thread nD τ).loc main_arg3)
/-- The norm's weights. -/
abbrev argW (c : Dev nD) : FVec Ideal Spec.WW .f32 := m ((c : Thread nD τ).loc main_arg4)

/-- A lane's score component. -/
def comp (d : Fin 128) : Fin 2 := ⟨d.val / 64, by omega⟩
/-- A lane within its score component. -/
def within (d : Fin 128) : Fin 64 := ⟨d.val % 64, by omega⟩

/-- The reshaped and transposed queries. -/
theorem v1_at (c : Dev nD) (b h : Fin 8) (i : Fin 4096) (d : Fin 128) :
    (V m c main_v1 (ix4 b h i d) : EReal) = argQ m c (ix5 b i h (comp d) (within d)) := by
  entry_read
  pointwise
  rfl

/-- The rounded, reshaped and transposed keys. -/
theorem v4_at (c : Dev nD) (b h : Fin 8) (i : Fin 4096) (d : Fin 128) :
    (V m c main_v4 (ix4 b h i d) : EReal) = argK m c (ix5 b i h (comp d) (within d)) := by
  entry_read
  pointwise
  rfl

/-- The rounded and transposed values, over rows of ones. -/
theorem v8_at (c : Dev nD) (b h : Fin 8) (i : Fin 4096) (e : Fin 136) :
    (V m c main_v8 (ix4 b h e i) : EReal) = if he : e.val < 128 then argV m c (ix4 b i h ⟨e.val, he⟩) else 1 := by
  entry_read
  pointwise

/-- The norm's weights as a column. -/
theorem v9_at (c : Dev nD) (e : Fin 128) : (V m c main_v9 (ix2 e 0) : EReal) = argW m c (ix1 e) := by
  entry_read
  pointwise

/-- The values and the parameters are real numbers. -/
structure RealArgs (c : Dev nD) : Prop where
  v : ∀ i, ∃ r : ℝ, argV m c i = (r : EReal)
  l : ∀ i, ∃ r : ℝ, argL m c i = (r : EReal)

/-- A query or key of the flattened lanes. -/
def flat (a : FVec Ideal Spec.QK .f32) (b h : Fin 8) (i : Fin 4096) (d : Fin 128) : EReal := a (ix5 b i h (comp d) (within d))

/-- A value, or one, as a real. -/
def ones (a : FVec Ideal Spec.VV .f32) (b h : Fin 8) (e : Fin 136) (j : Fin 4096) : ℝ :=
  if he : e.val < 128 then (a (ix4 b j h ⟨e.val, he⟩)).toReal else 1

/-- The product over one component's lanes is the reference's. -/
theorem dotc_flat (q k : FVec Ideal Spec.QK .f32) (b h : Fin 8) (i j : Fin 4096) (c : Fin 2) :
    dotc (flat k b h j) (flat q b h i) c = Spec.qk q k b h c i j := by
  refine Finset.sum_congr rfl fun d _ => ?_
  have h1 : comp (lane c d) = c := Fin.ext (by show (64 * c.val + d.val) / 64 = c.val; omega)
  have h2 : within (lane c d) = d := Fin.ext (by show (64 * c.val + d.val) % 64 = d.val; omega)
  unfold flat
  rw [h1, h2]

/-- The row of ones sums the weights. -/
theorem total_den (q k : FVec Ideal Spec.QK .f32) (v : FVec Ideal Spec.VV .f32) (b h : Fin 8) (i : Fin 4096) (c : Fin 2) :
    Attn.total (flat k b h) (ones v b h) (flat q b h i) c 128 i.val = Spec.den q k b h c i := by
  refine Finset.sum_congr rfl fun j _ => ?_
  unfold Attn.expw
  rw [dotc_flat, show ones v b h 128 j = 1 from dif_neg (by decide), one_mul]
  rfl

/-- A row of values sums the weighted values. -/
theorem total_num (q k : FVec Ideal Spec.QK .f32) (v : FVec Ideal Spec.VV .f32) (b h : Fin 8) (i : Fin 4096) (c : Fin 2) (e : Fin 128) :
    Attn.total (flat k b h) (ones v b h) (flat q b h i) c (e.castLE (by decide)) i.val = Spec.num q k v b h c i e := by
  refine Finset.sum_congr rfl fun j _ => ?_
  unfold Attn.expw
  rw [dotc_flat, show ones v b h (e.castLE (by decide)) j = (v (ix4 b j h e)).toReal from dif_pos e.isLt, mul_comm]
  rfl

/-- Some key up to the query's position has a product with it that satisfies `p`. -/
theorem seen_flat (p : EReal → Prop) (q k : FVec Ideal Spec.QK .f32) (b h : Fin 8) (i : Fin 4096) (c : Fin 2) :
    Attn.Seen p (flat k b h) (flat q b h i) c (i.val + 1) ↔ ∃ j : Fin 4096, j.val ≤ i.val ∧ p (Spec.qk q k b h c i j) := by
  constructor
  · rintro ⟨j, hj, h⟩
    have hm : (Fin.ofNat 4096 j).val = j := Nat.mod_eq_of_lt (by omega)
    rw [dotc_flat] at h
    exact ⟨Fin.ofNat 4096 j, by rw [hm]; omega, h⟩
  · rintro ⟨j, hj, h⟩
    refine ⟨j.val, by omega, ?_⟩
    rw [dotc_flat, show Fin.ofNat 4096 j.val = j from Fin.ext (Nat.mod_eq_of_lt j.isLt)]
    exact h

/-- The result, as the reference's mathematics has it. -/
def G (c : Dev nD) : FVec Ideal S8x8x4096x128 .bf16 := fun x =>
  Spec.norm (Spec.diff (argQ m c) (argK m c) (argV m c) (argL m c) (x 0) (x 1) (x 2)) (argW m c (ix1 (x 3))) (x 3)

/-- A grid point's batch row. -/
def bOf (t : ℕ) : Fin 8 := Fin.ofNat 8 (t / 16)
/-- A grid point's head. -/
def hOf (t : ℕ) : Fin 8 := Fin.ofNat 8 (t / 2)
/-- A query's position. -/
def pos (t g : ℕ) (r : Fin 512) : Fin 4096 := Fin.ofNat 4096 (2048 * (t % 2) + 512 * g + r.val)

/-- A grid point's blocks by name. -/
theorem blocks_real (c : Dev nD) (R : RealArgs m c) (t : Fin cfg0.N) (g : ℕ) (hg : g < 4) :
    Attn.Real4 (iblk m c 3 t) (iblk m c 5 t) (qBlk (iblk m c 1 t) g) (flat (argK m c) (bOf t.val) (hOf t.val))
      (ones (argV m c) (bOf t.val) (hOf t.val)) (fun r => flat (argQ m c) (bOf t.val) (hOf t.val) (pos t.val g r)) where
  k j d := by
    have e : (iblk m c 3 t : Vec Ideal S1x1x4096x128 .bf16) (ix4 0 0 j d) = kBlk (iblk m c 3 t) (j.val / 512) (ix4 0 0 ⟨j.val % 512, by omega⟩ d) :=
      congrArg (fun z : Fin 4096 => (iblk m c 3 t : Vec Ideal S1x1x4096x128 .bf16) (ix4 0 0 z d))
        (Fin.ext (by show j.val = (512 * (j.val / 512) + j.val % 512) % 4096; omega))
    rw [e, k_blk m c t _ (by omega)]
    refine (v4_at m c _ _ _ _).trans ?_
    have ej : Fin.ofNat 4096 (512 * (j.val / 512) + j.val % 512) = j := Fin.ext (by show (512 * (j.val / 512) + j.val % 512) % 4096 = j.val; omega)
    show argK m c (ix5 (bOf t.val) (Fin.ofNat 4096 (512 * (j.val / 512) + j.val % 512)) (hOf t.val) (comp d) (within d)) = _
    unfold flat
    rw [ej]
  v e j := by
    have e' : (iblk m c 5 t : Vec Ideal S1x1x136x4096 .bf16) (ix4 0 0 e j) = vBlk (iblk m c 5 t) (j.val / 512) (ix4 0 0 e ⟨j.val % 512, by omega⟩) :=
      congrArg (fun z : Fin 4096 => (iblk m c 5 t : Vec Ideal S1x1x136x4096 .bf16) (ix4 0 0 e z))
        (Fin.ext (by show j.val = (512 * (j.val / 512) + j.val % 512) % 4096; omega))
    rw [e', v_blk m c t _ (by omega)]
    refine (v8_at m c _ _ _ _).trans ?_
    have ej : Fin.ofNat 4096 (512 * (j.val / 512) + j.val % 512) = j := Fin.ext (by show (512 * (j.val / 512) + j.val % 512) % 4096 = j.val; omega)
    show (if he : e.val < 128 then argV m c (ix4 (bOf t.val) (Fin.ofNat 4096 (512 * (j.val / 512) + j.val % 512)) (hOf t.val) ⟨e.val, he⟩) else 1) = _
    unfold ones
    rw [ej]
    split
    · rename_i he
      obtain ⟨r, hr⟩ := R.v (ix4 (bOf t.val) j (hOf t.val) ⟨e.val, he⟩)
      rw [hr, EReal.toReal_coe]
    · rfl
  q r d := by
    rw [q_blk m c t g hg]
    refine (v1_at m c _ _ _ _).trans ?_
    rfl

/-- What a grid point writes, at one query and value lane. -/
theorem outT_real (c : Dev nD) (R : RealArgs m c) (t : Fin cfg0.N) (g : ℕ) (hg : g < 4) (r : Fin 512) (e : Fin 128) :
    outT (F := Ideal) (iblk m c 0 t) (iblk m c 1 t) (iblk m c 3 t) (iblk m c 5 t) (iblk m c 6 t) (4 * (t.val % 2)) g (ix4 0 0 r e)
      = G m c (ix4 (bOf t.val) (hOf t.val) (pos t.val g r) e) := by
  have hp : ∀ r : Fin 512, 512 * (4 * (t.val % 2) + g) + r.val = (pos t.val g r).val := fun r => by
    show _ = (2048 * (t.val % 2) + 512 * g + r.val) % 4096
    omega
  have hl : (iblk m c 0 t : Vec Ideal S4x64 .f32) = argL m c := by
    funext x
    rw [l_blk, V_main_arg3]
  have hw : (iblk m c 6 t : Vec Ideal S128x1 .f32) (ix2 e 0) = argW m c (ix1 e) := (w_blk m c t _).trans (v9_at m c e)
  unfold outT
  have hT : ∀ c', Attn.Seen (· = ⊤) (flat (argK m c) (bOf t.val) (hOf t.val)) (flat (argQ m c) (bOf t.val) (hOf t.val) (pos t.val g r)) c'
      (512 * (4 * (t.val % 2) + g) + r.val + 1) ↔ Spec.AnyTop (argQ m c) (argK m c) (bOf t.val) (hOf t.val) c' (pos t.val g r) :=
    fun c' => by
      rw [hp]
      exact seen_flat _ _ _ _ _ _ _
  have hB : ∀ c', Attn.Seen (· ≠ ⊥) (flat (argK m c) (bOf t.val) (hOf t.val)) (flat (argQ m c) (bOf t.val) (hOf t.val) (pos t.val g r)) c'
      (512 * (4 * (t.val % 2) + g) + r.val + 1) ↔ Spec.AnyUp (argQ m c) (argK m c) (bOf t.val) (hOf t.val) c' (pos t.val g r) :=
    fun c' => by
      rw [hp]
      exact seen_flat _ _ _ _ _ _ _
  rw [Attn.outB_real (blocks_real m c R t g hg) (iblk m c 0 t) (iblk m c 6 t) _ (by omega) r
    (fun c' e => Spec.frac (argQ m c) (argK m c) (argV m c) (bOf t.val) (hOf t.val) c' (pos t.val g r) e)
    (fun c' h1 h2 => by
      rw [hT] at h1
      rw [hB] at h2
      rw [hp, total_den]
      exact (Spec.den_pos h1 h2).ne')
    (fun c' e => by
      unfold Spec.frac
      classical
      refine if_congr (and_congr (not_congr (hT c').symm) (hB c').symm) ?_ rfl
      rw [hp, total_den, total_num]), hw, hl]
  rfl

/-- Four stored query blocks, read at one index of the point's block. -/
theorem canon_pieces (f : ℕ → Vec Ideal S1x1x512x128 .bf16) (y : S1x1x2048x128.Idx) (v : EReal)
    (H : ∀ g < 4, ∀ r : Fin 512, (y 2).val = 512 * g + r.val → f g (ix4 0 0 r (y 3)) = v) :
    (View.canon (Out.pieces f) y : EReal) = v := by
  unfold Out.pieces
  canon_tiles x h
  all_goals
    have e : x = ix4 0 0 (x 2) (y 3) := by blk_ext
    rw [e]
    first
    | exact H 3 (by decide) (x 2) h2
    | exact H 2 (by decide) (x 2) h2
    | exact H 1 (by decide) (x 2) h2
    | exact H 0 (by decide) (x 2) (h2.trans (Nat.zero_add _).symm)

/-- The launch's result. -/
theorem arr_out (c : Dev nD) (R : RealArgs m c) : (dats m 0 c).arrAt 7 cfg0.N = G m c := by
  refine (dats m 0 c).arrAt_eq_of_covers 7 (G m c) (by decide +kernel) fun t hf y => ?_
  blk_simp
  rw [after0_7, outs m c t]
  have ht : t.val < 128 := N_eq ▸ t.isLt
  refine canon_pieces _ y _ fun g hg r hr => ?_
  refine (outT_real m c R t g hg r _).trans (congrArg (G m c) ?_)
  unfold bOf hOf pos
  blk_ext [(idx t).2.2.2.1] <;> simp only [Fin.val_ofNat] <;> omega

/-- From real values and parameters the kernel returns the reference's mathematics and keeps its arguments. -/
theorem run (R : ∀ c, RealArgs m c) (ρ : Dev nD → PrngReg) :
    θ_run (defs (F := Ideal)) (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 7).trans (arr_out m c (R c)), h.2 c⟩) (θ_run_and (run_main m ρ) (unchanged m ρ))

end Cert.Launch
-- ==== Proof.Layer.lean ====
module

public import Idealize.ShloMosaic.Lib.Pointwise
public import Idealize.ShloMosaic.PureOps.Ideal.Laws

/-! # The feed-forward call's mathematics

The attention's result projected and added to the residual stream, a gated feed-forward layer with a causal convolution
of width three, and the final norm, at one batch row and position, over the extended reals. -/

@[expose] public section

noncomputable section

namespace Cert.Layer

open Idealize.ShloMosaic

abbrev HH : Shape := ⟨3, ![8, 4096, 1024]⟩
abbrev OO : Shape := ⟨4, ![8, 8, 4096, 128]⟩
abbrev WO : Shape := ⟨3, ![1, 1024, 1024]⟩
abbrev NW : Shape := ⟨2, ![2, 1024]⟩
abbrev WI : Shape := ⟨3, ![2, 1024, 5632]⟩
abbrev CW : Shape := ⟨3, ![2, 3, 5632]⟩
abbrev CB : Shape := ⟨2, ![2, 5632]⟩
abbrev WU : Shape := ⟨3, ![2, 2816, 1024]⟩
abbrev FW : Shape := ⟨1, ![1024]⟩

/-- A row's norm: the row over the root of its mean square, times the weights. -/
def rms (x w : Fin 1024 → EReal) (d : Fin 1024) : EReal :=
  x d * Ideal.rsqrt (Ideal.div (∑ k, x k * x k) (Ideal.ofBits .f32 0x44800000#32) + Ideal.ofBits .f32 0x358637BD#32) * w d

/-- The logistic function's product with its argument, times the other half. -/
def gate (a g : EReal) : EReal := g * Ideal.div 1 (1 + Ideal.exp (-g)) * a

/-- The arguments of the call. -/
structure Args where
  h : FVec Ideal HH .f32
  o : FVec Ideal OO .bf16
  wo : FVec Ideal WO .f32
  nw : FVec Ideal NW .f32
  wi : FVec Ideal WI .f32
  cw : FVec Ideal CW .f32
  cb : FVec Ideal CB .f32
  wu : FVec Ideal WU .f32
  fw : FVec Ideal FW .f32

variable (A : Args)

/-- The residual stream after the attention's projection. -/
def mix (b : Fin 8) (t : Fin 4096) (d : Fin 1024) : EReal :=
  A.h (ix3 b t d) + ∑ k : Fin 1024, A.o (ix4 b ⟨k.val / 128, by omega⟩ t ⟨k.val % 128, by omega⟩) * A.wo (ix3 0 k d)

/-- The layer's input, in both halves' lanes. -/
def up (b : Fin 8) (t : Fin 4096) (f : Fin 5632) : EReal :=
  ∑ k, rms (mix A b t) (fun k => A.nw (ix2 1 k)) k * A.wi (ix3 1 k f)

/-- The layer's input some positions earlier, zero before the first. -/
def back (b : Fin 8) (t : Fin 4096) (n : ℕ) (f : Fin 5632) : EReal :=
  if n ≤ t.val then up A b ⟨t.val - n, by omega⟩ f else 0

/-- The causal convolution. -/
def conv (b : Fin 8) (t : Fin 4096) (f : Fin 5632) : EReal :=
  back A b t 2 f * A.cw (ix3 1 0 f) + back A b t 1 f * A.cw (ix3 1 1 f) + back A b t 0 f * A.cw (ix3 1 2 f) + A.cb (ix2 1 f)

/-- The residual stream after the layer. -/
def out (b : Fin 8) (t : Fin 4096) (d : Fin 1024) : EReal :=
  mix A b t d + ∑ k : Fin 2816, gate (conv A b t ⟨k.val, by omega⟩) (conv A b t ⟨2816 + k.val, by omega⟩) * A.wu (ix3 1 k d)

/-- The call's result. -/
def res (b : Fin 8) (t : Fin 4096) (d : Fin 1024) : EReal := rms (out A b t) (fun k => A.fw (ix1 k)) d

end Cert.Layer

end
-- ==== Proof.LayerRef.lean ====
module

public import proofs.«01_k».proof.Proof.Gen.Reference2Ideal.Run
public import proofs.«01_k».proof.Proof.Layer
public import Idealize.ShloMosaic.Lib.Tactic.CleanTypes

/-! # The feed-forward reference's result at an index -/

@[expose] public section

set_option maxRecDepth 16384

noncomputable section

namespace Cert.LayerRef

open Idealize.ShloMosaic Idealize.ShloMosaic.TcCoe Idealize.SL.Sem Cert.Reference2Ideal Cert.Reference2Ideal.Gen Cert.Layer

/-- The residual stream after the attention's projection, as the reference's text has it. -/
def mixV (h : FVec Ideal HH .f32) (o : FVec Ideal OO .bf16) (wo : FVec Ideal WO .f32) : FVec Ideal S8x4096x1024 .f32 :=
  addf h (Host.dotGeneral dot_S8x4096x1024_S1024x1024_S8x4096x1024_2_0_01_1_n_n none (shapeCast _ (transpose S8x4096x8x128 [0, 2, 1, 3]
    (extf .f32 o bitsLt_bf16_f32) transposes_S8x8x4096x128_S8x4096x8x128_0_2_1_3) shapeCasts_S8x4096x8x128_S8x4096x1024)
    (shapeCast _ wo shapeCasts_S1x1024x1024_S1024x1024))

/-- The norm. -/
def rmsV (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32)
    reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32)))))) (broadcastInDim S8x4096x1024 ![0, 1, 2]
    bcast_S1x1x1024_S8x4096x1024_0_1_2 (broadcastInDim S1x1x1024 ![2] bcast_S1024_S1x1x1024_2 w))

/-- The layer's input. -/
def upV (x : FVec Ideal S8x4096x1024 .f32) (wi : FVec Ideal WI .f32) : FVec Ideal S8x4096x5632 .f32 :=
  Host.dotGeneral dot_S8x4096x1024_S1024x5632_S8x4096x5632_2_0_01_1_n_n none x (shapeCast _ (extractStridedSlice S1x1024x5632 ![1, 0, 0] wi
    slices_S2x1024x5632_S1x1024x5632_1_0_0) shapeCasts_S1x1024x5632_S1024x5632)

/-- The layer's input after two rows of zeros. -/
def padV (u : FVec Ideal S8x4096x5632 .f32) : FVec Ideal S8x4098x5632 .f32 :=
  pad S8x4098x5632 ![0, 2, 0] ![0, 0, 0] ![0, 0, 0] u (sitofp .f32 (constantI S_ 32 0#32)) pads_S8x4096x5632_S8x4098x5632_000_200_000 h_S_

/-- The convolution. -/
def convV (p : FVec Ideal S8x4098x5632 .f32) (cw : FVec Ideal CW .f32) (cb : FVec Ideal CB .f32) : FVec Ideal S8x4096x5632 .f32 :=
  addf (addf (addf (addf (broadcastInDim S8x4096x5632 ![] bcast_S_S8x4096x5632 (constant S_ .f32 0x00000000#32)) (mulf (extractStridedSlice
    S8x4096x5632 ![0, 0, 0] p slices_S8x4098x5632_S8x4096x5632_0_0_0) (broadcastInDim S8x4096x5632 ![0, 1, 2] bcast_S1x1x5632_S8x4096x5632_0_1_2
    (broadcastInDim S1x1x5632 ![2] bcast_S5632_S1x1x5632_2 (shapeCast _ (extractStridedSlice S1x1x5632 ![1, 0, 0] cw
    slices_S2x3x5632_S1x1x5632_1_0_0) shapeCasts_S1x1x5632_S5632))))) (mulf (extractStridedSlice S8x4096x5632 ![0, 1, 0] p
    slices_S8x4098x5632_S8x4096x5632_0_1_0) (broadcastInDim S8x4096x5632 ![0, 1, 2] bcast_S1x1x5632_S8x4096x5632_0_1_2 (broadcastInDim S1x1x5632
    ![2] bcast_S5632_S1x1x5632_2 (shapeCast _ (extractStridedSlice S1x1x5632 ![1, 1, 0] cw slices_S2x3x5632_S1x1x5632_1_1_0)
    shapeCasts_S1x1x5632_S5632))))) (mulf (extractStridedSlice S8x4096x5632 ![0, 2, 0] p slices_S8x4098x5632_S8x4096x5632_0_2_0)
    (broadcastInDim S8x4096x5632 ![0, 1, 2] bcast_S1x1x5632_S8x4096x5632_0_1_2 (broadcastInDim S1x1x5632 ![2] bcast_S5632_S1x1x5632_2 (shapeCast _
    (extractStridedSlice S1x1x5632 ![1, 2, 0] cw slices_S2x3x5632_S1x1x5632_1_2_0) shapeCasts_S1x1x5632_S5632))))) (broadcastInDim S8x4096x5632
    ![0, 1, 2] bcast_S1x1x5632_S8x4096x5632_0_1_2 (broadcastInDim S1x1x5632 ![2] bcast_S5632_S1x1x5632_2 (shapeCast _ (extractStridedSlice S1x5632
    ![1, 0] cb slices_S2x5632_S1x5632_1_0) shapeCasts_S1x5632_S5632)))

/-- The gated product. -/
def gateV (v : FVec Ideal S8x4096x5632 .f32) : FVec Ideal S8x4096x2816 .f32 :=
  mulf (mulf (extractStridedSlice S8x4096x2816 ![0, 0, 2816] v slices_S8x4096x5632_S8x4096x2816_0_0_2816) (Host.divf (broadcastInDim S8x4096x2816 ![]
    bcast_S_S8x4096x2816 (constant S_ .f32 0x3F800000#32)) (addf (broadcastInDim S8x4096x2816 ![] bcast_S_S8x4096x2816 (constant S_ .f32
    0x3F800000#32)) (Host.exp (Host.negf (extractStridedSlice S8x4096x2816 ![0, 0, 2816] v slices_S8x4096x5632_S8x4096x2816_0_0_2816))))))
    (extractStridedSlice S8x4096x2816 ![0, 0, 0] v slices_S8x4096x5632_S8x4096x2816_0_0_0)

/-- The residual stream after the layer. -/
def outV (x : FVec Ideal S8x4096x1024 .f32) (g : FVec Ideal S8x4096x2816 .f32) (wu : FVec Ideal WU .f32) : FVec Ideal S8x4096x1024 .f32 :=
  addf x (Host.dotGeneral dot_S8x4096x2816_S2816x1024_S8x4096x1024_2_0_01_1_n_n none g (shapeCast _ (extractStridedSlice S1x2816x1024 ![1, 0, 0] wu
    slices_S2x2816x1024_S1x2816x1024_1_0_0) shapeCasts_S1x2816x1024_S2816x1024))

/-- One layer's row of norm weights. -/
def nwV (w : FVec Ideal NW .f32) : FVec Ideal S1024 .f32 :=
  shapeCast _ (extractStridedSlice S1x1024 ![1, 0] w slices_S2x1024_S1x1024_1_0) shapeCasts_S1x1024_S1024

theorem mixV_at (h : FVec Ideal HH .f32) (o : FVec Ideal OO .bf16) (wo : FVec Ideal WO .f32) (b : Fin 8) (t : Fin 4096) (d : Fin 1024) :
    mixV h o wo (ix3 b t d) = h (ix3 b t d)
      + ∑ k : Fin 1024, o (ix4 b ⟨k.val / 128, by omega⟩ t ⟨k.val % 128, by omega⟩) * wo (ix3 0 k d) := by
  unfold mixV
  pointwise

theorem rmsV_at (x : FVec Ideal S8x4096x1024 .f32) (w : FVec Ideal S1024 .f32) (b : Fin 8) (t : Fin 4096) (d : Fin 1024) :
    rmsV x w (ix3 b t d) = rms (fun k => x (ix3 b t k)) (fun k => w (ix1 k)) d := by
  unfold rmsV rms
  pointwise

theorem upV_at (x : FVec Ideal S8x4096x1024 .f32) (wi : FVec Ideal WI .f32) (b : Fin 8) (t : Fin 4096) (f : Fin 5632) :
    upV x wi (ix3 b t f) = ∑ k, x (ix3 b t k) * wi (ix3 1 k f) := by
  unfold upV
  pointwise

theorem padV_at (u : FVec Ideal S8x4096x5632 .f32) (b : Fin 8) (t : Fin 4098) (f : Fin 5632) :
    padV u (ix3 b t f) = if 2 ≤ t.val then u (ix3 b ⟨t.val - 2, by omega⟩ f) else 0 := by
  unfold padV
  pointwise
  have h0 : (FloatOps.sitofp (F := Ideal) FTy.f32 0#32 : EReal) = 0 := by
    show (((0#32 : BitVec 32).toInt : ℝ) : EReal) = 0
    simp
  by_cases h : 2 ≤ t.val
  · rw [dif_pos ⟨h, by omega⟩, if_pos h]
  · rw [dif_neg (fun k => h k.1), if_neg h, h0]

theorem convV_at (p : FVec Ideal S8x4098x5632 .f32) (cw : FVec Ideal CW .f32) (cb : FVec Ideal CB .f32) (b : Fin 8) (t : Fin 4096) (f : Fin 5632) :
    convV p cw cb (ix3 b t f) = p (ix3 b ⟨t.val, by omega⟩ f) * cw (ix3 1 0 f) + p (ix3 b ⟨1 + t.val, by omega⟩ f) * cw (ix3 1 1 f)
      + p (ix3 b ⟨2 + t.val, by omega⟩ f) * cw (ix3 1 2 f) + cb (ix2 1 f) := by
  unfold convV
  pointwise

theorem gateV_at (v : FVec Ideal S8x4096x5632 .f32) (b : Fin 8) (t : Fin 4096) (k : Fin 2816) :
    gateV v (ix3 b t k) = gate (v (ix3 b t ⟨k.val, by omega⟩)) (v (ix3 b t ⟨2816 + k.val, by omega⟩)) := by
  unfold gateV gate
  pointwise

theorem outV_at (x : FVec Ideal S8x4096x1024 .f32) (g : FVec Ideal S8x4096x2816 .f32) (wu : FVec Ideal WU .f32) (b : Fin 8) (t : Fin 4096)
    (d : Fin 1024) : outV x g wu (ix3 b t d) = x (ix3 b t d) + ∑ k, g (ix3 b t k) * wu (ix3 1 k d) := by
  unfold outV
  pointwise

theorem nwV_at (w : FVec Ideal NW .f32) (k : Fin 1024) : nwV w (ix1 k) = w (ix2 1 k) := by
  unfold nwV
  pointwise

/-- The reference's arguments. -/
def args (m : (ℓ : Loc nD τ sig) → Buf (Elt Ideal) ℓ) (c : Dev nD) : Args where
  h := m ((c : Thread nD τ).loc main_arg0)
  o := m ((c : Thread nD τ).loc main_arg1)
  wo := m ((c : Thread nD τ).loc main_arg2)
  nw := m ((c : Thread nD τ).loc main_arg3)
  wi := m ((c : Thread nD τ).loc main_arg4)
  cw := m ((c : Thread nD τ).loc main_arg5)
  cb := m ((c : Thread nD τ).loc main_arg6)
  wu := m ((c : Thread nD τ).loc main_arg7)
  fw := m ((c : Thread nD τ).loc main_arg8)

/-- The residual stream, of a call's arguments. -/
def mixA (A : Args) : FVec Ideal S8x4096x1024 .f32 := mixV A.h A.o A.wo

/-- The convolved input, of a call's arguments. -/
def convA (A : Args) : FVec Ideal S8x4096x5632 .f32 := convV (padV (upV (rmsV (mixA A) (nwV A.nw)) A.wi)) A.cw A.cb

/-- The reference's result, step by step. -/
theorem res_eq (m : (ℓ : Loc nD τ sig) → Buf (Elt Ideal) ℓ) (c : Dev nD) :
    (Cert.Reference2Ideal.Value.res_main_v72 m c : FVec Ideal S8x4096x1024 .f32)
      = rmsV (outV (mixA (args m c)) (gateV (convA (args m c))) (args m c).wu) (args m c).fw := by
  delta Cert.Reference2Ideal.Value.res_main_v72 convA mixA args rmsV outV mixV gateV convV padV upV nwV
  rfl

theorem mixA_at (A : Args) (b : Fin 8) (t : Fin 4096) (d : Fin 1024) : mixA A (ix3 b t d) = mix A b t d := mixV_at ..

theorem upA_at (A : Args) (b : Fin 8) (t : Fin 4096) (f : Fin 5632) : upV (rmsV (mixA A) (nwV A.nw)) A.wi (ix3 b t f) = up A b t f := by
  rw [upV_at]
  unfold up
  simp only [rmsV_at, mixA_at, nwV_at]

theorem convA_at (A : Args) (b : Fin 8) (t : Fin 4096) (f : Fin 5632) : convA A (ix3 b t f) = conv A b t f := by
  unfold convA conv back
  rw [convV_at]
  simp only [padV_at, upA_at]
  have e1 : (2 ≤ 1 + t.val) = (1 ≤ t.val) := by apply propext; omega
  have e2 : (2 ≤ 2 + t.val) = (0 ≤ t.val) := by apply propext; omega
  have i1 : ∀ h, (⟨1 + t.val - 2, h⟩ : Fin 4096) = ⟨t.val - 1, by omega⟩ := fun _ => Fin.ext (by dsimp only; omega)
  have i2 : ∀ h, (⟨2 + t.val - 2, h⟩ : Fin 4096) = ⟨t.val - 0, by omega⟩ := fun _ => Fin.ext (by dsimp only; omega)
  simp only [e1, e2, i1, i2]

/-- The reference's result at an index. -/
theorem res_at (m : (ℓ : Loc nD τ sig) → Buf (Elt Ideal) ℓ) (c : Dev nD) (b : Fin 8) (t : Fin 4096) (d : Fin 1024) :
    (Cert.Reference2Ideal.Value.res_main_v72 m c : FVec Ideal S8x4096x1024 .f32) (ix3 b t d) = res (args m c) b t d := by
  rw [res_eq, rmsV_at]
  unfold res out
  simp only [outV_at, gateV_at, convA_at, mixA_at]

end Cert.LayerRef

end
-- ==== Proof.Ffn.lean ====
module

public import proofs.«01_k».proof.Proof.Gen.Kernel2Ideal.Frame.Runs

/-! # The feed-forward kernel's steps

One grid point's steps, over the blocks it has loaded. The tokens of a block are interleaved: row `8 j + s` holds token
`64 s + j`, so that eight consecutive rows hold tokens 64 apart. The hidden lanes come in 22 chunks of 256: chunk `2 j + p`
is the `j`-th of half `p`. -/

@[expose] public section

set_option maxRecDepth 16384

noncomputable section

namespace Cert.Ffn

open Idealize.ShloMosaic Cert.Kernel2Ideal Cert.Kernel2Ideal.Gen

variable {F : FTy → Type} [FloatOps F] [Named F]

/-! ## The boxes of the stores and loads -/

/-- Segment `s` of slab `c` of the reordering buffer. -/
def segRect (c s : Fin 8) : Rect S8x576x128 :=
  Rect.unit ![c.val, 72 * s.val, 0] S1x64x128.size (by
    intro a
    have := c.isLt
    have := s.isLt
    fin_cases a <;> simp [Shape.size] <;> omega)

/-- Eight rows 72 apart, from row `j` of slab `c` of the reordering buffer. -/
def rowRect (c : Fin 8) (j : Fin 64) : Rect S8x576x128 :=
  Rect.mk (LoadRect.mk ![c.val, j.val, 0] S1x8x128.size ![1, 72, 1] (by
    intro a
    have := c.isLt
    have := j.isLt
    fin_cases a <;> simp [Shape.size] <;> omega)) (by
    intro a
    fin_cases a <;> simp)

/-- Segment `s` of slab `c` of the output. -/
def outRect (c s : Fin 8) : Rect S1x512x1024 :=
  Rect.unit ![0, 64 * s.val, 128 * c.val] S1x64x128.size (by
    intro a
    have := c.isLt
    have := s.isLt
    fin_cases a <;> simp [Shape.size] <;> omega)

/-- Chunk `e` of the layer's input. -/
def upRect (e : Fin 22) : Rect S22x512x256 :=
  Rect.unit ![e.val, 0, 0] S1x512x256.size (by
    intro a
    have := e.isLt
    fin_cases a <;> simp [Shape.size] <;> omega)

/-- The `k`-th carried rows of chunk `e`. -/
def carRect (e : Fin 22) (k : Fin 2) : Rect S22x2x8x256 :=
  Rect.unit ![e.val, k.val, 0, 0] S1x1x8x256.size (by
    intro a
    have := e.isLt
    have := k.isLt
    fin_cases a <;> simp [Shape.size] <;> omega)

/-- Chunk `j` of the gated product. -/
def actRect (j : Fin 11) : Rect S512x2816 :=
  Rect.unit ![0, 256 * j.val] S512x256.size (by
    intro a
    have := j.isLt
    fin_cases a <;> simp [Shape.size] <;> omega)

/-- The whole gated product. -/
def actAll : Rect S512x2816 :=
  Rect.unit ![0, 0] S512x2816.size (by
    intro a
    fin_cases a <;> simp [Shape.size])

/-- The first lane of chunk `e`. -/
def colOf (e : Fin 22) : ℕ := e.val % 2 * 2816 + e.val / 2 * 256

theorem colOf_le (e : Fin 22) : colOf e + 256 ≤ 5632 := by
  have := e.isLt
  unfold colOf
  omega

/-- Chunk `e` of the input weights. -/
def winRect (e : Fin 22) : Rect S1x1024x5632 :=
  Rect.unit ![0, 0, colOf e] S1x1024x256.size (by
    intro a
    have := colOf_le e
    fin_cases a <;> simp [Shape.size] <;> omega)

/-- Chunk `e` of the convolution's weights. -/
def cwRect (e : Fin 22) : Rect S1x3x5632 :=
  Rect.unit ![0, 0, colOf e] S1x3x256.size (by
    intro a
    have := colOf_le e
    fin_cases a <;> simp [Shape.size] <;> omega)

/-- Chunk `e` of the convolution's offsets. -/
def cbRect (e : Fin 22) : Rect S1x1x5632 :=
  Rect.unit ![0, 0, colOf e] S1x1x256.size (by
    intro a
    have := colOf_le e
    fin_cases a <;> simp [Shape.size] <;> omega)

/-- One head's lanes of the attention's block. -/
def mixRect (n : Fin 8) : Rect S1x8x512x128 :=
  Rect.unit ![0, n.val, 0, 0] S1x1x512x128.size (by
    intro a
    have := n.isLt
    fin_cases a <;> simp [Shape.size] <;> omega)

/-- Equal pieces join along an axis. -/
theorem concat_ofFn {α : Type} {s t : Shape} {a : Fin t.rank} {N : ℕ} (h : Shape.Concatenates (List.replicate N s) t a)
    (f : Fin N → s.Idx → α) :
    Shape.Concatenates ((List.ofFn fun n : Fin N => (⟨s, f n⟩ : (s : Shape) × (s.Idx → α))).map (·.1)) t a := by
  have e : (List.ofFn fun n : Fin N => (⟨s, f n⟩ : (s : Shape) × (s.Idx → α))).map (·.1) = List.replicate N s := by
    rw [List.map_ofFn]
    exact List.ofFn_const N s
  rw [e]
  exact h

/-- Eight slabs of 128 lanes. -/
theorem concat_slabs : Shape.Concatenates (List.replicate 8 S512x128) S512x1024 1 :=
  concatenates_S512x128_S512x128_S512x128_S512x128_S512x128_S512x128_S512x128_S512x128_S512x1024_d1

/-- Sixty-four groups of eight rows. -/
theorem concat_rows : Shape.Concatenates (List.replicate 64 S8x128) S512x128 0 := by
  refine ⟨by decide, fun s hs => ?_, by decide +kernel⟩
  obtain rfl := List.eq_of_mem_replicate hs
  exact ⟨rfl, by decide +kernel⟩

/-- Segment `s` of slab `c` of a block. -/
theorem slices_seg (c s : Fin 8) : S512x1024.Slices ![64 * s.val, 128 * c.val] S64x128 :=
  ⟨rfl, fun a => by
    have := c.isLt
    have := s.isLt
    fin_cases a <;> simp [Shape.size] <;> omega⟩

/-- Row group `j` of slab `c` of a block. -/
theorem slices_rows (c : Fin 8) (j : Fin 64) : S512x1024.Slices ![8 * j.val, 128 * c.val] S8x128 :=
  ⟨rfl, fun a => by
    have := c.isLt
    have := j.isLt
    fin_cases a <;> simp [Shape.size] <;> omega⟩

/-- The slab of the `n`-th segment, counting slab by slab. -/
def slab {N : ℕ} (w : ℕ) (n : Fin N) (h : N = 8 * w) : Fin 8 := ⟨n.val / w, by
  have := n.isLt
  exact Nat.div_lt_of_lt_mul (by omega)⟩

/-- The position of the `n`-th segment in its slab. -/
def inSlab {N : ℕ} (w : ℕ) (n : Fin N) (h : N = 8 * w) : Fin w := ⟨n.val % w, Nat.mod_lt _ (by
  have := n.isLt
  omega)⟩

/-- A grid point's loaded blocks. -/
structure Blocks (F : FTy → Type) where
  h : Vec F S1x512x1024 .f32
  o : Fin 8 → Vec F S1x1x512x128 .bf16
  wo : Vec F S1024x1024 .bf16
  nw : Vec F S1x1x1024 .f32
  wi : Fin 22 → Vec F S1x1024x256 .bf16
  cw : Fin 22 → Vec F S1x3x256 .f32
  cb : Fin 22 → Vec F S1x1x256 .f32
  wu : Vec F S1x2816x1024 .bf16
  fw : Vec F S1x1024 .f32

/-! ## The residual stream, interleaved -/

/-- The residual stream after the attention's projection. -/
def mixV (B : Blocks F) : FVec F S512x1024 .f32 :=
  addf (shapeCast S512x1024 B.h shapeCasts_S1x512x1024_S512x1024)
    (matmul dot_S512x1024_S1024x1024_S512x1024_1_0_0_1_n_n none
      (concatenate S512x1024 1 (List.ofFn fun n : Fin 8 => ⟨S512x128, shapeCast S512x128 (B.o n) shapeCasts_S1x1x512x128_S512x128⟩)
        (concat_ofFn concat_slabs _))
      (shapeCast S1024x1024 B.wo shapeCasts_S1024x1024_S1024x1024) (constant S512x1024 .f32 0x00000000#32))

/-- A block's segments as they are stored in the reordering buffer, last first. -/
def segPieces (x : FVec F S512x1024 .f32) : List (View.Piece (Elt F) S8x576x128 .f32) :=
  List.ofFn fun n : Fin 64 => ⟨segRect (slab 8 n.rev rfl) (inSlab 8 n.rev rfl),
    shapeCast S1x64x128 (extractStridedSlice S64x128 ![64 * (inSlab 8 n.rev rfl).val, 128 * (slab 8 n.rev rfl).val] x (slices_seg _ _))
      shapeCasts_S64x128_S1x64x128⟩

/-- The interleaved block: rows 72 apart of the buffer, read back group by group. -/
def inter (v : View sig .tc .vmem S8x576x128 .f32) (x : FVec F S512x1024 .f32) : FVec F S512x1024 .f32 :=
  concatenate S512x1024 1 (List.ofFn fun c : Fin 8 => ⟨S512x128,
    concatenate S512x128 0 (List.ofFn fun j : Fin 64 => ⟨S8x128,
      shapeCast S8x128 (v.readCov (Val := Elt F) (segPieces x) (rowRect c j).toLoadRect) shapeCasts_S1x8x128_S8x128⟩) (concat_ofFn concat_rows _)⟩)
    (concat_ofFn concat_slabs _)

/-- The norm of a block's rows. -/
def rmsV (x : FVec F S512x1024 .f32) (w : FVec F S1x1024 .f32) : FVec F S512x1024 .f32 :=
  mulf (mulf x (broadcastTo S512x1024 (rsqrt (addf (divf
    (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 w broadcasts_S1x1024_S512x1024)

/-! ## The layer's input -/

/-- One chunk of the layer's input. -/
def upV (x : FVec F S512x1024 .bf16) (w : Vec F S1x1024x256 .bf16) : FVec F S512x256 .f32 :=
  matmul dot_S512x1024_S1024x256_S512x256_1_0_0_1_n_n none x (shapeCast S1024x256 w shapeCasts_S1x1024x256_S1024x256)
    (constant S512x256 .f32 0x00000000#32)

/-- The first `n` chunks of the layer's input as they are stored, last first. -/
def upPieces (x : FVec F S512x1024 .bf16) (w : Fin 22 → Vec F S1x1024x256 .bf16) (n : ℕ) (hn : n ≤ 22) :
    List (View.Piece (Elt F) S22x512x256 .f32) :=
  List.ofFn fun i : Fin n => ⟨upRect (i.rev.castLE hn), shapeCast S1x512x256 (upV x (w (i.rev.castLE hn))) shapeCasts_S512x256_S1x512x256⟩

/-- Chunk `e` read back, after the next pair of chunks has been stored. -/
def upAt (v : View sig .tc .vmem S22x512x256 .f32) (x : FVec F S512x1024 .bf16) (w : Fin 22 → Vec F S1x1024x256 .bf16) (e : Fin 22) :
    FVec F S512x256 .f32 :=
  shapeCast S512x256 (v.readCov (Val := Elt F) (upPieces x w (min (e.val / 2 * 2 + 4) 22) (Nat.min_le_right _ _)) (upRect e).toLoadRect)
    shapeCasts_S1x512x256_S512x256

/-! ## The convolution -/

/-- A block's last eight rows, each one row down. -/
def topV (y : FVec F S512x256 .f32) : FVec F S8x256 .f32 :=
  dynamicRotate 0 1#32 none (extractStridedSlice S8x256 ![504, 0] y slices_S512x256_o504_0_S8x256) rotates_S8x256_d0

/-- A block moved by one token, the first coming from the carried rows. -/
def shiftV (y : FVec F S512x256 .f32) (c : Vec F S1x1x8x256 .f32) : FVec F S512x256 .f32 :=
  concatenate S512x256 0 [⟨S8x256, select (cmpi .eq (iota .tc S8x256 32 [0] iota_S8x256_d0_w32) (broadcast S8x256 0#32))
      (shapeCast S8x256 c shapeCasts_S1x1x8x256_S8x256) (topV y)⟩,
    ⟨S504x256, extractStridedSlice S504x256 ![0, 0] y slices_S512x256_o0_0_S504x256⟩] concatenates_S8x256_S504x256_S512x256_d0

/-- A block times the first of its chunk's three weights. -/
def tap0 (u : FVec F S512x256 .f32) (w : Vec F S1x3x256 .f32) : FVec F S512x256 .f32 :=
  mulf u (broadcastTo S512x256 (extractStridedSlice S1x256 ![0, 0] (shapeCast S3x256 w shapeCasts_S1x3x256_S3x256) slices_S3x256_o0_0_S1x256)
    broadcasts_S1x256_S512x256)

/-- The first two weights' part of the convolution. -/
def conv1 (u : FVec F S512x256 .f32) (w : Vec F S1x3x256 .f32) (c0 : Vec F S1x1x8x256 .f32) : FVec F S512x256 .f32 :=
  addf (shiftV (tap0 u w) c0) (mulf u (broadcastTo S512x256 (extractStridedSlice S1x256 ![1, 0] (shapeCast S3x256 w shapeCasts_S1x3x256_S3x256)
    slices_S3x256_o1_0_S1x256) broadcasts_S1x256_S512x256))

/-- The convolution of one chunk. -/
def conv2 (u : FVec F S512x256 .f32) (w : Vec F S1x3x256 .f32) (b : Vec F S1x1x256 .f32) (c0 c1 : Vec F S1x1x8x256 .f32) : FVec F S512x256 .f32 :=
  addf (addf (shiftV (conv1 u w c0) c1) (mulf u (broadcastTo S512x256 (extractStridedSlice S1x256 ![2, 0] (shapeCast S3x256 w
    shapeCasts_S1x3x256_S3x256) slices_S3x256_o2_0_S1x256) broadcasts_S1x256_S512x256)))
    (broadcastTo S512x256 (shapeCast S1x256 b shapeCasts_S1x1x256_S1x256) broadcasts_S1x256_S512x256)

/-- How a chunk's carried rows are read, from what has been stored there. -/
abbrev Rd (F : FTy → Type) := List (View.Piece (Elt F) S22x2x8x256 .f32) → Fin 22 → Fin 2 → Vec F S1x1x8x256 .f32

/-- A chunk's number. -/
def chunk (n : ℕ) : Fin 22 := Fin.ofNat 22 n

section
variable (L₀ : List (View.Piece (Elt F) S22x2x8x256 .f32)) (rd : Rd F) (u : Fin 22 → FVec F S512x256 .f32) (w : Fin 22 → Vec F S1x3x256 .f32)
  (b : Fin 22 → Vec F S1x1x256 .f32)

/-- The carried rows with the first of chunk `e`'s stored. -/
def carHalf (L : List (View.Piece (Elt F) S22x2x8x256 .f32)) (e : Fin 22) : List (View.Piece (Elt F) S22x2x8x256 .f32) :=
  ⟨carRect e 0, shapeCast S1x1x8x256 (topV (tap0 (u e) (w e))) shapeCasts_S8x256_S1x1x8x256⟩ :: L

/-- The carried rows after the first `n` chunks, as they are stored, last first. -/
def carPieces : ℕ → List (View.Piece (Elt F) S22x2x8x256 .f32)
  | 0 => L₀
  | n + 1 => ⟨carRect (chunk n) 1, shapeCast S1x1x8x256 (topV (conv1 (u (chunk n)) (w (chunk n)) (rd (carPieces n) (chunk n) 0)))
      shapeCasts_S8x256_S1x1x8x256⟩ :: carHalf u w (carPieces n) (chunk n)

/-- The convolution of chunk `e`. -/
def convE (e : Fin 22) : FVec F S512x256 .f32 :=
  conv2 (u e) (w e) (b e) (rd (carPieces L₀ rd u w e.val) e 0) (rd (carHalf u w (carPieces L₀ rd u w e.val) e) e 1)

end

/-! ## The gate and the result -/

/-- The gated product of one pair of chunks. -/
def gateV (a g : FVec F S512x256 .f32) : FVec F S512x256 .bf16 :=
  shapeCast S512x256 (truncf .bf16 (mulf (mulf g (divf (broadcast S512x256 (Scalar.ofBits .f32 0x3F800000#32))
    (addf (broadcast S512x256 (Scalar.ofBits .f32 0x3F800000#32)) (exp2 (mulf g (broadcast S512x256 (Named.named κ "neg_log2e" 0xBFB8AA3B#32)))))))
    a) bitsLt_bf16_f32) shapeCasts_S512x256_S512x256

/-- The gated product as it is stored, last chunk first. -/
def actPieces (y : Fin 22 → FVec F S512x256 .f32) : List (View.Piece (Elt F) S512x2816 .bf16) :=
  List.ofFn fun n : Fin 11 => ⟨actRect n.rev, gateV (y ⟨2 * n.rev.val, by omega⟩) (y ⟨2 * n.rev.val + 1, by omega⟩)⟩

/-- A block's rows as they are stored in the reordering buffer, over the segments, last first. -/
def rowPieces (x y : FVec F S512x1024 .f32) : List (View.Piece (Elt F) S8x576x128 .f32) :=
  (List.ofFn fun n : Fin 512 => ⟨rowRect (slab 64 n.rev rfl) (inSlab 64 n.rev rfl),
    shapeCast S1x8x128 (extractStridedSlice S8x128 ![8 * (inSlab 64 n.rev rfl).val, 128 * (slab 64 n.rev rfl).val] y (slices_rows _ _))
      shapeCasts_S8x128_S1x8x128⟩) ++ segPieces x

/-- The output's segments, last first. -/
def outPieces (v : View sig .tc .vmem S8x576x128 .f32) (x y : FVec F S512x1024 .f32) : List (View.Piece (Elt F) S1x512x1024 .f32) :=
  List.ofFn fun n : Fin 64 => ⟨outRect (slab 8 n.rev rfl) (inSlab 8 n.rev rfl),
    shapeCast S1x64x128 (shapeCast S64x128
      (v.readCov (Val := Elt F) (rowPieces x y) (segRect (slab 8 n.rev rfl) (inSlab 8 n.rev rfl)).toLoadRect) shapeCasts_S1x64x128_S64x128)
      shapeCasts_S64x128_S1x64x128⟩

/-- The scratch buffers a point works in. -/
structure Scratch where
  p : View sig .tc .vmem S8x576x128 .f32
  u : View sig .tc .vmem S22x512x256 .f32
  a : View sig .tc .vmem S512x2816 .bf16

variable (S : Scratch) (B : Blocks F)

/-- The normed interleaved block. -/
def hnV : FVec F S512x1024 .bf16 :=
  truncf .bf16 (rmsV (inter S.p (mixV B)) (shapeCast S1x1024 B.nw shapeCasts_S1x1x1024_S1x1024)) bitsLt_bf16_f32

/-- The layer's input's chunks. -/
def uV (e : Fin 22) : FVec F S512x256 .f32 := upAt S.u (hnV S B) B.wi e

/-- The convolved chunks. -/
def yV (L₀ : List (View.Piece (Elt F) S22x2x8x256 .f32)) (rd : Rd F) (e : Fin 22) : FVec F S512x256 .f32 :=
  convE L₀ rd (uV S B) B.cw B.cb e

/-- The point's result, interleaved. -/
def finV (L₀ : List (View.Piece (Elt F) S22x2x8x256 .f32)) (rd : Rd F) : FVec F S512x1024 .f32 :=
  rmsV (addf (inter S.p (mixV B)) (matmul dot_S512x2816_S2816x1024_S512x1024_1_0_0_1_n_n none
    (S.a.readCov (Val := Elt F) (actPieces (yV S B L₀ rd)) actAll.toLoadRect)
    (shapeCast S2816x1024 B.wu shapeCasts_S1x2816x1024_S2816x1024) (constant S512x1024 .f32 0x00000000#32)))
    (shapeCast S1x1024 B.fw shapeCasts_S1x1024_S1x1024)

/-- What the point stores in its output block. -/
def outL (L₀ : List (View.Piece (Elt F) S22x2x8x256 .f32)) (rd : Rd F) : List (View.Piece (Elt F) S1x512x1024 .f32) :=
  outPieces S.p (mixV B) (finV S B L₀ rd)

/-- What the point carries to the next. -/
def carL (L₀ : List (View.Piece (Elt F) S22x2x8x256 .f32)) (rd : Rd F) : List (View.Piece (Elt F) S22x2x8x256 .f32) :=
  carPieces L₀ rd (uV S B) B.cw 22

end Cert.Ffn
end
-- ==== Proof.FfnRun.lean ====
module

public import proofs.«01_k».proof.Proof.Gen.Kernel2Ideal.Frame
public import proofs.«01_k».proof.Proof.Ffn
public import Idealize.ShloMosaic.Lib.Tactic

/-! # What a grid point of the feed-forward kernel stores, in the model's steps -/

@[expose] public section

set_option maxRecDepth 16384
set_option maxHeartbeats 4000000

noncomputable section

namespace Cert.FfnRun

open Idealize.ShloMosaic Idealize.SL.Sem Cert.Kernel2Ideal Cert.Kernel2Ideal.Gen Cert.Ffn

variable {F : FTy → Type} [FloatOps F] [Named F]

variable (c : Dev nD)
  (i : grid0.Coords) (arg2 : Memref sig .tc .vmem S1x512x1024 .f32) (harg2 : arg2.IsWhole)
  (arg3 : Memref sig .tc .vmem S1x8x512x128 .bf16) (harg3 : arg3.IsWhole) (arg4 : Memref sig .tc .vmem S1024x1024 .bf16)
  (harg4 : arg4.IsWhole) (arg5 : Memref sig .tc .vmem S1x1x1024 .f32) (harg5 : arg5.IsWhole) (arg6 : Memref sig .tc .vmem S1x1024x5632 .bf16)
  (harg6 : arg6.IsWhole) (arg7 : Memref sig .tc .vmem S1x3x5632 .f32) (harg7 : arg7.IsWhole) (arg8 : Memref sig .tc .vmem S1x1x5632 .f32)
  (harg8 : arg8.IsWhole) (arg9 : Memref sig .tc .vmem S1x2816x1024 .bf16) (harg9 : arg9.IsWhole) (arg10 : Memref sig .tc .vmem S1x1024 .f32)
  (harg10 : arg10.IsWhole) (arg11 : Memref sig .tc .vmem S1x512x1024 .f32) (harg11 : arg11.IsWhole)
  (arg12 : Memref sig .tc .vmem S8x576x128 .f32) (harg12 : arg12.IsWhole) (arg13 : Memref sig .tc .vmem S22x512x256 .f32)
  (harg13 : arg13.IsWhole) (arg14 : Memref sig .tc .vmem S22x2x8x256 .f32) (harg14 : arg14.IsWhole)
  (arg15 : Memref sig .tc .vmem S512x2816 .bf16) (harg15 : arg15.IsWhole)
  (x0 : Vec F S1x512x1024 .f32) (x1 : Vec F S1x8x512x128 .bf16) (x2 : Vec F S1024x1024 .bf16) (x3 : Vec F S1x1x1024 .f32)
  (x4 : Vec F S1x1024x5632 .bf16) (x5 : Vec F S1x3x5632 .f32) (x6 : Vec F S1x1x5632 .f32) (x7 : Vec F S1x2816x1024 .bf16) (x8 : Vec F S1x1024 .f32)
  (xs2 : Vec F S22x2x8x256 .f32)

/-- A point's blocks, as it loads them from the staging buffers. -/
def blocks : Blocks F where
  h := View.readAt (Elt F) arg2.view (Rect.unit ![0, 0, 0] S1x512x1024.size inb_S1x512x1024_S1x512x1024_0_0_0).toLoadRect (harg2.unread x0)
  o n := View.readAt (Elt F) arg3.view (mixRect n).toLoadRect (harg3.unread x1)
  wo := View.readAt (Elt F) arg4.view (Rect.unit ![0, 0] S1024x1024.size inb_S1024x1024_S1024x1024_0_0).toLoadRect (harg4.unread x2)
  nw := View.readAt (Elt F) arg5.view (Rect.unit ![0, 0, 0] S1x1x1024.size inb_S1x1x1024_S1x1x1024_0_0_0).toLoadRect (harg5.unread x3)
  wi e := View.readAt (Elt F) arg6.view (winRect e).toLoadRect (harg6.unread x4)
  cw e := View.readAt (Elt F) arg7.view (cwRect e).toLoadRect (harg7.unread x5)
  cb e := View.readAt (Elt F) arg8.view (cbRect e).toLoadRect (harg8.unread x6)
  wu := View.readAt (Elt F) arg9.view (Rect.unit ![0, 0, 0] S1x2816x1024.size inb_S1x2816x1024_S1x2816x1024_0_0_0).toLoadRect (harg9.unread x7)
  fw := View.readAt (Elt F) arg10.view (Rect.unit ![0, 0] S1x1024.size inb_S1x1024_S1x1024_0_0).toLoadRect (harg10.unread x8)

/-- The scratch a point works in. -/
def scratch : Scratch where
  p := arg12.view
  u := arg13.view
  a := arg15.view

/-- The carried rows set to zero, before a row of blocks. -/
def zeroed : List (View.Piece (Elt F) S22x2x8x256 .f32) :=
  [⟨Rect.unit ![0, 0, 0, 0] S22x2x8x256.size inb_S22x2x8x256_S22x2x8x256_0_0_0_0, shapeCast S22x2x8x256 (broadcast S22x2x8x256
    (Scalar.ofBits .f32 0x00000000#32)) shapeCasts_S22x2x8x256_S22x2x8x256⟩]

/-- Carried rows read from what this point has stored. -/
def rdA : Rd F := fun L e k => arg14.view.readCov (Val := Elt F) L (carRect e k).toLoadRect

/-- Carried rows read from what the point before left. -/
def rdB : Rd F := fun _ e k => View.readAt (Elt F) arg14.view (carRect e k).toLoadRect (harg14.unread xs2)

/-- The pieces of the output block, at the first block of a row. -/
theorem run_A_out (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1
      = outL (scratch arg12 arg13 arg15) (blocks arg2 harg2 arg3 harg3 arg4 harg4 arg5 harg5 arg6 harg6 arg7 harg7 arg8 harg8 arg9 harg9 arg10 harg10
        x0 x1 x2 x3 x4 x5 x6 x7 x8) zeroed (rdA arg14) := by
  sl_kernel_rfl

/-- The pieces of the carried rows, at the first block of a row. -/
theorem run_A_car (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1
      = carL (scratch arg12 arg13 arg15) (blocks arg2 harg2 arg3 harg3 arg4 harg4 arg5 harg5 arg6 harg6 arg7 harg7 arg8 harg8 arg9 harg9 arg10 harg10
        x0 x1 x2 x3 x4 x5 x6 x7 x8) zeroed (rdA arg14) := by
  sl_kernel_rfl

/-- The pieces of the output block, at a later block. -/
theorem run_B_out (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs2).1
      = outL (scratch arg12 arg13 arg15) (blocks arg2 harg2 arg3 harg3 arg4 harg4 arg5 harg5 arg6 harg6 arg7 harg7 arg8 harg8 arg9 harg9 arg10 harg10
        x0 x1 x2 x3 x4 x5 x6 x7 x8) [] (rdB arg14 harg14 xs2) := by
  sl_kernel_rfl

/-- The pieces of the carried rows, at a later block. -/
theorem run_B_car (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs2).2.1
      = carL (scratch arg12 arg13 arg15) (blocks arg2 harg2 arg3 harg3 arg4 harg4 arg5 harg5 arg6 harg6 arg7 harg7 arg8 harg8 arg9 harg9 arg10 harg10
        x0 x1 x2 x3 x4 x5 x6 x7 x8) [] (rdB arg14 harg14 xs2) := by
  sl_kernel_rfl

end Cert.FfnRun
end
-- ==== Proof.FfnRead.lean ====
module

public import proofs.«01_k».proof.Proof.Ffn
public import proofs.«01_k».proof.Proof.Layer
public import Idealize.ShloMosaic.Lib.Tactic.CleanTypes
public import Idealize.ShloMosaic.Lib.Pipeline.ValueKit
public import Idealize.ShloMosaic.Lib.Pipeline.CanonAppend
public import Idealize.ShloMosaic.Lib.Pipeline.ReadBack
public import Idealize.ShloMosaic.Lib.Pointwise
public import Idealize.ShloMosaic.Lib.WholeRead

/-! # The feed-forward kernel's steps at an index, over extended reals -/

@[expose] public section

set_option maxRecDepth 16384

noncomputable section

namespace Cert.FfnRead

open Idealize.ShloMosaic Cert.Kernel2Ideal Cert.Kernel2Ideal.Gen Cert.Ffn

/-! ## The reordering buffer -/

/-- A payload of one segment. -/
theorem seg_pay (x : FVec Ideal S512x1024 .f32) (c s : Fin 8) (h : S512x1024.Slices ![64 * s.val, 128 * c.val] S64x128) (j : Fin 64) (l : Fin 128) :
    (shapeCast S1x64x128 (extractStridedSlice S64x128 ![64 * s.val, 128 * c.val] x h) shapeCasts_S64x128_S1x64x128 (ix3 0 j l) : EReal)
      = x (ix2 ⟨64 * s.val + j.val, by omega⟩ ⟨128 * c.val + l.val, by omega⟩) := by
  pointwise

/-- A payload of one group of rows. -/
theorem row_pay (x : FVec Ideal S512x1024 .f32) (c : Fin 8) (j : Fin 64) (h : S512x1024.Slices ![8 * j.val, 128 * c.val] S8x128) (s : Fin 8) (l : Fin 128) :
    (shapeCast S1x8x128 (extractStridedSlice S8x128 ![8 * j.val, 128 * c.val] x h) shapeCasts_S8x128_S1x8x128 (ix3 0 s l) : EReal)
      = x (ix2 ⟨8 * j.val + s.val, by omega⟩ ⟨128 * c.val + l.val, by omega⟩) := by
  pointwise

/-- Where a segment's entry lies. -/
theorem segRect_idx (c s : Fin 8) (j : Fin 64) (l : Fin 128) :
    (segRect c s).toLoadRect.idx (ix3 0 j l) = ix3 c ⟨72 * s.val + j.val, by omega⟩ l := by
  funext a
  refine Fin.ext ?_
  show ![c.val, 72 * s.val, 0] a + 1 * _ = _
  fin_cases a <;> simp

/-- Where an entry of a row group lies. -/
theorem rowRect_idx (c : Fin 8) (j : Fin 64) (s : Fin 8) (l : Fin 128) :
    (rowRect c j).toLoadRect.idx (ix3 0 s l) = ix3 c ⟨72 * s.val + j.val, by omega⟩ l := by
  funext a
  refine Fin.ext ?_
  show ![c.val, j.val, 0] a + ![1, 72, 1] a * _ = _
  fin_cases a <;> simp <;> omega

/-- A segment's payload where it lies. -/
theorem seg_piece (x : FVec Ideal S512x1024 .f32) (c s : Fin 8) (j : Fin 64) (l : Fin 128) (c' s' : Fin 8)
    (h : S512x1024.Slices ![64 * s'.val, 128 * c'.val] S64x128) (p : (segRect c' s').shape.Idx)
    (hp : (segRect c' s').emb p = ix3 c ⟨72 * s.val + j.val, by omega⟩ l) :
    (shapeCast S1x64x128 (extractStridedSlice S64x128 ![64 * s'.val, 128 * c'.val] x h) shapeCasts_S64x128_S1x64x128 p : EReal)
      = x (ix2 ⟨64 * s.val + j.val, by omega⟩ ⟨128 * c.val + l.val, by omega⟩) := by
  obtain ⟨j', l', rfl⟩ : ∃ (j' : Fin 64) (l' : Fin 128), p = ix3 0 j' l' := ⟨p 1, p 2, by blk_ext⟩
  have hp' := (segRect_idx c' s' j' l').symm.trans hp
  have e0 := congrArg (fun y : S8x576x128.Idx => (y 0).val) hp'
  have e1 := congrArg (fun y : S8x576x128.Idx => (y 1).val) hp'
  have e2 := congrArg (fun y : S8x576x128.Idx => (y 2).val) hp'
  simp at e0 e1 e2
  refine (seg_pay x c' s' _ j' l').trans (congrArg x ?_)
  blk_ext <;> omega

/-- A row group's payload where it lies. -/
theorem row_piece (x : FVec Ideal S512x1024 .f32) (c s : Fin 8) (j : Fin 64) (l : Fin 128) (c' : Fin 8) (j' : Fin 64)
    (h : S512x1024.Slices ![8 * j'.val, 128 * c'.val] S8x128) (p : (rowRect c' j').shape.Idx)
    (hp : (rowRect c' j').emb p = ix3 c ⟨72 * s.val + j.val, by omega⟩ l) :
    (shapeCast S1x8x128 (extractStridedSlice S8x128 ![8 * j'.val, 128 * c'.val] x h) shapeCasts_S8x128_S1x8x128 p : EReal)
      = x (ix2 ⟨8 * j.val + s.val, by omega⟩ ⟨128 * c.val + l.val, by omega⟩) := by
  obtain ⟨s', l', rfl⟩ : ∃ (s' : Fin 8) (l' : Fin 128), p = ix3 0 s' l' := ⟨p 1, p 2, by blk_ext⟩
  have hp' := (rowRect_idx c' j' s' l').symm.trans hp
  have e0 := congrArg (fun y : S8x576x128.Idx => (y 0).val) hp'
  have e1 := congrArg (fun y : S8x576x128.Idx => (y 1).val) hp'
  have e2 := congrArg (fun y : S8x576x128.Idx => (y 2).val) hp'
  simp at e0 e1 e2
  refine (row_pay x c' j' _ s' l').trans (congrArg x ?_)
  blk_ext <;> omega

/-- The segments stored, at an index. -/
theorem seg_at (x : FVec Ideal S512x1024 .f32) (c s : Fin 8) (j : Fin 64) (l : Fin 128) :
    (View.canon (Val := Elt Ideal) (segPieces x) (ix3 c ⟨72 * s.val + j.val, by omega⟩ l) : EReal)
      = x (ix2 ⟨64 * s.val + j.val, by omega⟩ ⟨128 * c.val + l.val, by omega⟩) := by
  unfold segPieces
  refine View.canon_ofFn_eq_of_forall _ _ _ _ ⟨(⟨8 * c.val + s.val, by omega⟩ : Fin 64).rev, ?_⟩
    fun n p hp => seg_piece x c s j l _ _ _ p hp
  have hc : slab 8 ((⟨8 * c.val + s.val, by omega⟩ : Fin 64).rev).rev rfl = c := Fin.ext (by simp [slab]; omega)
  have hs : inSlab 8 ((⟨8 * c.val + s.val, by omega⟩ : Fin 64).rev).rev rfl = s := Fin.ext (by simp [inSlab])
  rw [hc, hs, ← segRect_idx]
  exact LoadRect.idx_mem _ _

/-- What the rows stored over the segments hold, anywhere in the buffer. -/
def rowsG (y : FVec Ideal S512x1024 .f32) : S8x576x128.Idx → EReal := fun z =>
  y (ix2 ⟨(8 * ((z 1).val % 72) + (z 1).val / 72) % 512, Nat.mod_lt _ (by decide)⟩
    ⟨128 * (z 0).val + (z 2).val, by
      have : (z 0).val < 8 := (z 0).isLt
      have : (z 2).val < 128 := (z 2).isLt
      omega⟩)

theorem rowsG_at (y : FVec Ideal S512x1024 .f32) (c s : Fin 8) (j : Fin 64) (l : Fin 128) :
    rowsG y (ix3 c ⟨72 * s.val + j.val, by omega⟩ l) = y (ix2 ⟨8 * j.val + s.val, by omega⟩ ⟨128 * c.val + l.val, by omega⟩) := by
  unfold rowsG
  refine congrArg y ?_
  have h1 : (72 * s.val + j.val) / 72 = s.val := by omega
  have h2 : (72 * s.val + j.val) % 72 = j.val := by omega
  blk_ext <;> simp only [h1, h2] <;> omega

/-- Rows stored over the segments, at an index. -/
theorem rows_at (x y : FVec Ideal S512x1024 .f32) (c s : Fin 8) (j : Fin 64) (l : Fin 128) :
    (View.canon (Val := Elt Ideal) (rowPieces x y) (ix3 c ⟨72 * s.val + j.val, by omega⟩ l) : EReal)
      = y (ix2 ⟨8 * j.val + s.val, by omega⟩ ⟨128 * c.val + l.val, by omega⟩) := by
  unfold rowPieces
  refine (View.canon_append_of_pieces (rowsG y) _ _ (fun p hp z => ?_) _ ?_).trans (rowsG_at y c s j l)
  · obtain ⟨n, rfl⟩ := (List.mem_ofFn' _ _).1 hp
    obtain ⟨s', l', rfl⟩ : ∃ (s' : Fin 8) (l' : Fin 128), z = ix3 0 s' l' := ⟨z 1, z 2, by blk_ext⟩
    refine (row_pay y _ _ (slices_rows _ _) s' l').trans ((rowsG_at y _ s' _ l').symm.trans (congrArg (rowsG y) (rowRect_idx _ _ s' l').symm))
  · refine ⟨_, (List.mem_ofFn' _ _).2 ⟨(⟨64 * c.val + j.val, by omega⟩ : Fin 512).rev, rfl⟩, ?_⟩
    have hc : slab 64 ((⟨64 * c.val + j.val, by omega⟩ : Fin 512).rev).rev rfl = c := Fin.ext (by simp [slab]; omega)
    have hs : inSlab 64 ((⟨64 * c.val + j.val, by omega⟩ : Fin 512).rev).rev rfl = j := Fin.ext (by simp [inSlab])
    show _ ∈ (rowRect (slab 64 _ _) (inSlab 64 _ _)).set
    rw [hc, hs, ← rowRect_idx]
    exact LoadRect.idx_mem _ _

/-! ## The interleaving -/

/-- Eight slabs side by side, at an index. -/
theorem slabs_at {φ : FTy} (f : Fin 8 → FVec Ideal S512x128 φ) (h) (i : Fin 512) (d : Fin 1024) :
    (concatenate S512x1024 1 (List.ofFn fun n : Fin 8 => (⟨S512x128, f n⟩ : (s : Shape) × (s.Idx → EReal))) h (ix2 i d) : EReal)
      = f ⟨d.val / 128, by omega⟩ (ix2 i ⟨d.val % 128, by omega⟩) :=
  concatenate_ofFn_apply 1 f h rfl 128 rfl _ _ rfl _ rfl fun b hb => by
    fin_cases b <;> first | rfl | exact absurd rfl hb

/-- Sixty-four groups of rows one over the other, at an index. -/
theorem groups_at {φ : FTy} (f : Fin 64 → FVec Ideal S8x128 φ) (h) (i : Fin 512) (l : Fin 128) :
    (concatenate S512x128 0 (List.ofFn fun n : Fin 64 => (⟨S8x128, f n⟩ : (s : Shape) × (s.Idx → EReal))) h (ix2 i l) : EReal)
      = f ⟨i.val / 8, by omega⟩ (ix2 ⟨i.val % 8, by omega⟩ l) :=
  concatenate_ofFn_apply 0 f h rfl 8 rfl _ _ rfl _ rfl fun b hb => by
    fin_cases b <;> first | rfl | exact absurd rfl hb

/-- A group of rows without its leading axis. -/
theorem cast_group (x : FVec Ideal S1x8x128 .f32) (s : Fin 8) (l : Fin 128) :
    (shapeCast S8x128 x shapeCasts_S1x8x128_S8x128 (ix2 s l) : EReal) = x (ix3 0 s l) := by
  pointwise

/-- A row's token in its block. -/
def tok (i : Fin 512) : Fin 512 := ⟨i.val % 8 * 64 + i.val / 8, by omega⟩

/-- A block interleaved, at an index. -/
theorem inter_at (v : View sig .tc .vmem S8x576x128 .f32) (x : FVec Ideal S512x1024 .f32) (i : Fin 512) (d : Fin 1024) :
    (inter v x (ix2 i d) : EReal) = x (ix2 (tok i) d) := by
  unfold inter
  refine (slabs_at _ _ i d).trans ((groups_at _ _ i _).trans ((cast_group _ _ _).trans ?_))
  refine (congrFun (View.readCov_eq_canon' _ _ _) _).trans ((congrArg (View.canon _) (rowRect_idx _ _ _ _)).trans ?_)
  refine (seg_at x ⟨d.val / 128, by omega⟩ ⟨i.val % 8, by omega⟩ ⟨i.val / 8, by omega⟩ ⟨d.val % 128, by omega⟩).trans (congrArg x ?_)
  unfold tok
  blk_ext <;> omega

/-- A segment of the output in its block's shape. -/
theorem cast_seg (x : FVec Ideal S1x64x128 .f32) (j : Fin 64) (l : Fin 128) :
    (shapeCast S1x64x128 (shapeCast S64x128 x shapeCasts_S1x64x128_S64x128) shapeCasts_S64x128_S1x64x128 (ix3 0 j l) : EReal) = x (ix3 0 j l) := by
  pointwise

/-- Where an entry of an output segment lies. -/
theorem outRect_idx (c s : Fin 8) (j : Fin 64) (l : Fin 128) :
    (outRect c s).toLoadRect.idx (ix3 0 j l) = ix3 0 ⟨64 * s.val + j.val, by omega⟩ ⟨128 * c.val + l.val, by omega⟩ := by
  funext a
  refine Fin.ext ?_
  show ![0, 64 * s.val, 128 * c.val] a + 1 * _ = _
  fin_cases a <;> simp

/-- A token's row in its interleaved block. -/
def row (t : Fin 512) : Fin 512 := ⟨t.val % 64 * 8 + t.val / 64, by omega⟩

theorem tok_row (t : Fin 512) : tok (row t) = t := by
  have h1 : (t.val % 64 * 8 + t.val / 64) / 8 = t.val % 64 := by omega
  have h2 : (t.val % 64 * 8 + t.val / 64) % 8 = t.val / 64 := by omega
  refine Fin.ext ?_
  show (t.val % 64 * 8 + t.val / 64) % 8 * 64 + (t.val % 64 * 8 + t.val / 64) / 8 = t.val
  rw [h1, h2]
  omega

/-- The output's segments, at an index. -/
theorem out_at (v : View sig .tc .vmem S8x576x128 .f32) (x y : FVec Ideal S512x1024 .f32) (t : Fin 512) (d : Fin 1024) :
    (View.canon (Val := Elt Ideal) (outPieces v x y) (ix3 0 t d) : EReal) = y (ix2 (row t) d) := by
  unfold outPieces
  refine View.canon_ofFn_eq_of_forall _ _ _ _ ⟨(⟨8 * (d.val / 128) + t.val / 64, by omega⟩ : Fin 64).rev, ?_⟩ fun n p hp => ?_
  · have hc : slab 8 ((⟨8 * (d.val / 128) + t.val / 64, by omega⟩ : Fin 64).rev).rev rfl = ⟨d.val / 128, by omega⟩ := Fin.ext (by simp [slab]; omega)
    have hs : inSlab 8 ((⟨8 * (d.val / 128) + t.val / 64, by omega⟩ : Fin 64).rev).rev rfl = ⟨t.val / 64, by omega⟩ := Fin.ext (by simp [inSlab]; omega)
    rw [hc, hs]
    have e : ix3 0 t d = (outRect ⟨d.val / 128, by omega⟩ ⟨t.val / 64, by omega⟩).toLoadRect.idx (ix3 0 ⟨t.val % 64, by omega⟩ ⟨d.val % 128, by omega⟩) := by
      rw [outRect_idx]
      blk_ext <;> omega
    rw [e]
    exact LoadRect.idx_mem _ _
  · obtain ⟨j', l', rfl⟩ : ∃ (j' : Fin 64) (l' : Fin 128), p = ix3 0 j' l' := ⟨p 1, p 2, by blk_ext⟩
    have hp' := (outRect_idx _ _ j' l').symm.trans hp
    have e1 := congrArg (fun y : S1x512x1024.Idx => (y 1).val) hp'
    have e2 := congrArg (fun y : S1x512x1024.Idx => (y 2).val) hp'
    simp at e1 e2
    refine (cast_seg _ j' l').trans ?_
    refine (congrFun (View.readCov_eq_canon' _ _ _) _).trans ((congrArg (View.canon _) (segRect_idx _ _ _ _)).trans ?_)
    refine (rows_at x y _ _ j' l').trans (congrArg y ?_)
    unfold row
    blk_ext <;> omega

end Cert.FfnRead
end
-- ==== Proof.FfnVal.lean ====
module

public import proofs.«01_k».proof.Proof.FfnRead

/-! # The feed-forward kernel's arithmetic at an index, over extended reals -/

@[expose] public section

set_option maxRecDepth 16384

noncomputable section

namespace Cert.FfnVal

open Idealize.ShloMosaic Cert.Kernel2Ideal Cert.Kernel2Ideal.Gen Cert.Ffn Cert.FfnRead

/-! ## The residual stream and the norm -/

theorem cast_head (x : FVec Ideal S1x1x512x128 .bf16) (i : Fin 512) (l : Fin 128) :
    (shapeCast S512x128 x shapeCasts_S1x1x512x128_S512x128 (ix2 i l) : EReal) = x (ix4 0 0 i l) := by
  pointwise

/-- A block plus a product, at an index. -/
theorem mix_sum (h : FVec Ideal S1x512x1024 .f32) (x : FVec Ideal S512x1024 .bf16) (w : FVec Ideal S1024x1024 .bf16) (i : Fin 512) (d : Fin 1024) :
    (addf (shapeCast S512x1024 h shapeCasts_S1x512x1024_S512x1024)
      (matmul dot_S512x1024_S1024x1024_S512x1024_1_0_0_1_n_n none x
        (shapeCast S1024x1024 w shapeCasts_S1024x1024_S1024x1024) (constant S512x1024 .f32 0x00000000#32)) (ix2 i d) : EReal)
      = h (ix3 0 i d) + ∑ k : Fin 1024, x (ix2 i k) * w (ix2 k d) := by
  pointwise

/-- The residual stream after the attention's projection. -/
theorem mixV_at (B : Blocks Ideal) (i : Fin 512) (d : Fin 1024) :
    (mixV B (ix2 i d) : EReal) = B.h (ix3 0 i d) + ∑ k : Fin 1024, B.o ⟨k.val / 128, by omega⟩ (ix4 0 0 i ⟨k.val % 128, by omega⟩) * B.wo (ix2 k d) := by
  unfold mixV
  refine (mix_sum _ _ _ i d).trans (congrArg _ (Finset.sum_congr rfl fun k _ => congrArg (· * _) ?_))
  exact (slabs_at _ _ i k).trans (cast_head _ _ _)

/-- The norm of a block's rows. -/
theorem rmsV_at (x : FVec Ideal S512x1024 .f32) (w : FVec Ideal S1x1024 .f32) (i : Fin 512) (d : Fin 1024) :
    (rmsV x w (ix2 i d) : EReal) = Layer.rms (fun k => x (ix2 i k)) (fun k => w (ix2 0 k)) d := by
  pointwise [rmsV, Layer.rms]

/-! ## The layer's input -/

/-- One chunk of the layer's input. -/
theorem upV_at (x : FVec Ideal S512x1024 .bf16) (w : FVec Ideal S1x1024x256 .bf16) (i : Fin 512) (l : Fin 256) :
    (upV x w (ix2 i l) : EReal) = ∑ k : Fin 1024, x (ix2 i k) * w (ix3 0 k l) := by
  pointwise [upV]

theorem cast_chunk (x : FVec Ideal S1x512x256 .f32) (i : Fin 512) (l : Fin 256) :
    (shapeCast S512x256 x shapeCasts_S1x512x256_S512x256 (ix2 i l) : EReal) = x (ix3 0 i l) := by
  pointwise

theorem chunk_cast (x : FVec Ideal S512x256 .f32) (i : Fin 512) (l : Fin 256) :
    (shapeCast S1x512x256 x shapeCasts_S512x256_S1x512x256 (ix3 0 i l) : EReal) = x (ix2 i l) := by
  pointwise

/-- Where an entry of a chunk lies. -/
theorem upRect_idx (e : Fin 22) (i : Fin 512) (l : Fin 256) : (upRect e).toLoadRect.idx (ix3 0 i l) = ix3 e i l := by
  funext a
  refine Fin.ext ?_
  show ![e.val, 0, 0] a + 1 * _ = _
  fin_cases a <;> simp

/-- A chunk read back. -/
theorem upAt_at (v : View sig .tc .vmem S22x512x256 .f32) (x : FVec Ideal S512x1024 .bf16) (w : Fin 22 → FVec Ideal S1x1024x256 .bf16)
    (e : Fin 22) (i : Fin 512) (l : Fin 256) : (upAt v x w e (ix2 i l) : EReal) = upV x (w e) (ix2 i l) := by
  unfold upAt
  refine (cast_chunk _ i l).trans ?_
  refine (congrFun (View.readCov_eq_canon' _ _ _) _).trans ((congrArg (View.canon _) (upRect_idx _ _ _)).trans ?_)
  have he : e.val < min (e.val / 2 * 2 + 4) 22 := by omega
  have hc : Fin.castLE (Nat.min_le_right (e.val / 2 * 2 + 4) 22) (⟨e.val, he⟩ : Fin (min (e.val / 2 * 2 + 4) 22)) = e := rfl
  unfold upPieces
  refine View.canon_ofFn_eq_of_forall _ _ _ _ ⟨(⟨e.val, he⟩ : Fin (min (e.val / 2 * 2 + 4) 22)).rev, ?_⟩ fun n p hp => ?_
  · rw [Fin.rev_rev, hc, ← upRect_idx]
    exact LoadRect.idx_mem _ _
  · obtain ⟨i', l', rfl⟩ : ∃ (i' : Fin 512) (l' : Fin 256), p = ix3 0 i' l' := ⟨p 1, p 2, by blk_ext⟩
    have hp' := (upRect_idx _ i' l').symm.trans hp
    have h0 : n.rev.castLE (Nat.min_le_right (e.val / 2 * 2 + 4) 22) = e := congrFun hp' 0
    obtain rfl : i' = i := congrFun hp' 1
    obtain rfl : l' = l := congrFun hp' 2
    exact (chunk_cast _ _ _).trans (by rw [h0])

/-! ## The convolution's steps -/

/-- A block's last eight rows moved down: the first is the block's last. -/
theorem topV_at (y : FVec Ideal S512x256 .f32) (j : Fin 8) (l : Fin 256) :
    (topV y (ix2 j l) : EReal) = y (ix2 ⟨504 + (j.val + 8 - 1) % 8, by omega⟩ l) := by
  pointwise [topV]

/-- A row's earlier token: eight rows up, but in the first eight the last rows' tokens. -/
theorem shiftV_at (y : FVec Ideal S512x256 .f32) (c : FVec Ideal S1x1x8x256 .f32) (i : Fin 512) (l : Fin 256) :
    (shiftV y c (ix2 i l) : EReal)
      = if h : i.val < 8 then (if i.val = 0 then c (ix4 0 0 0 l) else y (ix2 ⟨503 + i.val, by omega⟩ l)) else y (ix2 ⟨i.val - 8, by omega⟩ l) := by
  pointwise [shiftV, topV]
  by_cases h : i.val < 8
  · rw [dif_pos h, dif_pos h]
    by_cases h0 : i.val = 0
    · obtain rfl : i = 0 := Fin.ext h0
      rfl
    · rw [if_neg h0]
      have hm : IntOp.cmpi .eq (BitVec.ofNat 32 i.val) 0#32 = 0#1 := by
        interval_cases i.val <;> first | exact absurd rfl h0 | decide
      rw [hm]
      refine congrArg y ?_
      blk_ext <;> omega
  · rw [dif_neg h, dif_neg h]

theorem tap0_at (u : FVec Ideal S512x256 .f32) (w : FVec Ideal S1x3x256 .f32) (i : Fin 512) (l : Fin 256) :
    (tap0 u w (ix2 i l) : EReal) = u (ix2 i l) * w (ix3 0 0 l) := by
  pointwise [tap0]

theorem conv1_at (u : FVec Ideal S512x256 .f32) (w : FVec Ideal S1x3x256 .f32) (c0 : FVec Ideal S1x1x8x256 .f32) (i : Fin 512) (l : Fin 256) :
    (conv1 u w c0 (ix2 i l) : EReal) = shiftV (tap0 u w) c0 (ix2 i l) + u (ix2 i l) * w (ix3 0 1 l) := by
  unfold conv1
  generalize shiftV (tap0 u w) c0 = z
  pointwise

theorem conv2_at (u : FVec Ideal S512x256 .f32) (w : FVec Ideal S1x3x256 .f32) (b : FVec Ideal S1x1x256 .f32) (c0 c1 : FVec Ideal S1x1x8x256 .f32)
    (i : Fin 512) (l : Fin 256) :
    (conv2 u w b c0 c1 (ix2 i l) : EReal) = shiftV (conv1 u w c0) c1 (ix2 i l) + u (ix2 i l) * w (ix3 0 2 l) + b (ix3 0 0 l) := by
  unfold conv2
  generalize shiftV (conv1 u w c0) c1 = z
  pointwise

/-- Carried rows in their buffer's shape. -/
theorem car_cast (x : FVec Ideal S8x256 .f32) (j : Fin 8) (l : Fin 256) :
    (shapeCast S1x1x8x256 x shapeCasts_S8x256_S1x1x8x256 (ix4 0 0 j l) : EReal) = x (ix2 j l) := by
  pointwise

/-! ## The gate and the output's product -/

/-- The gate's factor as the reference's base-two exponential. -/
theorem factor_eq : (Named.named κ "neg_log2e" 0xBFB8AA3B#32 : Ideal .f32) = ((-((Real.log 2)⁻¹) : ℝ) : EReal) :=
  IdealRules.named_const.ideal_named_scalar _ _ _ _ rfl

/-- A base-two exponential of a multiple is the natural exponential of the negative. -/
theorem exp2_factor (g : EReal) : Ideal.exp2 (g * ((-((Real.log 2)⁻¹) : ℝ) : EReal)) = Ideal.exp (-g) := by
  have hl : 0 < Real.log 2 := Real.log_pos (by norm_num)
  have hn : -((Real.log 2)⁻¹) < 0 := by
    have := inv_pos.2 hl
    linarith
  induction g with
  | bot =>
    rw [EReal.bot_mul_coe_of_neg hn]
    rfl
  | top =>
    rw [EReal.top_mul_coe_of_neg hn]
    rfl
  | coe x =>
    rw [← EReal.coe_mul, ← EReal.coe_neg, Ideal.exp2_coe, Ideal.exp_coe]
    refine congrArg _ ((Real.rpow_def_of_pos (by norm_num) _).trans (congrArg _ ?_))
    field_simp

theorem gateV_at (a g : FVec Ideal S512x256 .f32) (i : Fin 512) (l : Fin 256) :
    (gateV a g (ix2 i l) : EReal) = Layer.gate (a (ix2 i l)) (g (ix2 i l)) := by
  pointwise [gateV, Layer.gate]
  show _ * Ideal.div 1 (1 + Ideal.exp2 _) * _ = _
  rw [factor_eq, exp2_factor]

/-- The layer's output added to the residual stream. -/
theorem back_sum (h : FVec Ideal S512x1024 .f32) (x : FVec Ideal S512x2816 .bf16) (w : FVec Ideal S1x2816x1024 .bf16) (i : Fin 512) (d : Fin 1024) :
    (addf h (matmul dot_S512x2816_S2816x1024_S512x1024_1_0_0_1_n_n none x
      (shapeCast S2816x1024 w shapeCasts_S1x2816x1024_S2816x1024) (constant S512x1024 .f32 0x00000000#32)) (ix2 i d) : EReal)
      = h (ix2 i d) + ∑ k : Fin 2816, x (ix2 i k) * w (ix3 0 k d) := by
  pointwise

/-- Where an entry of the gated product's chunk lies. -/
theorem actRect_idx (j : Fin 11) (i : Fin 512) (l : Fin 256) :
    (actRect j).toLoadRect.idx (ix2 i l) = ix2 i ⟨256 * j.val + l.val, by omega⟩ := by
  funext a
  refine Fin.ext ?_
  show ![0, 256 * j.val] a + 1 * _ = _
  fin_cases a <;> simp

theorem actAll_idx (i : Fin 512) (k : Fin 2816) : actAll.toLoadRect.idx (ix2 i k) = ix2 i k := by
  funext a
  refine Fin.ext ?_
  show ![0, 0] a + 1 * _ = _
  fin_cases a <;> simp

/-- The chunk of a lane of the first half. -/
def lo (k : Fin 2816) : Fin 22 := ⟨2 * (k.val / 256), by omega⟩
/-- The chunk of a lane of the second half. -/
def hi (k : Fin 2816) : Fin 22 := ⟨2 * (k.val / 256) + 1, by omega⟩
/-- A lane within its chunk. -/
def lane (k : Fin 2816) : Fin 256 := ⟨k.val % 256, by omega⟩

/-- The gated product read back. -/
theorem act_at (v : View sig .tc .vmem S512x2816 .bf16) (y : Fin 22 → FVec Ideal S512x256 .f32) (i : Fin 512) (k : Fin 2816) :
    (v.readCov (Val := Elt Ideal) (actPieces y) actAll.toLoadRect (ix2 i k) : EReal)
      = Layer.gate (y (lo k) (ix2 i (lane k))) (y (hi k) (ix2 i (lane k))) := by
  refine (congrFun (View.readCov_eq_canon' _ _ _) _).trans ((congrArg (View.canon _) (actAll_idx _ _)).trans ?_)
  unfold actPieces
  refine View.canon_ofFn_eq_of_forall _ _ _ _ ⟨(⟨k.val / 256, by omega⟩ : Fin 11).rev, ?_⟩ fun n p hp => ?_
  · rw [Fin.rev_rev]
    have e : ix2 i k = (actRect ⟨k.val / 256, by omega⟩).toLoadRect.idx (ix2 i (lane k)) := by
      rw [actRect_idx]
      unfold lane
      blk_ext <;> omega
    rw [e]
    exact LoadRect.idx_mem _ _
  · obtain ⟨i', l', rfl⟩ : ∃ (i' : Fin 512) (l' : Fin 256), p = ix2 i' l' := ⟨p 0, p 1, by blk_ext⟩
    have hp' := (actRect_idx _ i' l').symm.trans hp
    obtain rfl : i' = i := congrFun hp' 0
    have e1 := congrArg (fun y : S512x2816.Idx => (y 1).val) hp'
    simp at e1
    have h0 : (⟨2 * n.rev.val, by omega⟩ : Fin 22) = lo k := Fin.ext (by show 2 * n.rev.val = 2 * (k.val / 256); simp; omega)
    have h1 : (⟨2 * n.rev.val + 1, by omega⟩ : Fin 22) = hi k := Fin.ext (by show 2 * n.rev.val + 1 = 2 * (k.val / 256) + 1; simp; omega)
    obtain rfl : l' = lane k := Fin.ext (by show l'.val = k.val % 256; omega)
    refine (gateV_at _ _ _ _).trans ?_
    rw [h0, h1]

end Cert.FfnVal
end
-- ==== Proof.FfnPoint.lean ====
module

public import proofs.«01_k».proof.Proof.FfnVal

/-! # A grid point of the feed-forward kernel computes its tokens of the layer -/

@[expose] public section

set_option maxRecDepth 16384

noncomputable section

namespace Cert.FfnPoint

open Idealize.ShloMosaic Cert.Kernel2Ideal Cert.Kernel2Ideal.Gen Cert.Ffn Cert.FfnRead Cert.FfnVal Cert.Layer

/-- A chunk's lane among all. -/
def col (e : Fin 22) (l : Fin 256) : Fin 5632 := ⟨colOf e + l.val, by
  have := colOf_le e
  omega⟩

/-- A block's token's position in its row. -/
def pos (q : Fin 8) (t : Fin 512) : Fin 4096 := ⟨512 * q.val + t.val, by omega⟩

/-- The blocks a point has loaded are the arguments'. -/
structure Holds (A : Args) (b q : Fin 8) (B : Blocks Ideal) : Prop where
  h : ∀ i d, (B.h (ix3 0 i d) : EReal) = A.h (ix3 b (pos q i) d)
  o : ∀ n i l, (B.o n (ix4 0 0 i l) : EReal) = A.o (ix4 b n (pos q i) l)
  wo : ∀ k d, (B.wo (ix2 k d) : EReal) = A.wo (ix3 0 k d)
  nw : ∀ d, (B.nw (ix3 0 0 d) : EReal) = A.nw (ix2 1 d)
  wi : ∀ e k l, (B.wi e (ix3 0 k l) : EReal) = A.wi (ix3 1 k (col e l))
  cw : ∀ e n l, (B.cw e (ix3 0 n l) : EReal) = A.cw (ix3 1 n (col e l))
  cb : ∀ e l, (B.cb e (ix3 0 0 l) : EReal) = A.cb (ix2 1 (col e l))
  wu : ∀ k d, (B.wu (ix3 0 k d) : EReal) = A.wu (ix3 1 k d)
  fw : ∀ d, (B.fw (ix2 0 d) : EReal) = A.fw (ix1 d)

variable {A : Args} {b q : Fin 8} {B : Blocks Ideal} (H : Holds A b q B) (S : Scratch)

include H

theorem mix_eq (i : Fin 512) (d : Fin 1024) : (mixV B (ix2 i d) : EReal) = mix A b (pos q i) d := by
  refine (mixV_at B i d).trans ?_
  unfold mix
  rw [H.h]
  refine congrArg _ (Finset.sum_congr rfl fun k _ => ?_)
  rw [H.o, H.wo]

theorem inter_eq (i : Fin 512) (d : Fin 1024) : (inter S.p (mixV B) (ix2 i d) : EReal) = mix A b (pos q (tok i)) d :=
  (inter_at _ _ i d).trans (mix_eq H _ d)

omit H in
theorem cast_nw (x : FVec Ideal S1x1x1024 .f32) (d : Fin 1024) :
    (shapeCast S1x1024 x shapeCasts_S1x1x1024_S1x1024 (ix2 0 d) : EReal) = x (ix3 0 0 d) := by
  pointwise

omit H in
theorem cast_fw (x : FVec Ideal S1x1024 .f32) (d : Fin 1024) :
    (shapeCast S1x1024 x shapeCasts_S1x1024_S1x1024 (ix2 0 d) : EReal) = x (ix2 0 d) := by
  pointwise

theorem hn_eq (i : Fin 512) (d : Fin 1024) :
    (hnV S B (ix2 i d) : EReal) = rms (mix A b (pos q (tok i))) (fun k => A.nw (ix2 1 k)) d := by
  refine (rmsV_at _ _ i d).trans ?_
  have e1 : (fun k => (inter S.p (mixV B) (ix2 i k) : EReal)) = mix A b (pos q (tok i)) := funext fun k => inter_eq H S i k
  have e2 : (fun k => (shapeCast S1x1024 B.nw shapeCasts_S1x1x1024_S1x1024 (ix2 0 k) : EReal)) = fun k => A.nw (ix2 1 k) :=
    funext fun k => (cast_nw _ k).trans (H.nw k)
  rw [e1, e2]

theorem u_eq (e : Fin 22) (i : Fin 512) (l : Fin 256) : (uV S B e (ix2 i l) : EReal) = up A b (pos q (tok i)) (col e l) := by
  refine (upAt_at _ _ _ e i l).trans ((upV_at _ _ i l).trans ?_)
  unfold up
  refine Finset.sum_congr rfl fun k _ => ?_
  rw [hn_eq H S, H.wi]

omit H

/-! ## Earlier tokens -/

/-- The layer's input before a position, zero before the first. -/
def before (A : Args) (b : Fin 8) (t n : ℕ) (f : Fin 5632) : EReal := if n ≤ t then up A b (Fin.ofNat 4096 (t - n)) f else 0

theorem back_eq (t : Fin 4096) (n : ℕ) (f : Fin 5632) : back A b t n f = before A b t.val n f := by
  unfold back before
  refine if_congr Iff.rfl (congrArg (fun t => up A b t f) (Fin.ext ?_)) rfl
  show t.val - n = (t.val - n) % 4096
  omega

theorem before_succ (t n : ℕ) (f : Fin 5632) : before A b (t + 1) (n + 1) f = before A b t n f := by
  unfold before
  simp

/-- What is carried into a block: the first weight's product, and the first two weights' sum. -/
def car (A : Args) (b : Fin 8) (t : ℕ) (e : Fin 22) (k : Fin 2) (l : Fin 256) : EReal :=
  if k = 0 then before A b t 1 (col e l) * A.cw (ix3 1 0 (col e l))
  else before A b t 2 (col e l) * A.cw (ix3 1 0 (col e l)) + before A b t 1 (col e l) * A.cw (ix3 1 1 (col e l))

theorem car_zero (e : Fin 22) (k : Fin 2) (l : Fin 256) : car A b 0 e k l = 0 := by
  unfold car before
  simp

/-- A row's earlier token, or the carried row before the block's first. -/
theorem shift_tok (y : FVec Ideal S512x256 .f32) (c : FVec Ideal S1x1x8x256 .f32) (i : Fin 512) (l : Fin 256) :
    (shiftV y c (ix2 i l) : EReal)
      = if (tok i).val = 0 then c (ix4 0 0 0 l) else y (ix2 (row ⟨(tok i).val - 1, by omega⟩) l) := by
  refine (shiftV_at y c i l).trans ?_
  unfold tok row
  by_cases h : i.val < 8
  · rw [dif_pos h]
    have h1 : i.val % 8 * 64 + i.val / 8 = i.val * 64 := by omega
    by_cases h0 : i.val = 0
    · rw [if_pos h0, if_pos (by show i.val % 8 * 64 + i.val / 8 = 0; omega)]
    · rw [if_neg h0, if_neg (by show ¬(i.val % 8 * 64 + i.val / 8 = 0); omega)]
      refine congrArg y ?_
      have h2 : (i.val * 64 - 1) % 64 = 63 := by omega
      have h3 : (i.val * 64 - 1) / 64 = i.val - 1 := by omega
      blk_ext <;> simp only [h1, h2, h3] <;> omega
  · rw [dif_neg h, if_neg (by show ¬(i.val % 8 * 64 + i.val / 8 = 0); omega)]
    refine congrArg y ?_
    have h1 : (i.val % 8 * 64 + i.val / 8 - 1) % 64 = i.val / 8 - 1 := by omega
    have h2 : (i.val % 8 * 64 + i.val / 8 - 1) / 64 = i.val % 8 := by omega
    blk_ext <;> simp only [h1, h2] <;> omega

include H

/-- The first two weights' part of the convolution. -/
theorem conv1_eq (e : Fin 22) (c0 : FVec Ideal S1x1x8x256 .f32) (hc0 : ∀ l, (c0 (ix4 0 0 0 l) : EReal) = car A b (512 * q.val) e 0 l)
    (i : Fin 512) (l : Fin 256) :
    (conv1 (uV S B e) (B.cw e) c0 (ix2 i l) : EReal)
      = before A b (pos q (tok i)).val 1 (col e l) * A.cw (ix3 1 0 (col e l)) + before A b (pos q (tok i)).val 0 (col e l) * A.cw (ix3 1 1 (col e l)) := by
  refine (conv1_at _ _ _ i l).trans ?_
  rw [shift_tok, u_eq H, H.cw]
  refine congrArg₂ _ ?_ ?_
  · by_cases h : (tok i).val = 0
    · rw [if_pos h, hc0]
      show before A b _ 1 _ * _ = before A b (512 * q.val + (tok i).val) 1 _ * _
      rw [h]
      rfl
    · rw [if_neg h, tap0_at, u_eq H, tok_row, H.cw, ← back_eq]
      unfold back
      rw [if_pos (by show 1 ≤ 512 * q.val + (tok i).val; omega)]
      refine congrArg (fun t => up A b t _ * _) (Fin.ext ?_)
      show 512 * q.val + ((tok i).val - 1) = 512 * q.val + (tok i).val - 1
      omega
  · rw [← back_eq]
    rfl

/-- The convolution of one chunk. -/
theorem conv2_eq (e : Fin 22) (c0 c1 : FVec Ideal S1x1x8x256 .f32) (hc0 : ∀ l, (c0 (ix4 0 0 0 l) : EReal) = car A b (512 * q.val) e 0 l)
    (hc1 : ∀ l, (c1 (ix4 0 0 0 l) : EReal) = car A b (512 * q.val) e 1 l) (i : Fin 512) (l : Fin 256) :
    (conv2 (uV S B e) (B.cw e) (B.cb e) c0 c1 (ix2 i l) : EReal) = conv A b (pos q (tok i)) (col e l) := by
  refine (conv2_at _ _ _ _ _ i l).trans ?_
  unfold conv
  rw [shift_tok, u_eq H, H.cw, H.cb, back_eq, back_eq, back_eq]
  refine congrArg (· + _) (congrArg₂ _ ?_ ?_)
  · by_cases h : (tok i).val = 0
    · rw [if_pos h, hc1]
      show before A b _ 2 _ * _ + before A b _ 1 _ * _ = before A b (512 * q.val + (tok i).val) 2 _ * _ + before A b (512 * q.val + (tok i).val) 1 _ * _
      rw [h]
      rfl
    · rw [if_neg h, conv1_eq H S e c0 hc0, tok_row]
      have hp : (pos q (tok i)).val = (pos q ⟨(tok i).val - 1, by omega⟩).val + 1 := by
        show 512 * q.val + (tok i).val = 512 * q.val + ((tok i).val - 1) + 1
        omega
      rw [hp, before_succ, before_succ]
  · rw [← back_eq]
    rfl

/-- The first weight's product carried out of a block. -/
theorem top0_eq (e : Fin 22) (l : Fin 256) :
    (topV (tap0 (uV S B e) (B.cw e)) (ix2 0 l) : EReal) = car A b (512 * q.val + 512) e 0 l := by
  refine (topV_at _ 0 l).trans ((tap0_at _ _ _ _).trans ?_)
  rw [u_eq H, H.cw]
  unfold car
  rw [if_pos rfl]
  refine congrArg (· * _) ?_
  unfold before
  rw [if_pos (by omega)]
  refine congrArg (fun t => up A b t _) (Fin.ext ?_)
  show 512 * q.val + 511 = (512 * q.val + 512 - 1) % 4096
  omega

/-- The first two weights' sum carried out of a block. -/
theorem top1_eq (e : Fin 22) (c0 : FVec Ideal S1x1x8x256 .f32) (hc0 : ∀ l, (c0 (ix4 0 0 0 l) : EReal) = car A b (512 * q.val) e 0 l) (l : Fin 256) :
    (topV (conv1 (uV S B e) (B.cw e) c0) (ix2 0 l) : EReal) = car A b (512 * q.val + 512) e 1 l := by
  refine (topV_at _ 0 l).trans ((conv1_eq H S e c0 hc0 _ _).trans ?_)
  unfold car
  rw [if_neg (by decide), ← before_succ _ 1, ← before_succ _ 0]
  rfl

omit H

/-! ## The carried rows as they are stored -/

section
variable (L₀ : List (View.Piece (Elt Ideal) S22x2x8x256 .f32)) (rd : Rd Ideal) (u : Fin 22 → FVec Ideal S512x256 .f32)
  (w : Fin 22 → Vec Ideal S1x3x256 .f32)

theorem carRect_idx (e : Fin 22) (k : Fin 2) (j : Fin 8) (l : Fin 256) : (carRect e k).toLoadRect.idx (ix4 0 0 j l) = ix4 e k j l := by
  funext a
  refine Fin.ext ?_
  show ![e.val, k.val, 0, 0] a + 1 * _ = _
  fin_cases a <;> simp

theorem not_mem_carRect (e e' : Fin 22) (k k' : Fin 2) (j : Fin 8) (l : Fin 256) (h : e ≠ e' ∨ k ≠ k') :
    ix4 e k j l ∉ (carRect e' k').set := by
  intro hm
  obtain ⟨p, hp⟩ := LoadRect.exists_idx_of_mem _ hm
  obtain ⟨j', l', rfl⟩ : ∃ (j' : Fin 8) (l' : Fin 256), p = ix4 0 0 j' l' := ⟨p 2, p 3, by blk_ext⟩
  have hp' := (carRect_idx e' k' j' l').symm.trans hp
  rcases h with h | h
  · exact h (congrFun hp' 0).symm
  · exact h (congrFun hp' 1).symm

theorem canon_car_hit (e : Fin 22) (k : Fin 2) (j : Fin 8) (l : Fin 256) (x : FVec Ideal S1x1x8x256 .f32)
    (L : List (View.Piece (Elt Ideal) S22x2x8x256 .f32)) :
    (View.canon (⟨carRect e k, x⟩ :: L) (ix4 e k j l) : EReal) = x (ix4 0 0 j l) := by
  refine (congrArg (View.canon _) (carRect_idx e k j l).symm).trans ?_
  exact View.canon_cons_emb (carRect e k) x L (ix4 0 0 j l)

theorem canon_car_miss (e e' : Fin 22) (k k' : Fin 2) (j : Fin 8) (l : Fin 256) (h : e ≠ e' ∨ k ≠ k') (x : FVec Ideal S1x1x8x256 .f32)
    (L : List (View.Piece (Elt Ideal) S22x2x8x256 .f32)) :
    (View.canon (⟨carRect e' k', x⟩ :: L) (ix4 e k j l) : EReal) = View.canon L (ix4 e k j l) :=
  View.canon_cons_of_not_mem (Val := Elt Ideal) (⟨carRect e' k', x⟩ : View.Piece (Elt Ideal) S22x2x8x256 .f32) L (not_mem_carRect e e' k k' j l h)

theorem chunk_val (e : Fin 22) : chunk e.val = e := Fin.ext (Nat.mod_eq_of_lt e.isLt)

/-- The rows stored for a chunk, over what the chunks before have stored. -/
theorem car_succ (e : Fin 22) :
    carPieces L₀ rd u w (e.val + 1)
      = ⟨carRect e 1, shapeCast S1x1x8x256 (topV (conv1 (u e) (w e) (rd (carPieces L₀ rd u w e.val) e 0))) shapeCasts_S8x256_S1x1x8x256⟩
        :: ⟨carRect e 0, shapeCast S1x1x8x256 (topV (tap0 (u e) (w e))) shapeCasts_S8x256_S1x1x8x256⟩ :: carPieces L₀ rd u w e.val := by
  conv_lhs => unfold carPieces carHalf
  rw [chunk_val]

/-- Later chunks' rows are as they were. -/
theorem car_later (n : ℕ) (e : Fin 22) (he : n ≤ e.val) (k : Fin 2) (j : Fin 8) (l : Fin 256) :
    (View.canon (carPieces L₀ rd u w n) (ix4 e k j l) : EReal) = View.canon L₀ (ix4 e k j l) := by
  induction n with
  | zero => rfl
  | succ n ih =>
    have hne : e ≠ chunk n := by
      rintro rfl
      have : n % 22 < 22 := Nat.mod_lt _ (by decide)
      have : (chunk n).val = n % 22 := rfl
      omega
    refine (canon_car_miss _ _ _ _ _ _ (.inl hne) _ _).trans ((canon_car_miss _ _ _ _ _ _ (.inl hne) _ _).trans (ih (by omega)))

/-- A chunk's second rows are as they were when its first have been stored. -/
theorem car_half (e : Fin 22) (j : Fin 8) (l : Fin 256) :
    (View.canon (carHalf u w (carPieces L₀ rd u w e.val) e) (ix4 e 1 j l) : EReal) = View.canon L₀ (ix4 e 1 j l) :=
  (canon_car_miss _ _ _ _ _ _ (.inr (by decide)) _ _).trans (car_later L₀ rd u w e.val e le_rfl 1 j l)

/-- What a chunk's stores leave, after all earlier than `n`. -/
theorem car_done (n : ℕ) (hn : n ≤ 22) (e : Fin 22) (he : e.val < n) (j : Fin 8) (l : Fin 256) :
    (View.canon (carPieces L₀ rd u w n) (ix4 e 0 j l) : EReal) = topV (tap0 (u e) (w e)) (ix2 j l)
    ∧ (View.canon (carPieces L₀ rd u w n) (ix4 e 1 j l) : EReal)
      = topV (conv1 (u e) (w e) (rd (carPieces L₀ rd u w e.val) e 0)) (ix2 j l) := by
  induction n with
  | zero => omega
  | succ n ih =>
    rcases Nat.lt_succ_iff_lt_or_eq.1 he with h | h
    · have hne : e ≠ chunk n := by
        rintro rfl
        have : (chunk n).val = n % 22 := rfl
        have : n % 22 = n := Nat.mod_eq_of_lt (by omega)
        omega
      have h0 := ih (by omega) h
      exact ⟨(canon_car_miss _ _ _ _ _ _ (.inl hne) _ _).trans ((canon_car_miss _ _ _ _ _ _ (.inl hne) _ _).trans h0.1),
        (canon_car_miss _ _ _ _ _ _ (.inl hne) _ _).trans ((canon_car_miss _ _ _ _ _ _ (.inl hne) _ _).trans h0.2)⟩
    · subst h
      rw [car_succ]
      exact ⟨(canon_car_miss e e 0 1 j l (.inr (by decide)) _ _).trans ((canon_car_hit e 0 j l _ _).trans (car_cast _ _ _)),
        (canon_car_hit e 1 j l _ _).trans (car_cast _ _ _)⟩

end

/-! ## The point -/

/-- The carried rows a point reads are the layer's. -/
structure Reads (A : Args) (b q : Fin 8) (S : Scratch) (B : Blocks Ideal) (L₀ : List (View.Piece (Elt Ideal) S22x2x8x256 .f32)) (rd : Rd Ideal) : Prop where
  c0 : ∀ e l, (rd (carPieces L₀ rd (uV S B) B.cw e.val) e 0 (ix4 0 0 0 l) : EReal) = car A b (512 * q.val) e 0 l
  c1 : ∀ e l, (rd (carHalf (uV S B) B.cw (carPieces L₀ rd (uV S B) B.cw e.val) e) e 1 (ix4 0 0 0 l) : EReal) = car A b (512 * q.val) e 1 l

variable {L₀ : List (View.Piece (Elt Ideal) S22x2x8x256 .f32)} {rd : Rd Ideal} (R : Reads A b q S B L₀ rd)

include H R

theorem y_eq (e : Fin 22) (i : Fin 512) (l : Fin 256) : (yV S B L₀ rd e (ix2 i l) : EReal) = conv A b (pos q (tok i)) (col e l) :=
  conv2_eq H S e _ _ (R.c0 e) (R.c1 e) i l

omit H R in
theorem col_lo (k : Fin 2816) : col (lo k) (lane k) = ⟨k.val, by omega⟩ := by
  refine Fin.ext ?_
  show 2 * (k.val / 256) % 2 * 2816 + 2 * (k.val / 256) / 2 * 256 + k.val % 256 = k.val
  omega

omit H R in
theorem col_hi (k : Fin 2816) : col (hi k) (lane k) = ⟨2816 + k.val, by omega⟩ := by
  refine Fin.ext ?_
  show (2 * (k.val / 256) + 1) % 2 * 2816 + (2 * (k.val / 256) + 1) / 2 * 256 + k.val % 256 = 2816 + k.val
  omega

theorem fin_eq (i : Fin 512) (d : Fin 1024) : (finV S B L₀ rd (ix2 i d) : EReal) = res A b (pos q (tok i)) d := by
  refine (rmsV_at _ _ i d).trans ?_
  unfold res
  refine congrArg₂ (fun x w => rms x w d) (funext fun k => ?_) (funext fun k => (cast_fw _ k).trans (H.fw k))
  refine (back_sum _ _ _ i k).trans ?_
  unfold out
  rw [inter_eq H]
  refine congrArg _ (Finset.sum_congr rfl fun f _ => ?_)
  rw [act_at, y_eq H S R, y_eq H S R, col_lo, col_hi, H.wu]

/-- What a point stores in its output block. -/
theorem out_eq (t : Fin 512) (d : Fin 1024) :
    (View.canon (Val := Elt Ideal) (outL S B L₀ rd) (ix3 0 t d) : EReal) = res A b (pos q t) d := by
  refine (out_at _ _ _ t d).trans ((fin_eq H S R _ d).trans ?_)
  rw [tok_row]

/-- What a point carries to the next. -/
theorem car_eq (e : Fin 22) (k : Fin 2) (l : Fin 256) :
    (View.canon (carL S B L₀ rd) (ix4 e k 0 l) : EReal) = car A b (512 * q.val + 512) e k l := by
  have h := car_done L₀ rd (uV S B) B.cw 22 le_rfl e e.isLt 0 l
  obtain rfl | rfl : k = 0 ∨ k = 1 := by
    rcases k with ⟨k, hk⟩
    have : k = 0 ∨ k = 1 := by omega
    rcases this with rfl | rfl
    · exact .inl rfl
    · exact .inr rfl
  · exact h.1.trans (top0_eq H S e l)
  · exact h.2.trans (top1_eq H S e _ (R.c0 e) l)

end Cert.FfnPoint
end
-- ==== Proof.FfnLaunch.lean ====
module

public import proofs.«01_k».proof.Proof.FfnRun
public import proofs.«01_k».proof.Proof.FfnPoint

/-! # The feed-forward launch's result

Point `t` is batch row `t / 8` and tokens `512 (t % 8)` on. -/

@[expose] public section

set_option maxRecDepth 16384
set_option maxHeartbeats 1000000

noncomputable section

namespace Cert.FfnLaunch

open Idealize.ShloMosaic Idealize.ShloMosaic.TcCoe Idealize.SL.Sem Cert.Kernel2Ideal Cert.Kernel2Ideal.Gen Cert.Ffn Cert.FfnRun Cert.FfnPoint

/-! ## The blocks -/

section
variable (arg2 : Memref sig .tc .vmem S1x512x1024 .f32) (harg2 : arg2.IsWhole)
  (arg3 : Memref sig .tc .vmem S1x8x512x128 .bf16) (harg3 : arg3.IsWhole) (arg4 : Memref sig .tc .vmem S1024x1024 .bf16)
  (harg4 : arg4.IsWhole) (arg5 : Memref sig .tc .vmem S1x1x1024 .f32) (harg5 : arg5.IsWhole) (arg6 : Memref sig .tc .vmem S1x1024x5632 .bf16)
  (harg6 : arg6.IsWhole) (arg7 : Memref sig .tc .vmem S1x3x5632 .f32) (harg7 : arg7.IsWhole) (arg8 : Memref sig .tc .vmem S1x1x5632 .f32)
  (harg8 : arg8.IsWhole) (arg9 : Memref sig .tc .vmem S1x2816x1024 .bf16) (harg9 : arg9.IsWhole) (arg10 : Memref sig .tc .vmem S1x1024 .f32)
  (harg10 : arg10.IsWhole)
  (x0 : Vec Ideal S1x512x1024 .f32) (x1 : Vec Ideal S1x8x512x128 .bf16) (x2 : Vec Ideal S1024x1024 .bf16) (x3 : Vec Ideal S1x1x1024 .f32)
  (x4 : Vec Ideal S1x1024x5632 .bf16) (x5 : Vec Ideal S1x3x5632 .f32) (x6 : Vec Ideal S1x1x5632 .f32) (x7 : Vec Ideal S1x2816x1024 .bf16)
  (x8 : Vec Ideal S1x1024 .f32)

/-- The staged windows are the arguments' blocks. -/
structure Staged (A : Layer.Args) (b q : Fin 8) : Prop where
  h : ∀ i d, (x0 (ix3 0 i d) : EReal) = A.h (ix3 b (pos q i) d)
  o : ∀ n i l, (x1 (ix4 0 n i l) : EReal) = A.o (ix4 b n (pos q i) l)
  wo : ∀ k d, (x2 (ix2 k d) : EReal) = A.wo (ix3 0 k d)
  nw : ∀ d, (x3 (ix3 0 0 d) : EReal) = A.nw (ix2 1 d)
  wi : ∀ k f, (x4 (ix3 0 k f) : EReal) = A.wi (ix3 1 k f)
  cw : ∀ n f, (x5 (ix3 0 n f) : EReal) = A.cw (ix3 1 n f)
  cb : ∀ f, (x6 (ix3 0 0 f) : EReal) = A.cb (ix2 1 f)
  wu : ∀ k d, (x7 (ix3 0 k d) : EReal) = A.wu (ix3 1 k d)
  fw : ∀ d, (x8 (ix2 0 d) : EReal) = A.fw (ix1 d)

/-- Where a loaded box's entry lies. -/
theorem box_idx {s : Shape} (off : Fin s.rank → ℕ) (size : Fin s.rank → ℕ) (inb) (y : (Rect.unit (s := s) off size inb).shape.Idx) (z : s.Idx)
    (h : ∀ a, off a + (y a).val = (z a).val) : (Rect.unit (s := s) off size inb).toLoadRect.idx y = z := by
  funext a
  refine Fin.ext ?_
  show off a + 1 * (y a).val = _
  rw [Nat.one_mul]
  exact h a

theorem holds (A : Layer.Args) (b q : Fin 8) (H : Staged x0 x1 x2 x3 x4 x5 x6 x7 x8 A b q) :
    Holds A b q (blocks arg2 harg2 arg3 harg3 arg4 harg4 arg5 harg5 arg6 harg6 arg7 harg7 arg8 harg8 arg9 harg9 arg10 harg10
      x0 x1 x2 x3 x4 x5 x6 x7 x8) where
  h i d := (harg2.readAt_unread x0 _ _).trans ((congrArg x0 (box_idx _ _ _ _ (ix3 0 i d) fun a => by fin_cases a <;> simp)).trans (H.h i d))
  o n i l := (harg3.readAt_unread x1 _ _).trans ((congrArg x1 (box_idx _ _ _ _ (ix4 0 n i l) fun a => by fin_cases a <;> simp)).trans (H.o n i l))
  wo k d := (harg4.readAt_unread x2 _ _).trans ((congrArg x2 (box_idx _ _ _ _ (ix2 k d) fun a => by fin_cases a <;> simp)).trans (H.wo k d))
  nw d := (harg5.readAt_unread x3 _ _).trans ((congrArg x3 (box_idx _ _ _ _ (ix3 0 0 d) fun a => by fin_cases a <;> simp)).trans (H.nw d))
  wi e k l := (harg6.readAt_unread x4 _ _).trans ((congrArg x4 (box_idx _ _ _ _ (ix3 0 k (col e l)) fun a => by fin_cases a <;> simp [col])).trans (H.wi k _))
  cw e n l := (harg7.readAt_unread x5 _ _).trans ((congrArg x5 (box_idx _ _ _ _ (ix3 0 n (col e l)) fun a => by fin_cases a <;> simp [col])).trans (H.cw n _))
  cb e l := (harg8.readAt_unread x6 _ _).trans ((congrArg x6 (box_idx _ _ _ _ (ix3 0 0 (col e l)) fun a => by fin_cases a <;> simp [col])).trans (H.cb _))
  wu k d := (harg9.readAt_unread x7 _ _).trans ((congrArg x7 (box_idx _ _ _ _ (ix3 0 k d) fun a => by fin_cases a <;> simp)).trans (H.wu k d))
  fw d := (harg10.readAt_unread x8 _ _).trans ((congrArg x8 (box_idx _ _ _ _ (ix2 0 d) fun a => by fin_cases a <;> simp)).trans (H.fw d))

end

/-! ## The carried rows' reads -/

section
variable (arg14 : Memref sig .tc .vmem S22x2x8x256 .f32) (harg14 : arg14.IsWhole)

theorem zeroed_at (e : Fin 22) (k : Fin 2) (j : Fin 8) (l : Fin 256) : (View.canon (zeroed (F := Ideal)) (ix4 e k j l) : EReal) = 0 := by
  have e' : (Rect.unit ![0, 0, 0, 0] S22x2x8x256.size inb_S22x2x8x256_S22x2x8x256_0_0_0_0).toLoadRect.idx (ix4 e k j l) = ix4 e k j l :=
    box_idx _ _ _ _ (ix4 e k j l) fun a => by fin_cases a <;> simp
  refine (congrArg (View.canon _) e'.symm).trans ?_
  refine (View.canon_cons_emb (Val := Elt Ideal) (Rect.unit ![0, 0, 0, 0] S22x2x8x256.size inb_S22x2x8x256_S22x2x8x256_0_0_0_0) _ [] (ix4 e k j l)).trans ?_
  pointwise

theorem rdA_at (L : List (View.Piece (Elt Ideal) S22x2x8x256 .f32)) (e : Fin 22) (k : Fin 2) (l : Fin 256) :
    (rdA arg14 L e k (ix4 0 0 0 l) : EReal) = View.canon L (ix4 e k 0 l) :=
  (congrFun (View.readCov_eq_canon' _ _ _) _).trans (congrArg (View.canon _) (carRect_idx _ _ _ _))

theorem rdB_at (xs : Vec Ideal S22x2x8x256 .f32) (L : List (View.Piece (Elt Ideal) S22x2x8x256 .f32)) (e : Fin 22) (k : Fin 2) (l : Fin 256) :
    (rdB arg14 harg14 xs L e k (ix4 0 0 0 l) : EReal) = xs (ix4 e k 0 l) :=
  (harg14.readAt_unread xs _ _).trans (congrArg xs (carRect_idx _ _ _ _))

theorem readsA (A : Layer.Args) (b q : Fin 8) (hq : q.val = 0) (S : Scratch) (B : Blocks Ideal) : Reads A b q S B zeroed (rdA arg14) where
  c0 e l := by
    rw [rdA_at, hq, Nat.mul_zero, car_zero]
    exact (car_later _ _ _ _ _ e le_rfl _ _ _).trans (zeroed_at e 0 0 l)
  c1 e l := by
    rw [rdA_at, hq, Nat.mul_zero, car_zero]
    exact (car_half _ _ _ _ e _ _).trans (zeroed_at e 1 0 l)

theorem readsB (A : Layer.Args) (b q : Fin 8) (S : Scratch) (B : Blocks Ideal) (xs : Vec Ideal S22x2x8x256 .f32)
    (h : ∀ e k l, (xs (ix4 e k 0 l) : EReal) = car A b (512 * q.val) e k l) : Reads A b q S B [] (rdB arg14 harg14 xs) where
  c0 e l := (rdB_at arg14 harg14 xs _ e 0 l).trans (h e 0 l)
  c1 e l := (rdB_at arg14 harg14 xs _ e 1 l).trans (h e 1 l)

end

/-! ## The windows -/

variable (m : (ℓ : Loc nD τ sig) → Buf (Elt Ideal) ℓ)

/-- The call's arguments. -/
def args (c : Dev nD) : Layer.Args where
  h := m ((c : Thread nD τ).loc main_arg0)
  o := m ((c : Thread nD τ).loc main_arg1)
  wo := m ((c : Thread nD τ).loc main_arg2)
  nw := m ((c : Thread nD τ).loc main_arg3)
  wi := m ((c : Thread nD τ).loc main_arg4)
  cw := m ((c : Thread nD τ).loc main_arg5)
  cb := m ((c : Thread nD τ).loc main_arg6)
  wu := m ((c : Thread nD τ).loc main_arg7)
  fw := m ((c : Thread nD τ).loc main_arg8)

/-- A grid point's batch row. -/
def bOf (t : ℕ) : Fin 8 := Fin.ofNat 8 (t / 8)
/-- A grid point's block of tokens. -/
def qOf (t : ℕ) : Fin 8 := Fin.ofNat 8 t

theorem N_eq : cfg0.N = 64 := N_0

/-- The windows' index maps. -/
theorem idx : ∀ t : Fin grid0.N,
    win0_0.index t = ![t.val / 8, t.val % 8, 0] ∧ win0_1.index t = ![t.val / 8, 0, t.val % 8, 0] ∧ win0_2.index t = ![0, 0]
    ∧ win0_3.index t = ![1, 0, 0] ∧ win0_4.index t = ![1, 0, 0] ∧ win0_5.index t = ![1, 0, 0] ∧ win0_6.index t = ![1, 0, 0]
    ∧ win0_7.index t = ![1, 0, 0] ∧ win0_8.index t = ![0, 0] ∧ win0_9.index t = ![t.val / 8, t.val % 8, 0] := by
  decide +kernel

theorem v5_at (c : Dev nD) (k d : Fin 1024) : (V m c main_v5 (ix2 k d) : EReal) = (args m c).wo (ix3 0 k d) := by
  entry_read
  pointwise
  rfl

theorem v0_at (c : Dev nD) (n : Fin 2) (d : Fin 1024) : (V m c main_v0 (ix3 n 0 d) : EReal) = (args m c).nw (ix2 n d) := by
  entry_read
  pointwise
  rfl

theorem v1_at (c : Dev nD) (n : Fin 2) (k : Fin 1024) (f : Fin 5632) : (V m c main_v1 (ix3 n k f) : EReal) = (args m c).wi (ix3 n k f) := by
  entry_read
  pointwise
  rfl

theorem v2_at (c : Dev nD) (n : Fin 2) (f : Fin 5632) : (V m c main_v2 (ix3 n 0 f) : EReal) = (args m c).cb (ix2 n f) := by
  entry_read
  pointwise
  rfl

theorem v3_at (c : Dev nD) (n : Fin 2) (k : Fin 2816) (d : Fin 1024) : (V m c main_v3 (ix3 n k d) : EReal) = (args m c).wu (ix3 n k d) := by
  entry_read
  pointwise
  rfl

theorem v6_at (c : Dev nD) (d : Fin 1024) : (V m c main_v6 (ix2 0 d) : EReal) = (args m c).fw (ix1 d) := by
  entry_read
  pointwise
  rfl

theorem blk0 (c : Dev nD) (t : Fin cfg0.N) (i : Fin 512) (d : Fin 1024) :
    (iblk m c 0 t (ix3 0 i d) : EReal) = V m c main_arg0 (ix3 (bOf t.val) (pos (qOf t.val) i) d) := by
  have ht : t.val < 64 := N_eq ▸ t.isLt
  unfold bOf qOf pos
  blk_ext [iblk, (idx t).1] <;> simp only [Fin.val_ofNat] <;> omega

theorem blk1 (c : Dev nD) (t : Fin cfg0.N) (n : Fin 8) (i : Fin 512) (l : Fin 128) :
    (iblk m c 1 t (ix4 0 n i l) : EReal) = V m c main_arg1 (ix4 (bOf t.val) n (pos (qOf t.val) i) l) := by
  have ht : t.val < 64 := N_eq ▸ t.isLt
  unfold bOf qOf pos
  blk_ext [iblk, (idx t).2.1] <;> simp only [Fin.val_ofNat] <;> omega

theorem blk2 (c : Dev nD) (t : Fin cfg0.N) (k d : Fin 1024) : (iblk m c 2 t (ix2 k d) : EReal) = V m c main_v5 (ix2 k d) := by
  blk_ext [iblk, (idx t).2.2.1]

theorem blk3 (c : Dev nD) (t : Fin cfg0.N) (d : Fin 1024) : (iblk m c 3 t (ix3 0 0 d) : EReal) = V m c main_v0 (ix3 1 0 d) := by
  blk_ext [iblk, (idx t).2.2.2.1]

theorem blk4 (c : Dev nD) (t : Fin cfg0.N) (k : Fin 1024) (f : Fin 5632) : (iblk m c 4 t (ix3 0 k f) : EReal) = V m c main_v1 (ix3 1 k f) := by
  blk_ext [iblk, (idx t).2.2.2.2.1]

theorem blk5 (c : Dev nD) (t : Fin cfg0.N) (n : Fin 3) (f : Fin 5632) : (iblk m c 5 t (ix3 0 n f) : EReal) = V m c main_arg5 (ix3 1 n f) := by
  blk_ext [iblk, (idx t).2.2.2.2.2.1]

theorem blk6 (c : Dev nD) (t : Fin cfg0.N) (f : Fin 5632) : (iblk m c 6 t (ix3 0 0 f) : EReal) = V m c main_v2 (ix3 1 0 f) := by
  blk_ext [iblk, (idx t).2.2.2.2.2.2.1]

theorem blk7 (c : Dev nD) (t : Fin cfg0.N) (k : Fin 2816) (d : Fin 1024) : (iblk m c 7 t (ix3 0 k d) : EReal) = V m c main_v3 (ix3 1 k d) := by
  blk_ext [iblk, (idx t).2.2.2.2.2.2.2.1]

theorem blk8 (c : Dev nD) (t : Fin cfg0.N) (d : Fin 1024) : (iblk m c 8 t (ix2 0 d) : EReal) = V m c main_v6 (ix2 0 d) := by
  blk_ext [iblk, (idx t).2.2.2.2.2.2.2.2.1]

/-- A grid point's windows are the arguments' blocks. -/
theorem staged (c : Dev nD) (t : Fin cfg0.N) :
    Staged (iblk m c 0 t) (iblk m c 1 t) (iblk m c 2 t) (iblk m c 3 t) (iblk m c 4 t) (iblk m c 5 t) (iblk m c 6 t) (iblk m c 7 t) (iblk m c 8 t)
      (args m c) (bOf t.val) (qOf t.val) where
  h i d := (blk0 m c t i d).trans (by rw [V_main_arg0]; rfl)
  o n i l := (blk1 m c t n i l).trans (by rw [V_main_arg1]; rfl)
  wo k d := (blk2 m c t k d).trans (v5_at m c k d)
  nw d := (blk3 m c t d).trans (v0_at m c 1 d)
  wi k f := (blk4 m c t k f).trans (v1_at m c 1 k f)
  cw n f := (blk5 m c t n f).trans (by rw [V_main_arg5]; rfl)
  cb f := (blk6 m c t f).trans (v2_at m c 1 f)
  wu k d := (blk7 m c t k d).trans (v3_at m c 1 k d)
  fw d := (blk8 m c t d).trans (v6_at m c d)

/-! ## The points -/

/-- A grid point's blocks. -/
def blks (c : Dev nD) (t : Fin cfg0.N) : Blocks Ideal :=
  blocks (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (iblk m c 6 t) (iblk m c 7 t) (iblk m c 8 t)

/-- The launch's scratch. -/
def scr : Scratch := scratch scM0_0 scM0_1 scM0_3

theorem blks_holds (c : Dev nD) (t : Fin cfg0.N) : Holds (args m c) (bOf t.val) (qOf t.val) (blks m c t) :=
  holds _ _ _ _ _ _ _ _ _ _ _ _ _ _ _ _ _ _ _ _ _ _ _ _ _ _ _ _ _ _ (staged m c t)

/-- The first point of a batch row. -/
theorem outs_A (c : Dev nD) (t : Fin cfg0.N) (h0 : t.val % 8 = 0) :
    outsAt0 m c t.val t.isLt
      = (View.canon (outL scr (blks m c t) zeroed (rdA scM0_2)), View.canon (carL scr (blks m c t) zeroed (rdA scM0_2))) := by
  rw [outsAt0_A m c t h0]
  refine Prod.ext ?_ ?_
  · dsimp only
    unfold out0_A_9
    rw [View.read_writes_junk_eq_canon, run_A_out]
    rfl
  · dsimp only
    unfold sout0_A_2
    rw [View.read_writes_junk_eq_canon, run_A_car]
    rfl

/-- A later point of a batch row. -/
theorem outs_B (c : Dev nD) (t : Fin cfg0.N) (h0 : ¬t.val % 8 = 0) :
    outsAt0 m c t.val t.isLt
      = (View.canon (outL scr (blks m c t) [] (rdB scM0_2 (Memref.isWhole_whole _) (outsAt0 m c (t.val - 1) (Nat.lt_of_le_of_lt (Nat.sub_le _ _) t.isLt)).2)),
        View.canon (carL scr (blks m c t) [] (rdB scM0_2 (Memref.isWhole_whole _) (outsAt0 m c (t.val - 1) (Nat.lt_of_le_of_lt (Nat.sub_le _ _) t.isLt)).2))) := by
  rw [outsAt0_B m c t h0]
  refine Prod.ext ?_ ?_
  · dsimp only
    unfold out0_B_9
    rw [View.read_writes_junk_eq_canon, run_B_out]
    rfl
  · dsimp only
    unfold sout0_B_2
    rw [View.read_writes_junk_eq_canon, run_B_car]
    rfl

/-- What a point leaves: its tokens of the result, and the rows carried to the next. -/
def Leaves (c : Dev nD) (n : ℕ) (x : Vec Ideal S1x512x1024 .f32 × Vec Ideal S22x2x8x256 .f32) : Prop :=
  (∀ i d, (x.1 (ix3 0 i d) : EReal) = Layer.res (args m c) (bOf n) (pos (qOf n) i) d)
    ∧ ∀ e k l, (x.2 (ix4 e k 0 l) : EReal) = car (args m c) (bOf n) (512 * (qOf n).val + 512) e k l

theorem point_A (c : Dev nD) (t : Fin cfg0.N) (h0 : t.val % 8 = 0) : Leaves m c t.val (outsAt0 m c t.val t.isLt) := by
  have R := readsA scM0_2 (args m c) (bOf t.val) (qOf t.val) h0 scr (blks m c t)
  have H := blks_holds m c t
  rw [outs_A m c t h0]
  refine ⟨out_eq H scr R, fun e k l => ?_⟩
  have h := car_eq H scr R e k l
  dsimp only
  exact h

theorem point_B (c : Dev nD) (t : Fin cfg0.N) (h0 : ¬t.val % 8 = 0)
    (hs : ∀ e k l, ((outsAt0 m c (t.val - 1) (Nat.lt_of_le_of_lt (Nat.sub_le _ _) t.isLt)).2 (ix4 e k 0 l) : EReal)
      = car (args m c) (bOf t.val) (512 * (qOf t.val).val) e k l) : Leaves m c t.val (outsAt0 m c t.val t.isLt) := by
  have R := readsB scM0_2 (Memref.isWhole_whole _) (args m c) (bOf t.val) (qOf t.val) scr (blks m c t) _ hs
  have H := blks_holds m c t
  rw [outs_B m c t h0]
  refine ⟨out_eq H scr R, fun e k l => ?_⟩
  have h := car_eq H scr R e k l
  dsimp only
  exact h

/-- What every point leaves: its tokens of the result, and the rows carried to the next. -/
theorem points (c : Dev nD) (n : ℕ) (hn : n < cfg0.N) :
    Leaves m c n (outsAt0 m c n hn) := by
  induction n with
  | zero =>
    exact point_A m c ⟨0, hn⟩ rfl
  | succ n ih =>
    by_cases h0 : (n + 1) % 8 = 0
    · exact point_A m c ⟨n + 1, hn⟩ h0
    · refine point_B m c ⟨n + 1, hn⟩ h0 fun e k l => ?_
      have hb : bOf (n + 1) = bOf n := Fin.ext (by show (n + 1) / 8 % 8 = n / 8 % 8; omega)
      have hq : 512 * (qOf (n + 1)).val = 512 * (qOf n).val + 512 := by
        show 512 * ((n + 1) % 8) = 512 * (n % 8) + 512
        omega
      have e := (ih (Nat.lt_of_succ_lt hn)).2 e k l
      rw [← hb, ← hq] at e
      exact e

/-! ## The launch -/

/-- The result. -/
def G (c : Dev nD) : FVec Ideal S8x4096x1024 .f32 := fun x => Layer.res (args m c) (x 0) (x 1) (x 2)

/-- The launch's result. -/
theorem arr_out (c : Dev nD) : (dats m 0 c).arrAt 9 cfg0.N = G m c := by
  refine (dats m 0 c).arrAt_eq_of_covers 9 (G m c) (by decide +kernel) fun t hf y => ?_
  blk_simp
  rw [after0_9]
  have ht : t.val < 64 := N_eq ▸ t.isLt
  obtain ⟨i, d, rfl⟩ : ∃ (i : Fin 512) (d : Fin 1024), y = ix3 0 i d := ⟨y 1, y 2, by blk_ext⟩
  refine ((points m c t.val t.isLt).1 i d).trans ?_
  show G m c (ix3 (bOf t.val) (pos (qOf t.val) i) d) = _
  refine congrArg (G m c) ?_
  unfold bOf qOf pos
  blk_ext [(idx t).2.2.2.2.2.2.2.2.2] <;> simp only [Fin.val_ofNat] <;> omega

/-- The kernel returns the layer's mathematics and keeps its arguments. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.1 c).1 9).trans (arr_out m c), h.2 c⟩) (θ_run_and (run_main m ρ) (unchanged m ρ))

end Cert.FfnLaunch
end
-- ==== Proof.FirstLayer.lean ====
module

public import Idealize.ShloMosaic.Lib.Pointwise
public import Idealize.ShloMosaic.PureOps.Ideal.Laws

/-! # The first layer's feed-forward mathematics

A gated feed-forward layer with a causal convolution of width three, added to its input, at one batch row and position,
over the extended reals. -/

@[expose] public section

noncomputable section

namespace Cert.FirstLayer

open Idealize.ShloMosaic

abbrev HH : Shape := ⟨3, ![8, 4096, 1024]⟩
abbrev NW : Shape := ⟨2, ![2, 1024]⟩
abbrev WI : Shape := ⟨3, ![2, 1024, 5632]⟩
abbrev CW : Shape := ⟨3, ![2, 3, 5632]⟩
abbrev CB : Shape := ⟨2, ![2, 5632]⟩
abbrev WU : Shape := ⟨3, ![2, 2816, 1024]⟩

/-- A row's norm: the row over the root of its mean square, times the weights. -/
def rms (x w : Fin 1024 → EReal) (d : Fin 1024) : EReal :=
  x d * Ideal.rsqrt (Ideal.div (∑ k, x k * x k) (Ideal.ofBits .f32 0x44800000#32) + Ideal.ofBits .f32 0x358637BD#32) * w d

/-- The logistic function's product with its argument, times the other half. -/
def gate (a g : EReal) : EReal := g * Ideal.div 1 (1 + Ideal.exp (-g)) * a

/-- The arguments of the call. -/
structure Args where
  h : FVec Ideal HH .f32
  nw : FVec Ideal NW .f32
  wi : FVec Ideal WI .f32
  cw : FVec Ideal CW .f32
  cb : FVec Ideal CB .f32
  wu : FVec Ideal WU .f32

variable (A : Args)

/-- The residual stream. -/
def mix (b : Fin 8) (t : Fin 4096) (d : Fin 1024) : EReal := A.h (ix3 b t d)

/-- The layer's input, in both halves' lanes. -/
def up (b : Fin 8) (t : Fin 4096) (f : Fin 5632) : EReal :=
  ∑ k, rms (mix A b t) (fun k => A.nw (ix2 0 k)) k * A.wi (ix3 0 k f)

/-- The layer's input some positions earlier, zero before the first. -/
def back (b : Fin 8) (t : Fin 4096) (n : ℕ) (f : Fin 5632) : EReal :=
  if n ≤ t.val then up A b ⟨t.val - n, by omega⟩ f else 0

/-- The causal convolution. -/
def conv (b : Fin 8) (t : Fin 4096) (f : Fin 5632) : EReal :=
  back A b t 2 f * A.cw (ix3 0 0 f) + back A b t 1 f * A.cw (ix3 0 1 f) + back A b t 0 f * A.cw (ix3 0 2 f) + A.cb (ix2 0 f)

/-- The call's result: the residual stream after the layer. -/
def res (b : Fin 8) (t : Fin 4096) (d : Fin 1024) : EReal :=
  mix A b t d + ∑ k : Fin 2816, gate (conv A b t ⟨k.val, by omega⟩) (conv A b t ⟨2816 + k.val, by omega⟩) * A.wu (ix3 0 k d)

end Cert.FirstLayer

end
-- ==== Proof.FirstRef.lean ====
module

public import proofs.«01_k».proof.Proof.Gen.Reference3Ideal.Run
public import proofs.«01_k».proof.Proof.FirstLayer
public import Idealize.ShloMosaic.Lib.Tactic.CleanTypes

/-! # The first layer's feed-forward reference's result at an index -/

@[expose] public section

set_option maxRecDepth 16384

noncomputable section

namespace Cert.FirstRef

open Idealize.ShloMosaic Idealize.ShloMosaic.TcCoe Idealize.SL.Sem Cert.Reference3Ideal Cert.Reference3Ideal.Gen Cert.FirstLayer

/-- The norm. -/
def rmsV (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32)
    reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32)))))) (broadcastInDim S8x4096x1024 ![0, 1, 2]
    bcast_S1x1x1024_S8x4096x1024_0_1_2 (broadcastInDim S1x1x1024 ![2] bcast_S1024_S1x1x1024_2 w))

/-- The layer's input. -/
def upV (x : FVec Ideal S8x4096x1024 .f32) (wi : FVec Ideal WI .f32) : FVec Ideal S8x4096x5632 .f32 :=
  Host.dotGeneral dot_S8x4096x1024_S1024x5632_S8x4096x5632_2_0_01_1_n_n none x (shapeCast _ (extractStridedSlice S1x1024x5632 ![0, 0, 0] wi
    slices_S2x1024x5632_S1x1024x5632_0_0_0) shapeCasts_S1x1024x5632_S1024x5632)

/-- The layer's input after two rows of zeros. -/
def padV (u : FVec Ideal S8x4096x5632 .f32) : FVec Ideal S8x4098x5632 .f32 :=
  pad S8x4098x5632 ![0, 2, 0] ![0, 0, 0] ![0, 0, 0] u (sitofp .f32 (constantI S_ 32 0#32)) pads_S8x4096x5632_S8x4098x5632_000_200_000 h_S_

/-- The convolution. -/
def convV (p : FVec Ideal S8x4098x5632 .f32) (cw : FVec Ideal CW .f32) (cb : FVec Ideal CB .f32) : FVec Ideal S8x4096x5632 .f32 :=
  addf (addf (addf (addf (broadcastInDim S8x4096x5632 ![] bcast_S_S8x4096x5632 (constant S_ .f32 0x00000000#32)) (mulf (extractStridedSlice
    S8x4096x5632 ![0, 0, 0] p slices_S8x4098x5632_S8x4096x5632_0_0_0) (broadcastInDim S8x4096x5632 ![0, 1, 2] bcast_S1x1x5632_S8x4096x5632_0_1_2
    (broadcastInDim S1x1x5632 ![2] bcast_S5632_S1x1x5632_2 (shapeCast _ (extractStridedSlice S1x1x5632 ![0, 0, 0] cw
    slices_S2x3x5632_S1x1x5632_0_0_0) shapeCasts_S1x1x5632_S5632))))) (mulf (extractStridedSlice S8x4096x5632 ![0, 1, 0] p
    slices_S8x4098x5632_S8x4096x5632_0_1_0) (broadcastInDim S8x4096x5632 ![0, 1, 2] bcast_S1x1x5632_S8x4096x5632_0_1_2 (broadcastInDim S1x1x5632
    ![2] bcast_S5632_S1x1x5632_2 (shapeCast _ (extractStridedSlice S1x1x5632 ![0, 1, 0] cw slices_S2x3x5632_S1x1x5632_0_1_0)
    shapeCasts_S1x1x5632_S5632))))) (mulf (extractStridedSlice S8x4096x5632 ![0, 2, 0] p slices_S8x4098x5632_S8x4096x5632_0_2_0)
    (broadcastInDim S8x4096x5632 ![0, 1, 2] bcast_S1x1x5632_S8x4096x5632_0_1_2 (broadcastInDim S1x1x5632 ![2] bcast_S5632_S1x1x5632_2 (shapeCast _
    (extractStridedSlice S1x1x5632 ![0, 2, 0] cw slices_S2x3x5632_S1x1x5632_0_2_0) shapeCasts_S1x1x5632_S5632))))) (broadcastInDim S8x4096x5632
    ![0, 1, 2] bcast_S1x1x5632_S8x4096x5632_0_1_2 (broadcastInDim S1x1x5632 ![2] bcast_S5632_S1x1x5632_2 (shapeCast _ (extractStridedSlice S1x5632
    ![0, 0] cb slices_S2x5632_S1x5632_0_0) shapeCasts_S1x5632_S5632)))

/-- The gated product. -/
def gateV (v : FVec Ideal S8x4096x5632 .f32) : FVec Ideal S8x4096x2816 .f32 :=
  mulf (mulf (extractStridedSlice S8x4096x2816 ![0, 0, 2816] v slices_S8x4096x5632_S8x4096x2816_0_0_2816) (Host.divf (broadcastInDim S8x4096x2816 ![]
    bcast_S_S8x4096x2816 (constant S_ .f32 0x3F800000#32)) (addf (broadcastInDim S8x4096x2816 ![] bcast_S_S8x4096x2816 (constant S_ .f32
    0x3F800000#32)) (Host.exp (Host.negf (extractStridedSlice S8x4096x2816 ![0, 0, 2816] v slices_S8x4096x5632_S8x4096x2816_0_0_2816))))))
    (extractStridedSlice S8x4096x2816 ![0, 0, 0] v slices_S8x4096x5632_S8x4096x2816_0_0_0)

/-- The residual stream after the layer. -/
def outV (x : FVec Ideal S8x4096x1024 .f32) (g : FVec Ideal S8x4096x2816 .f32) (wu : FVec Ideal WU .f32) : FVec Ideal S8x4096x1024 .f32 :=
  addf x (Host.dotGeneral dot_S8x4096x2816_S2816x1024_S8x4096x1024_2_0_01_1_n_n none g (shapeCast _ (extractStridedSlice S1x2816x1024 ![0, 0, 0] wu
    slices_S2x2816x1024_S1x2816x1024_0_0_0) shapeCasts_S1x2816x1024_S2816x1024))

/-- One layer's row of norm weights. -/
def nwV (w : FVec Ideal NW .f32) : FVec Ideal S1024 .f32 :=
  shapeCast _ (extractStridedSlice S1x1024 ![0, 0] w slices_S2x1024_S1x1024_0_0) shapeCasts_S1x1024_S1024

theorem rmsV_at (x : FVec Ideal S8x4096x1024 .f32) (w : FVec Ideal S1024 .f32) (b : Fin 8) (t : Fin 4096) (d : Fin 1024) :
    rmsV x w (ix3 b t d) = rms (fun k => x (ix3 b t k)) (fun k => w (ix1 k)) d := by
  unfold rmsV rms
  pointwise

theorem upV_at (x : FVec Ideal S8x4096x1024 .f32) (wi : FVec Ideal WI .f32) (b : Fin 8) (t : Fin 4096) (f : Fin 5632) :
    upV x wi (ix3 b t f) = ∑ k, x (ix3 b t k) * wi (ix3 0 k f) := by
  unfold upV
  pointwise

theorem padV_at (u : FVec Ideal S8x4096x5632 .f32) (b : Fin 8) (t : Fin 4098) (f : Fin 5632) :
    padV u (ix3 b t f) = if 2 ≤ t.val then u (ix3 b ⟨t.val - 2, by omega⟩ f) else 0 := by
  unfold padV
  pointwise
  have h0 : (FloatOps.sitofp (F := Ideal) FTy.f32 0#32 : EReal) = 0 := by
    show (((0#32 : BitVec 32).toInt : ℝ) : EReal) = 0
    simp
  by_cases h : 2 ≤ t.val
  · rw [dif_pos ⟨h, by omega⟩, if_pos h]
  · rw [dif_neg (fun k => h k.1), if_neg h, h0]

theorem convV_at (p : FVec Ideal S8x4098x5632 .f32) (cw : FVec Ideal CW .f32) (cb : FVec Ideal CB .f32) (b : Fin 8) (t : Fin 4096) (f : Fin 5632) :
    convV p cw cb (ix3 b t f) = p (ix3 b ⟨t.val, by omega⟩ f) * cw (ix3 0 0 f) + p (ix3 b ⟨1 + t.val, by omega⟩ f) * cw (ix3 0 1 f)
      + p (ix3 b ⟨2 + t.val, by omega⟩ f) * cw (ix3 0 2 f) + cb (ix2 0 f) := by
  unfold convV
  pointwise

theorem gateV_at (v : FVec Ideal S8x4096x5632 .f32) (b : Fin 8) (t : Fin 4096) (k : Fin 2816) :
    gateV v (ix3 b t k) = gate (v (ix3 b t ⟨k.val, by omega⟩)) (v (ix3 b t ⟨2816 + k.val, by omega⟩)) := by
  unfold gateV gate
  pointwise

theorem outV_at (x : FVec Ideal S8x4096x1024 .f32) (g : FVec Ideal S8x4096x2816 .f32) (wu : FVec Ideal WU .f32) (b : Fin 8) (t : Fin 4096)
    (d : Fin 1024) : outV x g wu (ix3 b t d) = x (ix3 b t d) + ∑ k, g (ix3 b t k) * wu (ix3 0 k d) := by
  unfold outV
  pointwise

theorem nwV_at (w : FVec Ideal NW .f32) (k : Fin 1024) : nwV w (ix1 k) = w (ix2 0 k) := by
  unfold nwV
  pointwise

/-- The reference's arguments. -/
def args (m : (ℓ : Loc nD τ sig) → Buf (Elt Ideal) ℓ) (c : Dev nD) : Args where
  h := m ((c : Thread nD τ).loc main_arg0)
  nw := m ((c : Thread nD τ).loc main_arg1)
  wi := m ((c : Thread nD τ).loc main_arg2)
  cw := m ((c : Thread nD τ).loc main_arg3)
  cb := m ((c : Thread nD τ).loc main_arg4)
  wu := m ((c : Thread nD τ).loc main_arg5)

/-- The residual stream, of a call's arguments. -/
def mixA (A : Args) : FVec Ideal S8x4096x1024 .f32 := A.h

/-- The convolved input, of a call's arguments. -/
def convA (A : Args) : FVec Ideal S8x4096x5632 .f32 := convV (padV (upV (rmsV (mixA A) (nwV A.nw)) A.wi)) A.cw A.cb

/-- The reference's result, step by step. -/
theorem res_eq (m : (ℓ : Loc nD τ sig) → Buf (Elt Ideal) ℓ) (c : Dev nD) :
    (Cert.Reference3Ideal.Value.res_main_v53 m c : FVec Ideal S8x4096x1024 .f32)
      = outV (mixA (args m c)) (gateV (convA (args m c))) (args m c).wu := by
  delta Cert.Reference3Ideal.Value.res_main_v53 convA mixA args rmsV outV gateV convV padV upV nwV
  rfl

theorem mixA_at (A : Args) (b : Fin 8) (t : Fin 4096) (d : Fin 1024) : mixA A (ix3 b t d) = mix A b t d := rfl

theorem upA_at (A : Args) (b : Fin 8) (t : Fin 4096) (f : Fin 5632) : upV (rmsV (mixA A) (nwV A.nw)) A.wi (ix3 b t f) = up A b t f := by
  rw [upV_at]
  unfold up
  simp only [rmsV_at, mixA_at, nwV_at]

theorem convA_at (A : Args) (b : Fin 8) (t : Fin 4096) (f : Fin 5632) : convA A (ix3 b t f) = conv A b t f := by
  unfold convA conv back
  rw [convV_at]
  simp only [padV_at, upA_at]
  have e1 : (2 ≤ 1 + t.val) = (1 ≤ t.val) := by apply propext; omega
  have e2 : (2 ≤ 2 + t.val) = (0 ≤ t.val) := by apply propext; omega
  have i1 : ∀ h, (⟨1 + t.val - 2, h⟩ : Fin 4096) = ⟨t.val - 1, by omega⟩ := fun _ => Fin.ext (by dsimp only; omega)
  have i2 : ∀ h, (⟨2 + t.val - 2, h⟩ : Fin 4096) = ⟨t.val - 0, by omega⟩ := fun _ => Fin.ext (by dsimp only; omega)
  simp only [e1, e2, i1, i2]

/-- The reference's result at an index. -/
theorem res_at (m : (ℓ : Loc nD τ sig) → Buf (Elt Ideal) ℓ) (c : Dev nD) (b : Fin 8) (t : Fin 4096) (d : Fin 1024) :
    (Cert.Reference3Ideal.Value.res_main_v53 m c : FVec Ideal S8x4096x1024 .f32) (ix3 b t d) = res (args m c) b t d := by
  rw [res_eq]
  unfold res
  simp only [outV_at, gateV_at, convA_at, mixA_at]

end Cert.FirstRef

end
-- ==== Proof.First.lean ====
module

public import proofs.«01_k».proof.Proof.Gen.Kernel3Ideal.Frame.Runs

/-! # The first layer's feed-forward kernel's steps

One grid point's steps, over the blocks it has loaded. The tokens of a block are interleaved: row `8 j + s` holds token
`64 s + j`, so that eight consecutive rows hold tokens 64 apart. The hidden lanes come in 22 chunks of 256: chunk `2 j + p`
is the `j`-th of half `p`. -/

@[expose] public section

set_option maxRecDepth 16384

noncomputable section

namespace Cert.First

open Idealize.ShloMosaic Cert.Kernel3Ideal Cert.Kernel3Ideal.Gen

variable {F : FTy → Type} [FloatOps F] [Named F]

/-! ## The boxes of the stores and loads -/

/-- Segment `s` of slab `c` of the reordering buffer. -/
def segRect (c s : Fin 8) : Rect S8x576x128 :=
  Rect.unit ![c.val, 72 * s.val, 0] S1x64x128.size (by
    intro a
    have := c.isLt
    have := s.isLt
    fin_cases a <;> simp [Shape.size] <;> omega)

/-- Eight rows 72 apart, from row `j` of slab `c` of the reordering buffer. -/
def rowRect (c : Fin 8) (j : Fin 64) : Rect S8x576x128 :=
  Rect.mk (LoadRect.mk ![c.val, j.val, 0] S1x8x128.size ![1, 72, 1] (by
    intro a
    have := c.isLt
    have := j.isLt
    fin_cases a <;> simp [Shape.size] <;> omega)) (by
    intro a
    fin_cases a <;> simp)

/-- Segment `s` of slab `c` of the output. -/
def outRect (c s : Fin 8) : Rect S1x512x1024 :=
  Rect.unit ![0, 64 * s.val, 128 * c.val] S1x64x128.size (by
    intro a
    have := c.isLt
    have := s.isLt
    fin_cases a <;> simp [Shape.size] <;> omega)

/-- Chunk `e` of the layer's input. -/
def upRect (e : Fin 22) : Rect S22x512x256 :=
  Rect.unit ![e.val, 0, 0] S1x512x256.size (by
    intro a
    have := e.isLt
    fin_cases a <;> simp [Shape.size] <;> omega)

/-- The `k`-th carried rows of chunk `e`. -/
def carRect (e : Fin 22) (k : Fin 2) : Rect S22x2x8x256 :=
  Rect.unit ![e.val, k.val, 0, 0] S1x1x8x256.size (by
    intro a
    have := e.isLt
    have := k.isLt
    fin_cases a <;> simp [Shape.size] <;> omega)

/-- Chunk `j` of the gated product. -/
def actRect (j : Fin 11) : Rect S512x2816 :=
  Rect.unit ![0, 256 * j.val] S512x256.size (by
    intro a
    have := j.isLt
    fin_cases a <;> simp [Shape.size] <;> omega)

/-- The whole gated product. -/
def actAll : Rect S512x2816 :=
  Rect.unit ![0, 0] S512x2816.size (by
    intro a
    fin_cases a <;> simp [Shape.size])

/-- The first lane of chunk `e`. -/
def colOf (e : Fin 22) : ℕ := e.val % 2 * 2816 + e.val / 2 * 256

theorem colOf_le (e : Fin 22) : colOf e + 256 ≤ 5632 := by
  have := e.isLt
  unfold colOf
  omega

/-- Chunk `e` of the input weights. -/
def winRect (e : Fin 22) : Rect S1x1024x5632 :=
  Rect.unit ![0, 0, colOf e] S1x1024x256.size (by
    intro a
    have := colOf_le e
    fin_cases a <;> simp [Shape.size] <;> omega)

/-- Chunk `e` of the convolution's weights. -/
def cwRect (e : Fin 22) : Rect S1x3x5632 :=
  Rect.unit ![0, 0, colOf e] S1x3x256.size (by
    intro a
    have := colOf_le e
    fin_cases a <;> simp [Shape.size] <;> omega)

/-- Chunk `e` of the convolution's offsets. -/
def cbRect (e : Fin 22) : Rect S1x1x5632 :=
  Rect.unit ![0, 0, colOf e] S1x1x256.size (by
    intro a
    have := colOf_le e
    fin_cases a <;> simp [Shape.size] <;> omega)

/-- Equal pieces join along an axis. -/
theorem concat_ofFn {α : Type} {s t : Shape} {a : Fin t.rank} {N : ℕ} (h : Shape.Concatenates (List.replicate N s) t a)
    (f : Fin N → s.Idx → α) :
    Shape.Concatenates ((List.ofFn fun n : Fin N => (⟨s, f n⟩ : (s : Shape) × (s.Idx → α))).map (·.1)) t a := by
  have e : (List.ofFn fun n : Fin N => (⟨s, f n⟩ : (s : Shape) × (s.Idx → α))).map (·.1) = List.replicate N s := by
    rw [List.map_ofFn]
    exact List.ofFn_const N s
  rw [e]
  exact h

/-- Eight slabs of 128 lanes. -/
theorem concat_slabs : Shape.Concatenates (List.replicate 8 S512x128) S512x1024 1 :=
  concatenates_S512x128_S512x128_S512x128_S512x128_S512x128_S512x128_S512x128_S512x128_S512x1024_d1

/-- Sixty-four groups of eight rows. -/
theorem concat_rows : Shape.Concatenates (List.replicate 64 S8x128) S512x128 0 := by
  refine ⟨by decide, fun s hs => ?_, by decide +kernel⟩
  obtain rfl := List.eq_of_mem_replicate hs
  exact ⟨rfl, by decide +kernel⟩

/-- Segment `s` of slab `c` of a block. -/
theorem slices_seg (c s : Fin 8) : S512x1024.Slices ![64 * s.val, 128 * c.val] S64x128 :=
  ⟨rfl, fun a => by
    have := c.isLt
    have := s.isLt
    fin_cases a <;> simp [Shape.size] <;> omega⟩

/-- Row group `j` of slab `c` of a block. -/
theorem slices_rows (c : Fin 8) (j : Fin 64) : S512x1024.Slices ![8 * j.val, 128 * c.val] S8x128 :=
  ⟨rfl, fun a => by
    have := c.isLt
    have := j.isLt
    fin_cases a <;> simp [Shape.size] <;> omega⟩

/-- The slab of the `n`-th segment, counting slab by slab. -/
def slab {N : ℕ} (w : ℕ) (n : Fin N) (h : N = 8 * w) : Fin 8 := ⟨n.val / w, by
  have := n.isLt
  exact Nat.div_lt_of_lt_mul (by omega)⟩

/-- The position of the `n`-th segment in its slab. -/
def inSlab {N : ℕ} (w : ℕ) (n : Fin N) (h : N = 8 * w) : Fin w := ⟨n.val % w, Nat.mod_lt _ (by
  have := n.isLt
  omega)⟩

/-- A grid point's loaded blocks. -/
structure Blocks (F : FTy → Type) where
  h : Vec F S1x512x1024 .f32
  nw : Vec F S1x1x1024 .f32
  wi : Fin 22 → Vec F S1x1024x256 .bf16
  cw : Fin 22 → Vec F S1x3x256 .f32
  cb : Fin 22 → Vec F S1x1x256 .f32
  wu : Vec F S1x2816x1024 .bf16

/-! ## The residual stream, interleaved -/

/-- The residual stream. -/
def mixV (B : Blocks F) : FVec F S512x1024 .f32 := shapeCast S512x1024 B.h shapeCasts_S1x512x1024_S512x1024

/-- A block's segments as they are stored in the reordering buffer, last first. -/
def segPieces (x : FVec F S512x1024 .f32) : List (View.Piece (Elt F) S8x576x128 .f32) :=
  List.ofFn fun n : Fin 64 => ⟨segRect (slab 8 n.rev rfl) (inSlab 8 n.rev rfl),
    shapeCast S1x64x128 (extractStridedSlice S64x128 ![64 * (inSlab 8 n.rev rfl).val, 128 * (slab 8 n.rev rfl).val] x (slices_seg _ _))
      shapeCasts_S64x128_S1x64x128⟩

/-- The interleaved block: rows 72 apart of the buffer, read back group by group. -/
def inter (v : View sig .tc .vmem S8x576x128 .f32) (x : FVec F S512x1024 .f32) : FVec F S512x1024 .f32 :=
  concatenate S512x1024 1 (List.ofFn fun c : Fin 8 => ⟨S512x128,
    concatenate S512x128 0 (List.ofFn fun j : Fin 64 => ⟨S8x128,
      shapeCast S8x128 (v.readCov (Val := Elt F) (segPieces x) (rowRect c j).toLoadRect) shapeCasts_S1x8x128_S8x128⟩) (concat_ofFn concat_rows _)⟩)
    (concat_ofFn concat_slabs _)

/-- The norm of a block's rows. -/
def rmsV (x : FVec F S512x1024 .f32) (w : FVec F S1x1024 .f32) : FVec F S512x1024 .f32 :=
  mulf (mulf x (broadcastTo S512x1024 (rsqrt (addf (divf
    (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 w broadcasts_S1x1024_S512x1024)

/-! ## The layer's input -/

/-- One chunk of the layer's input. -/
def upV (x : FVec F S512x1024 .bf16) (w : Vec F S1x1024x256 .bf16) : FVec F S512x256 .f32 :=
  matmul dot_S512x1024_S1024x256_S512x256_1_0_0_1_n_n none x (shapeCast S1024x256 w shapeCasts_S1x1024x256_S1024x256)
    (constant S512x256 .f32 0x00000000#32)

/-- The first `n` chunks of the layer's input as they are stored, last first. -/
def upPieces (x : FVec F S512x1024 .bf16) (w : Fin 22 → Vec F S1x1024x256 .bf16) (n : ℕ) (hn : n ≤ 22) :
    List (View.Piece (Elt F) S22x512x256 .f32) :=
  List.ofFn fun i : Fin n => ⟨upRect (i.rev.castLE hn), shapeCast S1x512x256 (upV x (w (i.rev.castLE hn))) shapeCasts_S512x256_S1x512x256⟩

/-- Chunk `e` read back, after the next pair of chunks has been stored. -/
def upAt (v : View sig .tc .vmem S22x512x256 .f32) (x : FVec F S512x1024 .bf16) (w : Fin 22 → Vec F S1x1024x256 .bf16) (e : Fin 22) :
    FVec F S512x256 .f32 :=
  shapeCast S512x256 (v.readCov (Val := Elt F) (upPieces x w (min (e.val / 2 * 2 + 4) 22) (Nat.min_le_right _ _)) (upRect e).toLoadRect)
    shapeCasts_S1x512x256_S512x256

/-! ## The convolution -/

/-- A block's last eight rows, each one row down. -/
def topV (y : FVec F S512x256 .f32) : FVec F S8x256 .f32 :=
  dynamicRotate 0 1#32 none (extractStridedSlice S8x256 ![504, 0] y slices_S512x256_o504_0_S8x256) rotates_S8x256_d0

/-- A block moved by one token, the first coming from the carried rows. -/
def shiftV (y : FVec F S512x256 .f32) (c : Vec F S1x1x8x256 .f32) : FVec F S512x256 .f32 :=
  concatenate S512x256 0 [⟨S8x256, select (cmpi .eq (iota .tc S8x256 32 [0] iota_S8x256_d0_w32) (broadcast S8x256 0#32))
      (shapeCast S8x256 c shapeCasts_S1x1x8x256_S8x256) (topV y)⟩,
    ⟨S504x256, extractStridedSlice S504x256 ![0, 0] y slices_S512x256_o0_0_S504x256⟩] concatenates_S8x256_S504x256_S512x256_d0

/-- A block times the first of its chunk's three weights. -/
def tap0 (u : FVec F S512x256 .f32) (w : Vec F S1x3x256 .f32) : FVec F S512x256 .f32 :=
  mulf u (broadcastTo S512x256 (extractStridedSlice S1x256 ![0, 0] (shapeCast S3x256 w shapeCasts_S1x3x256_S3x256) slices_S3x256_o0_0_S1x256)
    broadcasts_S1x256_S512x256)

/-- The first two weights' part of the convolution. -/
def conv1 (u : FVec F S512x256 .f32) (w : Vec F S1x3x256 .f32) (c0 : Vec F S1x1x8x256 .f32) : FVec F S512x256 .f32 :=
  addf (shiftV (tap0 u w) c0) (mulf u (broadcastTo S512x256 (extractStridedSlice S1x256 ![1, 0] (shapeCast S3x256 w shapeCasts_S1x3x256_S3x256)
    slices_S3x256_o1_0_S1x256) broadcasts_S1x256_S512x256))

/-- The convolution of one chunk. -/
def conv2 (u : FVec F S512x256 .f32) (w : Vec F S1x3x256 .f32) (b : Vec F S1x1x256 .f32) (c0 c1 : Vec F S1x1x8x256 .f32) : FVec F S512x256 .f32 :=
  addf (addf (shiftV (conv1 u w c0) c1) (mulf u (broadcastTo S512x256 (extractStridedSlice S1x256 ![2, 0] (shapeCast S3x256 w
    shapeCasts_S1x3x256_S3x256) slices_S3x256_o2_0_S1x256) broadcasts_S1x256_S512x256)))
    (broadcastTo S512x256 (shapeCast S1x256 b shapeCasts_S1x1x256_S1x256) broadcasts_S1x256_S512x256)

/-- How a chunk's carried rows are read, from what has been stored there. -/
abbrev Rd (F : FTy → Type) := List (View.Piece (Elt F) S22x2x8x256 .f32) → Fin 22 → Fin 2 → Vec F S1x1x8x256 .f32

/-- A chunk's number. -/
def chunk (n : ℕ) : Fin 22 := Fin.ofNat 22 n

section
variable (L₀ : List (View.Piece (Elt F) S22x2x8x256 .f32)) (rd : Rd F) (u : Fin 22 → FVec F S512x256 .f32) (w : Fin 22 → Vec F S1x3x256 .f32)
  (b : Fin 22 → Vec F S1x1x256 .f32)

/-- The carried rows with the first of chunk `e`'s stored. -/
def carHalf (L : List (View.Piece (Elt F) S22x2x8x256 .f32)) (e : Fin 22) : List (View.Piece (Elt F) S22x2x8x256 .f32) :=
  ⟨carRect e 0, shapeCast S1x1x8x256 (topV (tap0 (u e) (w e))) shapeCasts_S8x256_S1x1x8x256⟩ :: L

/-- The carried rows after the first `n` chunks, as they are stored, last first. -/
def carPieces : ℕ → List (View.Piece (Elt F) S22x2x8x256 .f32)
  | 0 => L₀
  | n + 1 => ⟨carRect (chunk n) 1, shapeCast S1x1x8x256 (topV (conv1 (u (chunk n)) (w (chunk n)) (rd (carPieces n) (chunk n) 0)))
      shapeCasts_S8x256_S1x1x8x256⟩ :: carHalf u w (carPieces n) (chunk n)

/-- The convolution of chunk `e`. -/
def convE (e : Fin 22) : FVec F S512x256 .f32 :=
  conv2 (u e) (w e) (b e) (rd (carPieces L₀ rd u w e.val) e 0) (rd (carHalf u w (carPieces L₀ rd u w e.val) e) e 1)

end

/-! ## The gate and the result -/

/-- The gated product of one pair of chunks. -/
def gateV (a g : FVec F S512x256 .f32) : FVec F S512x256 .bf16 :=
  shapeCast S512x256 (truncf .bf16 (mulf (mulf g (divf (broadcast S512x256 (Scalar.ofBits .f32 0x3F800000#32))
    (addf (broadcast S512x256 (Scalar.ofBits .f32 0x3F800000#32)) (exp2 (mulf g (broadcast S512x256 (Named.named κ "neg_log2e" 0xBFB8AA3B#32)))))))
    a) bitsLt_bf16_f32) shapeCasts_S512x256_S512x256

/-- The gated product as it is stored, last chunk first. -/
def actPieces (y : Fin 22 → FVec F S512x256 .f32) : List (View.Piece (Elt F) S512x2816 .bf16) :=
  List.ofFn fun n : Fin 11 => ⟨actRect n.rev, gateV (y ⟨2 * n.rev.val, by omega⟩) (y ⟨2 * n.rev.val + 1, by omega⟩)⟩

/-- A block's rows as they are stored in the reordering buffer, over the segments, last first. -/
def rowPieces (x y : FVec F S512x1024 .f32) : List (View.Piece (Elt F) S8x576x128 .f32) :=
  (List.ofFn fun n : Fin 512 => ⟨rowRect (slab 64 n.rev rfl) (inSlab 64 n.rev rfl),
    shapeCast S1x8x128 (extractStridedSlice S8x128 ![8 * (inSlab 64 n.rev rfl).val, 128 * (slab 64 n.rev rfl).val] y (slices_rows _ _))
      shapeCasts_S8x128_S1x8x128⟩) ++ segPieces x

/-- The output's segments, last first. -/
def outPieces (v : View sig .tc .vmem S8x576x128 .f32) (x y : FVec F S512x1024 .f32) : List (View.Piece (Elt F) S1x512x1024 .f32) :=
  List.ofFn fun n : Fin 64 => ⟨outRect (slab 8 n.rev rfl) (inSlab 8 n.rev rfl),
    shapeCast S1x64x128 (shapeCast S64x128
      (v.readCov (Val := Elt F) (rowPieces x y) (segRect (slab 8 n.rev rfl) (inSlab 8 n.rev rfl)).toLoadRect) shapeCasts_S1x64x128_S64x128)
      shapeCasts_S64x128_S1x64x128⟩

/-- The scratch buffers a point works in. -/
structure Scratch where
  p : View sig .tc .vmem S8x576x128 .f32
  u : View sig .tc .vmem S22x512x256 .f32
  a : View sig .tc .vmem S512x2816 .bf16

variable (S : Scratch) (B : Blocks F)

/-- The normed interleaved block. -/
def hnV : FVec F S512x1024 .bf16 :=
  truncf .bf16 (rmsV (inter S.p (mixV B)) (shapeCast S1x1024 B.nw shapeCasts_S1x1x1024_S1x1024)) bitsLt_bf16_f32

/-- The layer's input's chunks. -/
def uV (e : Fin 22) : FVec F S512x256 .f32 := upAt S.u (hnV S B) B.wi e

/-- The convolved chunks. -/
def yV (L₀ : List (View.Piece (Elt F) S22x2x8x256 .f32)) (rd : Rd F) (e : Fin 22) : FVec F S512x256 .f32 :=
  convE L₀ rd (uV S B) B.cw B.cb e

/-- The point's result, interleaved. -/
def finV (L₀ : List (View.Piece (Elt F) S22x2x8x256 .f32)) (rd : Rd F) : FVec F S512x1024 .f32 :=
  addf (inter S.p (mixV B)) (matmul dot_S512x2816_S2816x1024_S512x1024_1_0_0_1_n_n none
    (S.a.readCov (Val := Elt F) (actPieces (yV S B L₀ rd)) actAll.toLoadRect)
    (shapeCast S2816x1024 B.wu shapeCasts_S1x2816x1024_S2816x1024) (constant S512x1024 .f32 0x00000000#32))

/-- What the point stores in its output block. -/
def outL (L₀ : List (View.Piece (Elt F) S22x2x8x256 .f32)) (rd : Rd F) : List (View.Piece (Elt F) S1x512x1024 .f32) :=
  outPieces S.p (mixV B) (finV S B L₀ rd)

/-- What the point carries to the next. -/
def carL (L₀ : List (View.Piece (Elt F) S22x2x8x256 .f32)) (rd : Rd F) : List (View.Piece (Elt F) S22x2x8x256 .f32) :=
  carPieces L₀ rd (uV S B) B.cw 22

end Cert.First
end
-- ==== Proof.FirstRun.lean ====
module

public import proofs.«01_k».proof.Proof.Gen.Kernel3Ideal.Frame
public import proofs.«01_k».proof.Proof.First
public import Idealize.ShloMosaic.Lib.Tactic

/-! # What a grid point of the first layer's feed-forward kernel stores, in the model's steps -/

@[expose] public section

set_option maxRecDepth 16384
set_option maxHeartbeats 4000000

noncomputable section

namespace Cert.FirstRun

open Idealize.ShloMosaic Idealize.SL.Sem Cert.Kernel3Ideal Cert.Kernel3Ideal.Gen Cert.First

variable {F : FTy → Type} [FloatOps F] [Named F]

variable (c : Dev nD)
  (i : grid0.Coords) (arg2 : Memref sig .tc .vmem S1x512x1024 .f32) (harg2 : arg2.IsWhole)
  (arg3 : Memref sig .tc .vmem S1x1x1024 .f32) (harg3 : arg3.IsWhole) (arg4 : Memref sig .tc .vmem S1x1024x5632 .bf16)
  (harg4 : arg4.IsWhole) (arg5 : Memref sig .tc .vmem S1x3x5632 .f32) (harg5 : arg5.IsWhole) (arg6 : Memref sig .tc .vmem S1x1x5632 .f32)
  (harg6 : arg6.IsWhole) (arg7 : Memref sig .tc .vmem S1x2816x1024 .bf16) (harg7 : arg7.IsWhole)
  (arg8 : Memref sig .tc .vmem S1x512x1024 .f32) (harg8 : arg8.IsWhole)
  (arg9 : Memref sig .tc .vmem S8x576x128 .f32) (harg9 : arg9.IsWhole) (arg10 : Memref sig .tc .vmem S22x512x256 .f32)
  (harg10 : arg10.IsWhole) (arg11 : Memref sig .tc .vmem S22x2x8x256 .f32) (harg11 : arg11.IsWhole)
  (arg12 : Memref sig .tc .vmem S512x2816 .bf16) (harg12 : arg12.IsWhole)
  (x0 : Vec F S1x512x1024 .f32) (x1 : Vec F S1x1x1024 .f32)
  (x2 : Vec F S1x1024x5632 .bf16) (x3 : Vec F S1x3x5632 .f32) (x4 : Vec F S1x1x5632 .f32) (x5 : Vec F S1x2816x1024 .bf16)
  (xs2 : Vec F S22x2x8x256 .f32)

/-- A point's blocks, as it loads them from the staging buffers. -/
def blocks : Blocks F where
  h := View.readAt (Elt F) arg2.view (Rect.unit ![0, 0, 0] S1x512x1024.size inb_S1x512x1024_S1x512x1024_0_0_0).toLoadRect (harg2.unread x0)
  nw := View.readAt (Elt F) arg3.view (Rect.unit ![0, 0, 0] S1x1x1024.size inb_S1x1x1024_S1x1x1024_0_0_0).toLoadRect (harg3.unread x1)
  wi e := View.readAt (Elt F) arg4.view (winRect e).toLoadRect (harg4.unread x2)
  cw e := View.readAt (Elt F) arg5.view (cwRect e).toLoadRect (harg5.unread x3)
  cb e := View.readAt (Elt F) arg6.view (cbRect e).toLoadRect (harg6.unread x4)
  wu := View.readAt (Elt F) arg7.view (Rect.unit ![0, 0, 0] S1x2816x1024.size inb_S1x2816x1024_S1x2816x1024_0_0_0).toLoadRect (harg7.unread x5)

/-- The scratch a point works in. -/
def scratch : Scratch where
  p := arg9.view
  u := arg10.view
  a := arg12.view

/-- The carried rows set to zero, before a row of blocks. -/
def zeroed : List (View.Piece (Elt F) S22x2x8x256 .f32) :=
  [⟨Rect.unit ![0, 0, 0, 0] S22x2x8x256.size inb_S22x2x8x256_S22x2x8x256_0_0_0_0, shapeCast S22x2x8x256 (broadcast S22x2x8x256
    (Scalar.ofBits .f32 0x00000000#32)) shapeCasts_S22x2x8x256_S22x2x8x256⟩]

/-- Carried rows read from what this point has stored. -/
def rdA : Rd F := fun L e k => arg11.view.readCov (Val := Elt F) L (carRect e k).toLoadRect

/-- Carried rows read from what the point before left. -/
def rdB : Rd F := fun _ e k => View.readAt (Elt F) arg11.view (carRect e k).toLoadRect (harg11.unread xs2)

/-- The pieces of the output block, at the first block of a row. -/
theorem run_A_out (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4 x5).1
      = outL (scratch arg9 arg10 arg12) (blocks arg2 harg2 arg3 harg3 arg4 harg4 arg5 harg5 arg6 harg6 arg7 harg7
        x0 x1 x2 x3 x4 x5) zeroed (rdA arg11) := by
  sl_kernel_rfl

/-- The pieces of the carried rows, at the first block of a row. -/
theorem run_A_car (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4 x5).2.1
      = carL (scratch arg9 arg10 arg12) (blocks arg2 harg2 arg3 harg3 arg4 harg4 arg5 harg5 arg6 harg6 arg7 harg7
        x0 x1 x2 x3 x4 x5) zeroed (rdA arg11) := by
  sl_kernel_rfl

/-- The pieces of the output block, at a later block. -/
theorem run_B_out (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 xs2).1
      = outL (scratch arg9 arg10 arg12) (blocks arg2 harg2 arg3 harg3 arg4 harg4 arg5 harg5 arg6 harg6 arg7 harg7
        x0 x1 x2 x3 x4 x5) [] (rdB arg11 harg11 xs2) := by
  sl_kernel_rfl

/-- The pieces of the carried rows, at a later block. -/
theorem run_B_car (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 xs2).2.1
      = carL (scratch arg9 arg10 arg12) (blocks arg2 harg2 arg3 harg3 arg4 harg4 arg5 harg5 arg6 harg6 arg7 harg7
        x0 x1 x2 x3 x4 x5) [] (rdB arg11 harg11 xs2) := by
  sl_kernel_rfl

end Cert.FirstRun
end
-- ==== Proof.FirstRead.lean ====
module

public import proofs.«01_k».proof.Proof.First
public import proofs.«01_k».proof.Proof.FirstLayer
public import Idealize.ShloMosaic.Lib.Tactic.CleanTypes
public import Idealize.ShloMosaic.Lib.Pipeline.ValueKit
public import Idealize.ShloMosaic.Lib.Pipeline.CanonAppend
public import Idealize.ShloMosaic.Lib.Pipeline.ReadBack
public import Idealize.ShloMosaic.Lib.Pointwise
public import Idealize.ShloMosaic.Lib.WholeRead

/-! # The first layer's feed-forward kernel's steps at an index, over extended reals -/

@[expose] public section

set_option maxRecDepth 16384

noncomputable section

namespace Cert.FirstRead

open Idealize.ShloMosaic Cert.Kernel3Ideal Cert.Kernel3Ideal.Gen Cert.First

/-! ## The reordering buffer -/

/-- A payload of one segment. -/
theorem seg_pay (x : FVec Ideal S512x1024 .f32) (c s : Fin 8) (h : S512x1024.Slices ![64 * s.val, 128 * c.val] S64x128) (j : Fin 64) (l : Fin 128) :
    (shapeCast S1x64x128 (extractStridedSlice S64x128 ![64 * s.val, 128 * c.val] x h) shapeCasts_S64x128_S1x64x128 (ix3 0 j l) : EReal)
      = x (ix2 ⟨64 * s.val + j.val, by omega⟩ ⟨128 * c.val + l.val, by omega⟩) := by
  pointwise

/-- A payload of one group of rows. -/
theorem row_pay (x : FVec Ideal S512x1024 .f32) (c : Fin 8) (j : Fin 64) (h : S512x1024.Slices ![8 * j.val, 128 * c.val] S8x128) (s : Fin 8) (l : Fin 128) :
    (shapeCast S1x8x128 (extractStridedSlice S8x128 ![8 * j.val, 128 * c.val] x h) shapeCasts_S8x128_S1x8x128 (ix3 0 s l) : EReal)
      = x (ix2 ⟨8 * j.val + s.val, by omega⟩ ⟨128 * c.val + l.val, by omega⟩) := by
  pointwise

/-- Where a segment's entry lies. -/
theorem segRect_idx (c s : Fin 8) (j : Fin 64) (l : Fin 128) :
    (segRect c s).toLoadRect.idx (ix3 0 j l) = ix3 c ⟨72 * s.val + j.val, by omega⟩ l := by
  funext a
  refine Fin.ext ?_
  show ![c.val, 72 * s.val, 0] a + 1 * _ = _
  fin_cases a <;> simp

/-- Where an entry of a row group lies. -/
theorem rowRect_idx (c : Fin 8) (j : Fin 64) (s : Fin 8) (l : Fin 128) :
    (rowRect c j).toLoadRect.idx (ix3 0 s l) = ix3 c ⟨72 * s.val + j.val, by omega⟩ l := by
  funext a
  refine Fin.ext ?_
  show ![c.val, j.val, 0] a + ![1, 72, 1] a * _ = _
  fin_cases a <;> simp <;> omega

/-- A segment's payload where it lies. -/
theorem seg_piece (x : FVec Ideal S512x1024 .f32) (c s : Fin 8) (j : Fin 64) (l : Fin 128) (c' s' : Fin 8)
    (h : S512x1024.Slices ![64 * s'.val, 128 * c'.val] S64x128) (p : (segRect c' s').shape.Idx)
    (hp : (segRect c' s').emb p = ix3 c ⟨72 * s.val + j.val, by omega⟩ l) :
    (shapeCast S1x64x128 (extractStridedSlice S64x128 ![64 * s'.val, 128 * c'.val] x h) shapeCasts_S64x128_S1x64x128 p : EReal)
      = x (ix2 ⟨64 * s.val + j.val, by omega⟩ ⟨128 * c.val + l.val, by omega⟩) := by
  obtain ⟨j', l', rfl⟩ : ∃ (j' : Fin 64) (l' : Fin 128), p = ix3 0 j' l' := ⟨p 1, p 2, by blk_ext⟩
  have hp' := (segRect_idx c' s' j' l').symm.trans hp
  have e0 := congrArg (fun y : S8x576x128.Idx => (y 0).val) hp'
  have e1 := congrArg (fun y : S8x576x128.Idx => (y 1).val) hp'
  have e2 := congrArg (fun y : S8x576x128.Idx => (y 2).val) hp'
  simp at e0 e1 e2
  refine (seg_pay x c' s' _ j' l').trans (congrArg x ?_)
  blk_ext <;> omega

/-- A row group's payload where it lies. -/
theorem row_piece (x : FVec Ideal S512x1024 .f32) (c s : Fin 8) (j : Fin 64) (l : Fin 128) (c' : Fin 8) (j' : Fin 64)
    (h : S512x1024.Slices ![8 * j'.val, 128 * c'.val] S8x128) (p : (rowRect c' j').shape.Idx)
    (hp : (rowRect c' j').emb p = ix3 c ⟨72 * s.val + j.val, by omega⟩ l) :
    (shapeCast S1x8x128 (extractStridedSlice S8x128 ![8 * j'.val, 128 * c'.val] x h) shapeCasts_S8x128_S1x8x128 p : EReal)
      = x (ix2 ⟨8 * j.val + s.val, by omega⟩ ⟨128 * c.val + l.val, by omega⟩) := by
  obtain ⟨s', l', rfl⟩ : ∃ (s' : Fin 8) (l' : Fin 128), p = ix3 0 s' l' := ⟨p 1, p 2, by blk_ext⟩
  have hp' := (rowRect_idx c' j' s' l').symm.trans hp
  have e0 := congrArg (fun y : S8x576x128.Idx => (y 0).val) hp'
  have e1 := congrArg (fun y : S8x576x128.Idx => (y 1).val) hp'
  have e2 := congrArg (fun y : S8x576x128.Idx => (y 2).val) hp'
  simp at e0 e1 e2
  refine (row_pay x c' j' _ s' l').trans (congrArg x ?_)
  blk_ext <;> omega

/-- The segments stored, at an index. -/
theorem seg_at (x : FVec Ideal S512x1024 .f32) (c s : Fin 8) (j : Fin 64) (l : Fin 128) :
    (View.canon (Val := Elt Ideal) (segPieces x) (ix3 c ⟨72 * s.val + j.val, by omega⟩ l) : EReal)
      = x (ix2 ⟨64 * s.val + j.val, by omega⟩ ⟨128 * c.val + l.val, by omega⟩) := by
  unfold segPieces
  refine View.canon_ofFn_eq_of_forall _ _ _ _ ⟨(⟨8 * c.val + s.val, by omega⟩ : Fin 64).rev, ?_⟩
    fun n p hp => seg_piece x c s j l _ _ _ p hp
  have hc : slab 8 ((⟨8 * c.val + s.val, by omega⟩ : Fin 64).rev).rev rfl = c := Fin.ext (by simp [slab]; omega)
  have hs : inSlab 8 ((⟨8 * c.val + s.val, by omega⟩ : Fin 64).rev).rev rfl = s := Fin.ext (by simp [inSlab])
  rw [hc, hs, ← segRect_idx]
  exact LoadRect.idx_mem _ _

/-- What the rows stored over the segments hold, anywhere in the buffer. -/
def rowsG (y : FVec Ideal S512x1024 .f32) : S8x576x128.Idx → EReal := fun z =>
  y (ix2 ⟨(8 * ((z 1).val % 72) + (z 1).val / 72) % 512, Nat.mod_lt _ (by decide)⟩
    ⟨128 * (z 0).val + (z 2).val, by
      have : (z 0).val < 8 := (z 0).isLt
      have : (z 2).val < 128 := (z 2).isLt
      omega⟩)

theorem rowsG_at (y : FVec Ideal S512x1024 .f32) (c s : Fin 8) (j : Fin 64) (l : Fin 128) :
    rowsG y (ix3 c ⟨72 * s.val + j.val, by omega⟩ l) = y (ix2 ⟨8 * j.val + s.val, by omega⟩ ⟨128 * c.val + l.val, by omega⟩) := by
  unfold rowsG
  refine congrArg y ?_
  have h1 : (72 * s.val + j.val) / 72 = s.val := by omega
  have h2 : (72 * s.val + j.val) % 72 = j.val := by omega
  blk_ext <;> simp only [h1, h2] <;> omega

/-- Rows stored over the segments, at an index. -/
theorem rows_at (x y : FVec Ideal S512x1024 .f32) (c s : Fin 8) (j : Fin 64) (l : Fin 128) :
    (View.canon (Val := Elt Ideal) (rowPieces x y) (ix3 c ⟨72 * s.val + j.val, by omega⟩ l) : EReal)
      = y (ix2 ⟨8 * j.val + s.val, by omega⟩ ⟨128 * c.val + l.val, by omega⟩) := by
  unfold rowPieces
  refine (View.canon_append_of_pieces (rowsG y) _ _ (fun p hp z => ?_) _ ?_).trans (rowsG_at y c s j l)
  · obtain ⟨n, rfl⟩ := (List.mem_ofFn' _ _).1 hp
    obtain ⟨s', l', rfl⟩ : ∃ (s' : Fin 8) (l' : Fin 128), z = ix3 0 s' l' := ⟨z 1, z 2, by blk_ext⟩
    refine (row_pay y _ _ (slices_rows _ _) s' l').trans ((rowsG_at y _ s' _ l').symm.trans (congrArg (rowsG y) (rowRect_idx _ _ s' l').symm))
  · refine ⟨_, (List.mem_ofFn' _ _).2 ⟨(⟨64 * c.val + j.val, by omega⟩ : Fin 512).rev, rfl⟩, ?_⟩
    have hc : slab 64 ((⟨64 * c.val + j.val, by omega⟩ : Fin 512).rev).rev rfl = c := Fin.ext (by simp [slab]; omega)
    have hs : inSlab 64 ((⟨64 * c.val + j.val, by omega⟩ : Fin 512).rev).rev rfl = j := Fin.ext (by simp [inSlab])
    show _ ∈ (rowRect (slab 64 _ _) (inSlab 64 _ _)).set
    rw [hc, hs, ← rowRect_idx]
    exact LoadRect.idx_mem _ _

/-! ## The interleaving -/

/-- Eight slabs side by side, at an index. -/
theorem slabs_at {φ : FTy} (f : Fin 8 → FVec Ideal S512x128 φ) (h) (i : Fin 512) (d : Fin 1024) :
    (concatenate S512x1024 1 (List.ofFn fun n : Fin 8 => (⟨S512x128, f n⟩ : (s : Shape) × (s.Idx → EReal))) h (ix2 i d) : EReal)
      = f ⟨d.val / 128, by omega⟩ (ix2 i ⟨d.val % 128, by omega⟩) :=
  concatenate_ofFn_apply 1 f h rfl 128 rfl _ _ rfl _ rfl fun b hb => by
    fin_cases b <;> first | rfl | exact absurd rfl hb

/-- Sixty-four groups of rows one over the other, at an index. -/
theorem groups_at {φ : FTy} (f : Fin 64 → FVec Ideal S8x128 φ) (h) (i : Fin 512) (l : Fin 128) :
    (concatenate S512x128 0 (List.ofFn fun n : Fin 64 => (⟨S8x128, f n⟩ : (s : Shape) × (s.Idx → EReal))) h (ix2 i l) : EReal)
      = f ⟨i.val / 8, by omega⟩ (ix2 ⟨i.val % 8, by omega⟩ l) :=
  concatenate_ofFn_apply 0 f h rfl 8 rfl _ _ rfl _ rfl fun b hb => by
    fin_cases b <;> first | rfl | exact absurd rfl hb

/-- A group of rows without its leading axis. -/
theorem cast_group (x : FVec Ideal S1x8x128 .f32) (s : Fin 8) (l : Fin 128) :
    (shapeCast S8x128 x shapeCasts_S1x8x128_S8x128 (ix2 s l) : EReal) = x (ix3 0 s l) := by
  pointwise

/-- A row's token in its block. -/
def tok (i : Fin 512) : Fin 512 := ⟨i.val % 8 * 64 + i.val / 8, by omega⟩

/-- A block interleaved, at an index. -/
theorem inter_at (v : View sig .tc .vmem S8x576x128 .f32) (x : FVec Ideal S512x1024 .f32) (i : Fin 512) (d : Fin 1024) :
    (inter v x (ix2 i d) : EReal) = x (ix2 (tok i) d) := by
  unfold inter
  refine (slabs_at _ _ i d).trans ((groups_at _ _ i _).trans ((cast_group _ _ _).trans ?_))
  refine (congrFun (View.readCov_eq_canon' _ _ _) _).trans ((congrArg (View.canon _) (rowRect_idx _ _ _ _)).trans ?_)
  refine (seg_at x ⟨d.val / 128, by omega⟩ ⟨i.val % 8, by omega⟩ ⟨i.val / 8, by omega⟩ ⟨d.val % 128, by omega⟩).trans (congrArg x ?_)
  unfold tok
  blk_ext <;> omega

/-- A segment of the output in its block's shape. -/
theorem cast_seg (x : FVec Ideal S1x64x128 .f32) (j : Fin 64) (l : Fin 128) :
    (shapeCast S1x64x128 (shapeCast S64x128 x shapeCasts_S1x64x128_S64x128) shapeCasts_S64x128_S1x64x128 (ix3 0 j l) : EReal) = x (ix3 0 j l) := by
  pointwise

/-- Where an entry of an output segment lies. -/
theorem outRect_idx (c s : Fin 8) (j : Fin 64) (l : Fin 128) :
    (outRect c s).toLoadRect.idx (ix3 0 j l) = ix3 0 ⟨64 * s.val + j.val, by omega⟩ ⟨128 * c.val + l.val, by omega⟩ := by
  funext a
  refine Fin.ext ?_
  show ![0, 64 * s.val, 128 * c.val] a + 1 * _ = _
  fin_cases a <;> simp

/-- A token's row in its interleaved block. -/
def row (t : Fin 512) : Fin 512 := ⟨t.val % 64 * 8 + t.val / 64, by omega⟩

theorem tok_row (t : Fin 512) : tok (row t) = t := by
  have h1 : (t.val % 64 * 8 + t.val / 64) / 8 = t.val % 64 := by omega
  have h2 : (t.val % 64 * 8 + t.val / 64) % 8 = t.val / 64 := by omega
  refine Fin.ext ?_
  show (t.val % 64 * 8 + t.val / 64) % 8 * 64 + (t.val % 64 * 8 + t.val / 64) / 8 = t.val
  rw [h1, h2]
  omega

/-- The output's segments, at an index. -/
theorem out_at (v : View sig .tc .vmem S8x576x128 .f32) (x y : FVec Ideal S512x1024 .f32) (t : Fin 512) (d : Fin 1024) :
    (View.canon (Val := Elt Ideal) (outPieces v x y) (ix3 0 t d) : EReal) = y (ix2 (row t) d) := by
  unfold outPieces
  refine View.canon_ofFn_eq_of_forall _ _ _ _ ⟨(⟨8 * (d.val / 128) + t.val / 64, by omega⟩ : Fin 64).rev, ?_⟩ fun n p hp => ?_
  · have hc : slab 8 ((⟨8 * (d.val / 128) + t.val / 64, by omega⟩ : Fin 64).rev).rev rfl = ⟨d.val / 128, by omega⟩ := Fin.ext (by simp [slab]; omega)
    have hs : inSlab 8 ((⟨8 * (d.val / 128) + t.val / 64, by omega⟩ : Fin 64).rev).rev rfl = ⟨t.val / 64, by omega⟩ := Fin.ext (by simp [inSlab]; omega)
    rw [hc, hs]
    have e : ix3 0 t d = (outRect ⟨d.val / 128, by omega⟩ ⟨t.val / 64, by omega⟩).toLoadRect.idx (ix3 0 ⟨t.val % 64, by omega⟩ ⟨d.val % 128, by omega⟩) := by
      rw [outRect_idx]
      blk_ext <;> omega
    rw [e]
    exact LoadRect.idx_mem _ _
  · obtain ⟨j', l', rfl⟩ : ∃ (j' : Fin 64) (l' : Fin 128), p = ix3 0 j' l' := ⟨p 1, p 2, by blk_ext⟩
    have hp' := (outRect_idx _ _ j' l').symm.trans hp
    have e1 := congrArg (fun y : S1x512x1024.Idx => (y 1).val) hp'
    have e2 := congrArg (fun y : S1x512x1024.Idx => (y 2).val) hp'
    simp at e1 e2
    refine (cast_seg _ j' l').trans ?_
    refine (congrFun (View.readCov_eq_canon' _ _ _) _).trans ((congrArg (View.canon _) (segRect_idx _ _ _ _)).trans ?_)
    refine (rows_at x y _ _ j' l').trans (congrArg y ?_)
    unfold row
    blk_ext <;> omega

end Cert.FirstRead
end
-- ==== Proof.FirstVal.lean ====
module

public import proofs.«01_k».proof.Proof.FirstRead

/-! # The first layer's feed-forward kernel's arithmetic at an index, over extended reals -/

@[expose] public section

set_option maxRecDepth 16384

noncomputable section

namespace Cert.FirstVal

open Idealize.ShloMosaic Cert.Kernel3Ideal Cert.Kernel3Ideal.Gen Cert.First Cert.FirstRead

/-! ## The residual stream and the norm -/

/-- The residual stream. -/
theorem mixV_at (B : Blocks Ideal) (i : Fin 512) (d : Fin 1024) : (mixV B (ix2 i d) : EReal) = B.h (ix3 0 i d) := by
  pointwise [mixV]

/-- The norm of a block's rows. -/
theorem rmsV_at (x : FVec Ideal S512x1024 .f32) (w : FVec Ideal S1x1024 .f32) (i : Fin 512) (d : Fin 1024) :
    (rmsV x w (ix2 i d) : EReal) = FirstLayer.rms (fun k => x (ix2 i k)) (fun k => w (ix2 0 k)) d := by
  pointwise [rmsV, FirstLayer.rms]

/-! ## The layer's input -/

/-- One chunk of the layer's input. -/
theorem upV_at (x : FVec Ideal S512x1024 .bf16) (w : FVec Ideal S1x1024x256 .bf16) (i : Fin 512) (l : Fin 256) :
    (upV x w (ix2 i l) : EReal) = ∑ k : Fin 1024, x (ix2 i k) * w (ix3 0 k l) := by
  pointwise [upV]

theorem cast_chunk (x : FVec Ideal S1x512x256 .f32) (i : Fin 512) (l : Fin 256) :
    (shapeCast S512x256 x shapeCasts_S1x512x256_S512x256 (ix2 i l) : EReal) = x (ix3 0 i l) := by
  pointwise

theorem chunk_cast (x : FVec Ideal S512x256 .f32) (i : Fin 512) (l : Fin 256) :
    (shapeCast S1x512x256 x shapeCasts_S512x256_S1x512x256 (ix3 0 i l) : EReal) = x (ix2 i l) := by
  pointwise

/-- Where an entry of a chunk lies. -/
theorem upRect_idx (e : Fin 22) (i : Fin 512) (l : Fin 256) : (upRect e).toLoadRect.idx (ix3 0 i l) = ix3 e i l := by
  funext a
  refine Fin.ext ?_
  show ![e.val, 0, 0] a + 1 * _ = _
  fin_cases a <;> simp

/-- A chunk read back. -/
theorem upAt_at (v : View sig .tc .vmem S22x512x256 .f32) (x : FVec Ideal S512x1024 .bf16) (w : Fin 22 → FVec Ideal S1x1024x256 .bf16)
    (e : Fin 22) (i : Fin 512) (l : Fin 256) : (upAt v x w e (ix2 i l) : EReal) = upV x (w e) (ix2 i l) := by
  unfold upAt
  refine (cast_chunk _ i l).trans ?_
  refine (congrFun (View.readCov_eq_canon' _ _ _) _).trans ((congrArg (View.canon _) (upRect_idx _ _ _)).trans ?_)
  have he : e.val < min (e.val / 2 * 2 + 4) 22 := by omega
  have hc : Fin.castLE (Nat.min_le_right (e.val / 2 * 2 + 4) 22) (⟨e.val, he⟩ : Fin (min (e.val / 2 * 2 + 4) 22)) = e := rfl
  unfold upPieces
  refine View.canon_ofFn_eq_of_forall _ _ _ _ ⟨(⟨e.val, he⟩ : Fin (min (e.val / 2 * 2 + 4) 22)).rev, ?_⟩ fun n p hp => ?_
  · rw [Fin.rev_rev, hc, ← upRect_idx]
    exact LoadRect.idx_mem _ _
  · obtain ⟨i', l', rfl⟩ : ∃ (i' : Fin 512) (l' : Fin 256), p = ix3 0 i' l' := ⟨p 1, p 2, by blk_ext⟩
    have hp' := (upRect_idx _ i' l').symm.trans hp
    have h0 : n.rev.castLE (Nat.min_le_right (e.val / 2 * 2 + 4) 22) = e := congrFun hp' 0
    obtain rfl : i' = i := congrFun hp' 1
    obtain rfl : l' = l := congrFun hp' 2
    exact (chunk_cast _ _ _).trans (by rw [h0])

/-! ## The convolution's steps -/

/-- A block's last eight rows moved down: the first is the block's last. -/
theorem topV_at (y : FVec Ideal S512x256 .f32) (j : Fin 8) (l : Fin 256) :
    (topV y (ix2 j l) : EReal) = y (ix2 ⟨504 + (j.val + 8 - 1) % 8, by omega⟩ l) := by
  pointwise [topV]

/-- A row's earlier token: eight rows up, but in the first eight the last rows' tokens. -/
theorem shiftV_at (y : FVec Ideal S512x256 .f32) (c : FVec Ideal S1x1x8x256 .f32) (i : Fin 512) (l : Fin 256) :
    (shiftV y c (ix2 i l) : EReal)
      = if h : i.val < 8 then (if i.val = 0 then c (ix4 0 0 0 l) else y (ix2 ⟨503 + i.val, by omega⟩ l)) else y (ix2 ⟨i.val - 8, by omega⟩ l) := by
  pointwise [shiftV, topV]
  by_cases h : i.val < 8
  · rw [dif_pos h, dif_pos h]
    by_cases h0 : i.val = 0
    · obtain rfl : i = 0 := Fin.ext h0
      rfl
    · rw [if_neg h0]
      have hm : IntOp.cmpi .eq (BitVec.ofNat 32 i.val) 0#32 = 0#1 := by
        interval_cases i.val <;> first | exact absurd rfl h0 | decide
      rw [hm]
      refine congrArg y ?_
      blk_ext <;> omega
  · rw [dif_neg h, dif_neg h]

theorem tap0_at (u : FVec Ideal S512x256 .f32) (w : FVec Ideal S1x3x256 .f32) (i : Fin 512) (l : Fin 256) :
    (tap0 u w (ix2 i l) : EReal) = u (ix2 i l) * w (ix3 0 0 l) := by
  pointwise [tap0]

theorem conv1_at (u : FVec Ideal S512x256 .f32) (w : FVec Ideal S1x3x256 .f32) (c0 : FVec Ideal S1x1x8x256 .f32) (i : Fin 512) (l : Fin 256) :
    (conv1 u w c0 (ix2 i l) : EReal) = shiftV (tap0 u w) c0 (ix2 i l) + u (ix2 i l) * w (ix3 0 1 l) := by
  unfold conv1
  generalize shiftV (tap0 u w) c0 = z
  pointwise

theorem conv2_at (u : FVec Ideal S512x256 .f32) (w : FVec Ideal S1x3x256 .f32) (b : FVec Ideal S1x1x256 .f32) (c0 c1 : FVec Ideal S1x1x8x256 .f32)
    (i : Fin 512) (l : Fin 256) :
    (conv2 u w b c0 c1 (ix2 i l) : EReal) = shiftV (conv1 u w c0) c1 (ix2 i l) + u (ix2 i l) * w (ix3 0 2 l) + b (ix3 0 0 l) := by
  unfold conv2
  generalize shiftV (conv1 u w c0) c1 = z
  pointwise

/-- Carried rows in their buffer's shape. -/
theorem car_cast (x : FVec Ideal S8x256 .f32) (j : Fin 8) (l : Fin 256) :
    (shapeCast S1x1x8x256 x shapeCasts_S8x256_S1x1x8x256 (ix4 0 0 j l) : EReal) = x (ix2 j l) := by
  pointwise

/-! ## The gate and the output's product -/

/-- The gate's factor as the reference's base-two exponential. -/
theorem factor_eq : (Named.named κ "neg_log2e" 0xBFB8AA3B#32 : Ideal .f32) = ((-((Real.log 2)⁻¹) : ℝ) : EReal) :=
  IdealRules.named_const.ideal_named_scalar _ _ _ _ rfl

/-- A base-two exponential of a multiple is the natural exponential of the negative. -/
theorem exp2_factor (g : EReal) : Ideal.exp2 (g * ((-((Real.log 2)⁻¹) : ℝ) : EReal)) = Ideal.exp (-g) := by
  have hl : 0 < Real.log 2 := Real.log_pos (by norm_num)
  have hn : -((Real.log 2)⁻¹) < 0 := by
    have := inv_pos.2 hl
    linarith
  induction g with
  | bot =>
    rw [EReal.bot_mul_coe_of_neg hn]
    rfl
  | top =>
    rw [EReal.top_mul_coe_of_neg hn]
    rfl
  | coe x =>
    rw [← EReal.coe_mul, ← EReal.coe_neg, Ideal.exp2_coe, Ideal.exp_coe]
    refine congrArg _ ((Real.rpow_def_of_pos (by norm_num) _).trans (congrArg _ ?_))
    field_simp

theorem gateV_at (a g : FVec Ideal S512x256 .f32) (i : Fin 512) (l : Fin 256) :
    (gateV a g (ix2 i l) : EReal) = FirstLayer.gate (a (ix2 i l)) (g (ix2 i l)) := by
  pointwise [gateV, FirstLayer.gate]
  show _ * Ideal.div 1 (1 + Ideal.exp2 _) * _ = _
  rw [factor_eq, exp2_factor]

/-- The layer's output added to the residual stream. -/
theorem back_sum (h : FVec Ideal S512x1024 .f32) (x : FVec Ideal S512x2816 .bf16) (w : FVec Ideal S1x2816x1024 .bf16) (i : Fin 512) (d : Fin 1024) :
    (addf h (matmul dot_S512x2816_S2816x1024_S512x1024_1_0_0_1_n_n none x
      (shapeCast S2816x1024 w shapeCasts_S1x2816x1024_S2816x1024) (constant S512x1024 .f32 0x00000000#32)) (ix2 i d) : EReal)
      = h (ix2 i d) + ∑ k : Fin 2816, x (ix2 i k) * w (ix3 0 k d) := by
  pointwise

/-- Where an entry of the gated product's chunk lies. -/
theorem actRect_idx (j : Fin 11) (i : Fin 512) (l : Fin 256) :
    (actRect j).toLoadRect.idx (ix2 i l) = ix2 i ⟨256 * j.val + l.val, by omega⟩ := by
  funext a
  refine Fin.ext ?_
  show ![0, 256 * j.val] a + 1 * _ = _
  fin_cases a <;> simp

theorem actAll_idx (i : Fin 512) (k : Fin 2816) : actAll.toLoadRect.idx (ix2 i k) = ix2 i k := by
  funext a
  refine Fin.ext ?_
  show ![0, 0] a + 1 * _ = _
  fin_cases a <;> simp

/-- The chunk of a lane of the first half. -/
def lo (k : Fin 2816) : Fin 22 := ⟨2 * (k.val / 256), by omega⟩
/-- The chunk of a lane of the second half. -/
def hi (k : Fin 2816) : Fin 22 := ⟨2 * (k.val / 256) + 1, by omega⟩
/-- A lane within its chunk. -/
def lane (k : Fin 2816) : Fin 256 := ⟨k.val % 256, by omega⟩

/-- The gated product read back. -/
theorem act_at (v : View sig .tc .vmem S512x2816 .bf16) (y : Fin 22 → FVec Ideal S512x256 .f32) (i : Fin 512) (k : Fin 2816) :
    (v.readCov (Val := Elt Ideal) (actPieces y) actAll.toLoadRect (ix2 i k) : EReal)
      = FirstLayer.gate (y (lo k) (ix2 i (lane k))) (y (hi k) (ix2 i (lane k))) := by
  refine (congrFun (View.readCov_eq_canon' _ _ _) _).trans ((congrArg (View.canon _) (actAll_idx _ _)).trans ?_)
  unfold actPieces
  refine View.canon_ofFn_eq_of_forall _ _ _ _ ⟨(⟨k.val / 256, by omega⟩ : Fin 11).rev, ?_⟩ fun n p hp => ?_
  · rw [Fin.rev_rev]
    have e : ix2 i k = (actRect ⟨k.val / 256, by omega⟩).toLoadRect.idx (ix2 i (lane k)) := by
      rw [actRect_idx]
      unfold lane
      blk_ext <;> omega
    rw [e]
    exact LoadRect.idx_mem _ _
  · obtain ⟨i', l', rfl⟩ : ∃ (i' : Fin 512) (l' : Fin 256), p = ix2 i' l' := ⟨p 0, p 1, by blk_ext⟩
    have hp' := (actRect_idx _ i' l').symm.trans hp
    obtain rfl : i' = i := congrFun hp' 0
    have e1 := congrArg (fun y : S512x2816.Idx => (y 1).val) hp'
    simp at e1
    have h0 : (⟨2 * n.rev.val, by omega⟩ : Fin 22) = lo k := Fin.ext (by show 2 * n.rev.val = 2 * (k.val / 256); simp; omega)
    have h1 : (⟨2 * n.rev.val + 1, by omega⟩ : Fin 22) = hi k := Fin.ext (by show 2 * n.rev.val + 1 = 2 * (k.val / 256) + 1; simp; omega)
    obtain rfl : l' = lane k := Fin.ext (by show l'.val = k.val % 256; omega)
    refine (gateV_at _ _ _ _).trans ?_
    rw [h0, h1]

end Cert.FirstVal
end
-- ==== Proof.FirstPoint.lean ====
module

public import proofs.«01_k».proof.Proof.FirstVal

/-! # A grid point of the first layer's feed-forward kernel computes its tokens of the layer -/

@[expose] public section

set_option maxRecDepth 16384

noncomputable section

namespace Cert.FirstPoint

open Idealize.ShloMosaic Cert.Kernel3Ideal Cert.Kernel3Ideal.Gen Cert.First Cert.FirstRead Cert.FirstVal Cert.FirstLayer

/-- A chunk's lane among all. -/
def col (e : Fin 22) (l : Fin 256) : Fin 5632 := ⟨colOf e + l.val, by
  have := colOf_le e
  omega⟩

/-- A block's token's position in its row. -/
def pos (q : Fin 8) (t : Fin 512) : Fin 4096 := ⟨512 * q.val + t.val, by omega⟩

/-- The blocks a point has loaded are the arguments'. -/
structure Holds (A : Args) (b q : Fin 8) (B : Blocks Ideal) : Prop where
  h : ∀ i d, (B.h (ix3 0 i d) : EReal) = A.h (ix3 b (pos q i) d)
  nw : ∀ d, (B.nw (ix3 0 0 d) : EReal) = A.nw (ix2 0 d)
  wi : ∀ e k l, (B.wi e (ix3 0 k l) : EReal) = A.wi (ix3 0 k (col e l))
  cw : ∀ e n l, (B.cw e (ix3 0 n l) : EReal) = A.cw (ix3 0 n (col e l))
  cb : ∀ e l, (B.cb e (ix3 0 0 l) : EReal) = A.cb (ix2 0 (col e l))
  wu : ∀ k d, (B.wu (ix3 0 k d) : EReal) = A.wu (ix3 0 k d)

variable {A : Args} {b q : Fin 8} {B : Blocks Ideal} (H : Holds A b q B) (S : Scratch)

include H

theorem mix_eq (i : Fin 512) (d : Fin 1024) : (mixV B (ix2 i d) : EReal) = mix A b (pos q i) d := by
  refine (mixV_at B i d).trans ?_
  unfold mix
  rw [H.h]

theorem inter_eq (i : Fin 512) (d : Fin 1024) : (inter S.p (mixV B) (ix2 i d) : EReal) = mix A b (pos q (tok i)) d :=
  (inter_at _ _ i d).trans (mix_eq H _ d)

omit H in
theorem cast_nw (x : FVec Ideal S1x1x1024 .f32) (d : Fin 1024) :
    (shapeCast S1x1024 x shapeCasts_S1x1x1024_S1x1024 (ix2 0 d) : EReal) = x (ix3 0 0 d) := by
  pointwise

theorem hn_eq (i : Fin 512) (d : Fin 1024) :
    (hnV S B (ix2 i d) : EReal) = rms (mix A b (pos q (tok i))) (fun k => A.nw (ix2 0 k)) d := by
  refine (rmsV_at _ _ i d).trans ?_
  have e1 : (fun k => (inter S.p (mixV B) (ix2 i k) : EReal)) = mix A b (pos q (tok i)) := funext fun k => inter_eq H S i k
  have e2 : (fun k => (shapeCast S1x1024 B.nw shapeCasts_S1x1x1024_S1x1024 (ix2 0 k) : EReal)) = fun k => A.nw (ix2 0 k) :=
    funext fun k => (cast_nw _ k).trans (H.nw k)
  rw [e1, e2]

theorem u_eq (e : Fin 22) (i : Fin 512) (l : Fin 256) : (uV S B e (ix2 i l) : EReal) = up A b (pos q (tok i)) (col e l) := by
  refine (upAt_at _ _ _ e i l).trans ((upV_at _ _ i l).trans ?_)
  unfold up
  refine Finset.sum_congr rfl fun k _ => ?_
  rw [hn_eq H S, H.wi]

omit H

/-! ## Earlier tokens -/

/-- The layer's input before a position, zero before the first. -/
def before (A : Args) (b : Fin 8) (t n : ℕ) (f : Fin 5632) : EReal := if n ≤ t then up A b (Fin.ofNat 4096 (t - n)) f else 0

theorem back_eq (t : Fin 4096) (n : ℕ) (f : Fin 5632) : back A b t n f = before A b t.val n f := by
  unfold back before
  refine if_congr Iff.rfl (congrArg (fun t => up A b t f) (Fin.ext ?_)) rfl
  show t.val - n = (t.val - n) % 4096
  omega

theorem before_succ (t n : ℕ) (f : Fin 5632) : before A b (t + 1) (n + 1) f = before A b t n f := by
  unfold before
  simp

/-- What is carried into a block: the first weight's product, and the first two weights' sum. -/
def car (A : Args) (b : Fin 8) (t : ℕ) (e : Fin 22) (k : Fin 2) (l : Fin 256) : EReal :=
  if k = 0 then before A b t 1 (col e l) * A.cw (ix3 0 0 (col e l))
  else before A b t 2 (col e l) * A.cw (ix3 0 0 (col e l)) + before A b t 1 (col e l) * A.cw (ix3 0 1 (col e l))

theorem car_zero (e : Fin 22) (k : Fin 2) (l : Fin 256) : car A b 0 e k l = 0 := by
  unfold car before
  simp

/-- A row's earlier token, or the carried row before the block's first. -/
theorem shift_tok (y : FVec Ideal S512x256 .f32) (c : FVec Ideal S1x1x8x256 .f32) (i : Fin 512) (l : Fin 256) :
    (shiftV y c (ix2 i l) : EReal)
      = if (tok i).val = 0 then c (ix4 0 0 0 l) else y (ix2 (row ⟨(tok i).val - 1, by omega⟩) l) := by
  refine (shiftV_at y c i l).trans ?_
  unfold tok row
  by_cases h : i.val < 8
  · rw [dif_pos h]
    have h1 : i.val % 8 * 64 + i.val / 8 = i.val * 64 := by omega
    by_cases h0 : i.val = 0
    · rw [if_pos h0, if_pos (by show i.val % 8 * 64 + i.val / 8 = 0; omega)]
    · rw [if_neg h0, if_neg (by show ¬(i.val % 8 * 64 + i.val / 8 = 0); omega)]
      refine congrArg y ?_
      have h2 : (i.val * 64 - 1) % 64 = 63 := by omega
      have h3 : (i.val * 64 - 1) / 64 = i.val - 1 := by omega
      blk_ext <;> simp only [h1, h2, h3] <;> omega
  · rw [dif_neg h, if_neg (by show ¬(i.val % 8 * 64 + i.val / 8 = 0); omega)]
    refine congrArg y ?_
    have h1 : (i.val % 8 * 64 + i.val / 8 - 1) % 64 = i.val / 8 - 1 := by omega
    have h2 : (i.val % 8 * 64 + i.val / 8 - 1) / 64 = i.val % 8 := by omega
    blk_ext <;> simp only [h1, h2] <;> omega

include H

/-- The first two weights' part of the convolution. -/
theorem conv1_eq (e : Fin 22) (c0 : FVec Ideal S1x1x8x256 .f32) (hc0 : ∀ l, (c0 (ix4 0 0 0 l) : EReal) = car A b (512 * q.val) e 0 l)
    (i : Fin 512) (l : Fin 256) :
    (conv1 (uV S B e) (B.cw e) c0 (ix2 i l) : EReal)
      = before A b (pos q (tok i)).val 1 (col e l) * A.cw (ix3 0 0 (col e l)) + before A b (pos q (tok i)).val 0 (col e l) * A.cw (ix3 0 1 (col e l)) := by
  refine (conv1_at _ _ _ i l).trans ?_
  rw [shift_tok, u_eq H, H.cw]
  refine congrArg₂ _ ?_ ?_
  · by_cases h : (tok i).val = 0
    · rw [if_pos h, hc0]
      show before A b _ 1 _ * _ = before A b (512 * q.val + (tok i).val) 1 _ * _
      rw [h]
      rfl
    · rw [if_neg h, tap0_at, u_eq H, tok_row, H.cw, ← back_eq]
      unfold back
      rw [if_pos (by show 1 ≤ 512 * q.val + (tok i).val; omega)]
      refine congrArg (fun t => up A b t _ * _) (Fin.ext ?_)
      show 512 * q.val + ((tok i).val - 1) = 512 * q.val + (tok i).val - 1
      omega
  · rw [← back_eq]
    rfl

/-- The convolution of one chunk. -/
theorem conv2_eq (e : Fin 22) (c0 c1 : FVec Ideal S1x1x8x256 .f32) (hc0 : ∀ l, (c0 (ix4 0 0 0 l) : EReal) = car A b (512 * q.val) e 0 l)
    (hc1 : ∀ l, (c1 (ix4 0 0 0 l) : EReal) = car A b (512 * q.val) e 1 l) (i : Fin 512) (l : Fin 256) :
    (conv2 (uV S B e) (B.cw e) (B.cb e) c0 c1 (ix2 i l) : EReal) = conv A b (pos q (tok i)) (col e l) := by
  refine (conv2_at _ _ _ _ _ i l).trans ?_
  unfold conv
  rw [shift_tok, u_eq H, H.cw, H.cb, back_eq, back_eq, back_eq]
  refine congrArg (· + _) (congrArg₂ _ ?_ ?_)
  · by_cases h : (tok i).val = 0
    · rw [if_pos h, hc1]
      show before A b _ 2 _ * _ + before A b _ 1 _ * _ = before A b (512 * q.val + (tok i).val) 2 _ * _ + before A b (512 * q.val + (tok i).val) 1 _ * _
      rw [h]
      rfl
    · rw [if_neg h, conv1_eq H S e c0 hc0, tok_row]
      have hp : (pos q (tok i)).val = (pos q ⟨(tok i).val - 1, by omega⟩).val + 1 := by
        show 512 * q.val + (tok i).val = 512 * q.val + ((tok i).val - 1) + 1
        omega
      rw [hp, before_succ, before_succ]
  · rw [← back_eq]
    rfl

/-- The first weight's product carried out of a block. -/
theorem top0_eq (e : Fin 22) (l : Fin 256) :
    (topV (tap0 (uV S B e) (B.cw e)) (ix2 0 l) : EReal) = car A b (512 * q.val + 512) e 0 l := by
  refine (topV_at _ 0 l).trans ((tap0_at _ _ _ _).trans ?_)
  rw [u_eq H, H.cw]
  unfold car
  rw [if_pos rfl]
  refine congrArg (· * _) ?_
  unfold before
  rw [if_pos (by omega)]
  refine congrArg (fun t => up A b t _) (Fin.ext ?_)
  show 512 * q.val + 511 = (512 * q.val + 512 - 1) % 4096
  omega

/-- The first two weights' sum carried out of a block. -/
theorem top1_eq (e : Fin 22) (c0 : FVec Ideal S1x1x8x256 .f32) (hc0 : ∀ l, (c0 (ix4 0 0 0 l) : EReal) = car A b (512 * q.val) e 0 l) (l : Fin 256) :
    (topV (conv1 (uV S B e) (B.cw e) c0) (ix2 0 l) : EReal) = car A b (512 * q.val + 512) e 1 l := by
  refine (topV_at _ 0 l).trans ((conv1_eq H S e c0 hc0 _ _).trans ?_)
  unfold car
  rw [if_neg (by decide), ← before_succ _ 1, ← before_succ _ 0]
  rfl

omit H

/-! ## The carried rows as they are stored -/

section
variable (L₀ : List (View.Piece (Elt Ideal) S22x2x8x256 .f32)) (rd : Rd Ideal) (u : Fin 22 → FVec Ideal S512x256 .f32)
  (w : Fin 22 → Vec Ideal S1x3x256 .f32)

theorem carRect_idx (e : Fin 22) (k : Fin 2) (j : Fin 8) (l : Fin 256) : (carRect e k).toLoadRect.idx (ix4 0 0 j l) = ix4 e k j l := by
  funext a
  refine Fin.ext ?_
  show ![e.val, k.val, 0, 0] a + 1 * _ = _
  fin_cases a <;> simp

theorem not_mem_carRect (e e' : Fin 22) (k k' : Fin 2) (j : Fin 8) (l : Fin 256) (h : e ≠ e' ∨ k ≠ k') :
    ix4 e k j l ∉ (carRect e' k').set := by
  intro hm
  obtain ⟨p, hp⟩ := LoadRect.exists_idx_of_mem _ hm
  obtain ⟨j', l', rfl⟩ : ∃ (j' : Fin 8) (l' : Fin 256), p = ix4 0 0 j' l' := ⟨p 2, p 3, by blk_ext⟩
  have hp' := (carRect_idx e' k' j' l').symm.trans hp
  rcases h with h | h
  · exact h (congrFun hp' 0).symm
  · exact h (congrFun hp' 1).symm

theorem canon_car_hit (e : Fin 22) (k : Fin 2) (j : Fin 8) (l : Fin 256) (x : FVec Ideal S1x1x8x256 .f32)
    (L : List (View.Piece (Elt Ideal) S22x2x8x256 .f32)) :
    (View.canon (⟨carRect e k, x⟩ :: L) (ix4 e k j l) : EReal) = x (ix4 0 0 j l) := by
  refine (congrArg (View.canon _) (carRect_idx e k j l).symm).trans ?_
  exact View.canon_cons_emb (carRect e k) x L (ix4 0 0 j l)

theorem canon_car_miss (e e' : Fin 22) (k k' : Fin 2) (j : Fin 8) (l : Fin 256) (h : e ≠ e' ∨ k ≠ k') (x : FVec Ideal S1x1x8x256 .f32)
    (L : List (View.Piece (Elt Ideal) S22x2x8x256 .f32)) :
    (View.canon (⟨carRect e' k', x⟩ :: L) (ix4 e k j l) : EReal) = View.canon L (ix4 e k j l) :=
  View.canon_cons_of_not_mem (Val := Elt Ideal) (⟨carRect e' k', x⟩ : View.Piece (Elt Ideal) S22x2x8x256 .f32) L (not_mem_carRect e e' k k' j l h)

theorem chunk_val (e : Fin 22) : chunk e.val = e := Fin.ext (Nat.mod_eq_of_lt e.isLt)

/-- The rows stored for a chunk, over what the chunks before have stored. -/
theorem car_succ (e : Fin 22) :
    carPieces L₀ rd u w (e.val + 1)
      = ⟨carRect e 1, shapeCast S1x1x8x256 (topV (conv1 (u e) (w e) (rd (carPieces L₀ rd u w e.val) e 0))) shapeCasts_S8x256_S1x1x8x256⟩
        :: ⟨carRect e 0, shapeCast S1x1x8x256 (topV (tap0 (u e) (w e))) shapeCasts_S8x256_S1x1x8x256⟩ :: carPieces L₀ rd u w e.val := by
  conv_lhs => unfold carPieces carHalf
  rw [chunk_val]

/-- Later chunks' rows are as they were. -/
theorem car_later (n : ℕ) (e : Fin 22) (he : n ≤ e.val) (k : Fin 2) (j : Fin 8) (l : Fin 256) :
    (View.canon (carPieces L₀ rd u w n) (ix4 e k j l) : EReal) = View.canon L₀ (ix4 e k j l) := by
  induction n with
  | zero => rfl
  | succ n ih =>
    have hne : e ≠ chunk n := by
      rintro rfl
      have : n % 22 < 22 := Nat.mod_lt _ (by decide)
      have : (chunk n).val = n % 22 := rfl
      omega
    refine (canon_car_miss _ _ _ _ _ _ (.inl hne) _ _).trans ((canon_car_miss _ _ _ _ _ _ (.inl hne) _ _).trans (ih (by omega)))

/-- A chunk's second rows are as they were when its first have been stored. -/
theorem car_half (e : Fin 22) (j : Fin 8) (l : Fin 256) :
    (View.canon (carHalf u w (carPieces L₀ rd u w e.val) e) (ix4 e 1 j l) : EReal) = View.canon L₀ (ix4 e 1 j l) :=
  (canon_car_miss _ _ _ _ _ _ (.inr (by decide)) _ _).trans (car_later L₀ rd u w e.val e le_rfl 1 j l)

/-- What a chunk's stores leave, after all earlier than `n`. -/
theorem car_done (n : ℕ) (hn : n ≤ 22) (e : Fin 22) (he : e.val < n) (j : Fin 8) (l : Fin 256) :
    (View.canon (carPieces L₀ rd u w n) (ix4 e 0 j l) : EReal) = topV (tap0 (u e) (w e)) (ix2 j l)
    ∧ (View.canon (carPieces L₀ rd u w n) (ix4 e 1 j l) : EReal)
      = topV (conv1 (u e) (w e) (rd (carPieces L₀ rd u w e.val) e 0)) (ix2 j l) := by
  induction n with
  | zero => omega
  | succ n ih =>
    rcases Nat.lt_succ_iff_lt_or_eq.1 he with h | h
    · have hne : e ≠ chunk n := by
        rintro rfl
        have : (chunk n).val = n % 22 := rfl
        have : n % 22 = n := Nat.mod_eq_of_lt (by omega)
        omega
      have h0 := ih (by omega) h
      exact ⟨(canon_car_miss _ _ _ _ _ _ (.inl hne) _ _).trans ((canon_car_miss _ _ _ _ _ _ (.inl hne) _ _).trans h0.1),
        (canon_car_miss _ _ _ _ _ _ (.inl hne) _ _).trans ((canon_car_miss _ _ _ _ _ _ (.inl hne) _ _).trans h0.2)⟩
    · subst h
      rw [car_succ]
      exact ⟨(canon_car_miss e e 0 1 j l (.inr (by decide)) _ _).trans ((canon_car_hit e 0 j l _ _).trans (car_cast _ _ _)),
        (canon_car_hit e 1 j l _ _).trans (car_cast _ _ _)⟩

end

/-! ## The point -/

/-- The carried rows a point reads are the layer's. -/
structure Reads (A : Args) (b q : Fin 8) (S : Scratch) (B : Blocks Ideal) (L₀ : List (View.Piece (Elt Ideal) S22x2x8x256 .f32)) (rd : Rd Ideal) : Prop where
  c0 : ∀ e l, (rd (carPieces L₀ rd (uV S B) B.cw e.val) e 0 (ix4 0 0 0 l) : EReal) = car A b (512 * q.val) e 0 l
  c1 : ∀ e l, (rd (carHalf (uV S B) B.cw (carPieces L₀ rd (uV S B) B.cw e.val) e) e 1 (ix4 0 0 0 l) : EReal) = car A b (512 * q.val) e 1 l

variable {L₀ : List (View.Piece (Elt Ideal) S22x2x8x256 .f32)} {rd : Rd Ideal} (R : Reads A b q S B L₀ rd)

include H R

theorem y_eq (e : Fin 22) (i : Fin 512) (l : Fin 256) : (yV S B L₀ rd e (ix2 i l) : EReal) = conv A b (pos q (tok i)) (col e l) :=
  conv2_eq H S e _ _ (R.c0 e) (R.c1 e) i l

omit H R in
theorem col_lo (k : Fin 2816) : col (lo k) (lane k) = ⟨k.val, by omega⟩ := by
  refine Fin.ext ?_
  show 2 * (k.val / 256) % 2 * 2816 + 2 * (k.val / 256) / 2 * 256 + k.val % 256 = k.val
  omega

omit H R in
theorem col_hi (k : Fin 2816) : col (hi k) (lane k) = ⟨2816 + k.val, by omega⟩ := by
  refine Fin.ext ?_
  show (2 * (k.val / 256) + 1) % 2 * 2816 + (2 * (k.val / 256) + 1) / 2 * 256 + k.val % 256 = 2816 + k.val
  omega

theorem fin_eq (i : Fin 512) (d : Fin 1024) : (finV S B L₀ rd (ix2 i d) : EReal) = res A b (pos q (tok i)) d := by
  refine (back_sum _ _ _ i d).trans ?_
  unfold res
  rw [inter_eq H]
  refine congrArg _ (Finset.sum_congr rfl fun f _ => ?_)
  rw [act_at, y_eq H S R, y_eq H S R, col_lo, col_hi, H.wu]

/-- What a point stores in its output block. -/
theorem out_eq (t : Fin 512) (d : Fin 1024) :
    (View.canon (Val := Elt Ideal) (outL S B L₀ rd) (ix3 0 t d) : EReal) = res A b (pos q t) d := by
  refine (out_at _ _ _ t d).trans ((fin_eq H S R _ d).trans ?_)
  rw [tok_row]

/-- What a point carries to the next. -/
theorem car_eq (e : Fin 22) (k : Fin 2) (l : Fin 256) :
    (View.canon (carL S B L₀ rd) (ix4 e k 0 l) : EReal) = car A b (512 * q.val + 512) e k l := by
  have h := car_done L₀ rd (uV S B) B.cw 22 le_rfl e e.isLt 0 l
  obtain rfl | rfl : k = 0 ∨ k = 1 := by
    rcases k with ⟨k, hk⟩
    have : k = 0 ∨ k = 1 := by omega
    rcases this with rfl | rfl
    · exact .inl rfl
    · exact .inr rfl
  · exact h.1.trans (top0_eq H S e l)
  · exact h.2.trans (top1_eq H S e _ (R.c0 e) l)

end Cert.FirstPoint
end
-- ==== Proof.FirstLaunch.lean ====
module

public import proofs.«01_k».proof.Proof.FirstRun
public import proofs.«01_k».proof.Proof.FirstPoint

/-! # The first layer's feed-forward launch's result

Point `t` is batch row `t / 8` and tokens `512 (t % 8)` on. -/

@[expose] public section

set_option maxRecDepth 16384
set_option maxHeartbeats 1000000

noncomputable section

namespace Cert.FirstLaunch

open Idealize.ShloMosaic Idealize.ShloMosaic.TcCoe Idealize.SL.Sem Cert.Kernel3Ideal Cert.Kernel3Ideal.Gen Cert.First Cert.FirstRun Cert.FirstPoint

/-! ## The blocks -/

section
variable (arg2 : Memref sig .tc .vmem S1x512x1024 .f32) (harg2 : arg2.IsWhole)
  (arg3 : Memref sig .tc .vmem S1x1x1024 .f32) (harg3 : arg3.IsWhole) (arg4 : Memref sig .tc .vmem S1x1024x5632 .bf16)
  (harg4 : arg4.IsWhole) (arg5 : Memref sig .tc .vmem S1x3x5632 .f32) (harg5 : arg5.IsWhole) (arg6 : Memref sig .tc .vmem S1x1x5632 .f32)
  (harg6 : arg6.IsWhole) (arg7 : Memref sig .tc .vmem S1x2816x1024 .bf16) (harg7 : arg7.IsWhole)
  (x0 : Vec Ideal S1x512x1024 .f32) (x1 : Vec Ideal S1x1x1024 .f32)
  (x2 : Vec Ideal S1x1024x5632 .bf16) (x3 : Vec Ideal S1x3x5632 .f32) (x4 : Vec Ideal S1x1x5632 .f32) (x5 : Vec Ideal S1x2816x1024 .bf16)

/-- The staged windows are the arguments' blocks. -/
structure Staged (A : FirstLayer.Args) (b q : Fin 8) : Prop where
  h : ∀ i d, (x0 (ix3 0 i d) : EReal) = A.h (ix3 b (pos q i) d)
  nw : ∀ d, (x1 (ix3 0 0 d) : EReal) = A.nw (ix2 0 d)
  wi : ∀ k f, (x2 (ix3 0 k f) : EReal) = A.wi (ix3 0 k f)
  cw : ∀ n f, (x3 (ix3 0 n f) : EReal) = A.cw (ix3 0 n f)
  cb : ∀ f, (x4 (ix3 0 0 f) : EReal) = A.cb (ix2 0 f)
  wu : ∀ k d, (x5 (ix3 0 k d) : EReal) = A.wu (ix3 0 k d)

/-- Where a loaded box's entry lies. -/
theorem box_idx {s : Shape} (off : Fin s.rank → ℕ) (size : Fin s.rank → ℕ) (inb) (y : (Rect.unit (s := s) off size inb).shape.Idx) (z : s.Idx)
    (h : ∀ a, off a + (y a).val = (z a).val) : (Rect.unit (s := s) off size inb).toLoadRect.idx y = z := by
  funext a
  refine Fin.ext ?_
  show off a + 1 * (y a).val = _
  rw [Nat.one_mul]
  exact h a

theorem holds (A : FirstLayer.Args) (b q : Fin 8) (H : Staged x0 x1 x2 x3 x4 x5 A b q) :
    Holds A b q (blocks arg2 harg2 arg3 harg3 arg4 harg4 arg5 harg5 arg6 harg6 arg7 harg7
      x0 x1 x2 x3 x4 x5) where
  h i d := (harg2.readAt_unread x0 _ _).trans ((congrArg x0 (box_idx _ _ _ _ (ix3 0 i d) fun a => by fin_cases a <;> simp)).trans (H.h i d))
  nw d := (harg3.readAt_unread x1 _ _).trans ((congrArg x1 (box_idx _ _ _ _ (ix3 0 0 d) fun a => by fin_cases a <;> simp)).trans (H.nw d))
  wi e k l := (harg4.readAt_unread x2 _ _).trans ((congrArg x2 (box_idx _ _ _ _ (ix3 0 k (col e l)) fun a => by fin_cases a <;> simp [col])).trans (H.wi k _))
  cw e n l := (harg5.readAt_unread x3 _ _).trans ((congrArg x3 (box_idx _ _ _ _ (ix3 0 n (col e l)) fun a => by fin_cases a <;> simp [col])).trans (H.cw n _))
  cb e l := (harg6.readAt_unread x4 _ _).trans ((congrArg x4 (box_idx _ _ _ _ (ix3 0 0 (col e l)) fun a => by fin_cases a <;> simp [col])).trans (H.cb _))
  wu k d := (harg7.readAt_unread x5 _ _).trans ((congrArg x5 (box_idx _ _ _ _ (ix3 0 k d) fun a => by fin_cases a <;> simp)).trans (H.wu k d))

end

/-! ## The carried rows' reads -/

section
variable (arg11 : Memref sig .tc .vmem S22x2x8x256 .f32) (harg11 : arg11.IsWhole)

theorem zeroed_at (e : Fin 22) (k : Fin 2) (j : Fin 8) (l : Fin 256) : (View.canon (zeroed (F := Ideal)) (ix4 e k j l) : EReal) = 0 := by
  have e' : (Rect.unit ![0, 0, 0, 0] S22x2x8x256.size inb_S22x2x8x256_S22x2x8x256_0_0_0_0).toLoadRect.idx (ix4 e k j l) = ix4 e k j l :=
    box_idx _ _ _ _ (ix4 e k j l) fun a => by fin_cases a <;> simp
  refine (congrArg (View.canon _) e'.symm).trans ?_
  refine (View.canon_cons_emb (Val := Elt Ideal) (Rect.unit ![0, 0, 0, 0] S22x2x8x256.size inb_S22x2x8x256_S22x2x8x256_0_0_0_0) _ [] (ix4 e k j l)).trans ?_
  pointwise

theorem rdA_at (L : List (View.Piece (Elt Ideal) S22x2x8x256 .f32)) (e : Fin 22) (k : Fin 2) (l : Fin 256) :
    (rdA arg11 L e k (ix4 0 0 0 l) : EReal) = View.canon L (ix4 e k 0 l) :=
  (congrFun (View.readCov_eq_canon' _ _ _) _).trans (congrArg (View.canon _) (carRect_idx _ _ _ _))

theorem rdB_at (xs : Vec Ideal S22x2x8x256 .f32) (L : List (View.Piece (Elt Ideal) S22x2x8x256 .f32)) (e : Fin 22) (k : Fin 2) (l : Fin 256) :
    (rdB arg11 harg11 xs L e k (ix4 0 0 0 l) : EReal) = xs (ix4 e k 0 l) :=
  (harg11.readAt_unread xs _ _).trans (congrArg xs (carRect_idx _ _ _ _))

theorem readsA (A : FirstLayer.Args) (b q : Fin 8) (hq : q.val = 0) (S : Scratch) (B : Blocks Ideal) : Reads A b q S B zeroed (rdA arg11) where
  c0 e l := by
    rw [rdA_at, hq, Nat.mul_zero, car_zero]
    exact (car_later _ _ _ _ _ e le_rfl _ _ _).trans (zeroed_at e 0 0 l)
  c1 e l := by
    rw [rdA_at, hq, Nat.mul_zero, car_zero]
    exact (car_half _ _ _ _ e _ _).trans (zeroed_at e 1 0 l)

theorem readsB (A : FirstLayer.Args) (b q : Fin 8) (S : Scratch) (B : Blocks Ideal) (xs : Vec Ideal S22x2x8x256 .f32)
    (h : ∀ e k l, (xs (ix4 e k 0 l) : EReal) = car A b (512 * q.val) e k l) : Reads A b q S B [] (rdB arg11 harg11 xs) where
  c0 e l := (rdB_at arg11 harg11 xs _ e 0 l).trans (h e 0 l)
  c1 e l := (rdB_at arg11 harg11 xs _ e 1 l).trans (h e 1 l)

end

/-! ## The windows -/

variable (m : (ℓ : Loc nD τ sig) → Buf (Elt Ideal) ℓ)

/-- The call's arguments. -/
def args (c : Dev nD) : FirstLayer.Args where
  h := m ((c : Thread nD τ).loc main_arg0)
  nw := m ((c : Thread nD τ).loc main_arg1)
  wi := m ((c : Thread nD τ).loc main_arg2)
  cw := m ((c : Thread nD τ).loc main_arg3)
  cb := m ((c : Thread nD τ).loc main_arg4)
  wu := m ((c : Thread nD τ).loc main_arg5)

/-- A grid point's batch row. -/
def bOf (t : ℕ) : Fin 8 := Fin.ofNat 8 (t / 8)
/-- A grid point's block of tokens. -/
def qOf (t : ℕ) : Fin 8 := Fin.ofNat 8 t

theorem N_eq : cfg0.N = 64 := N_0

/-- The windows' index maps. -/
theorem idx : ∀ t : Fin grid0.N,
    win0_0.index t = ![t.val / 8, t.val % 8, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![t.val / 8, t.val % 8, 0] := by
  decide +kernel

theorem v0_at (c : Dev nD) (n : Fin 2) (d : Fin 1024) : (V m c main_v0 (ix3 n 0 d) : EReal) = (args m c).nw (ix2 n d) := by
  entry_read
  pointwise
  rfl

theorem v1_at (c : Dev nD) (n : Fin 2) (k : Fin 1024) (f : Fin 5632) : (V m c main_v1 (ix3 n k f) : EReal) = (args m c).wi (ix3 n k f) := by
  entry_read
  pointwise
  rfl

theorem v2_at (c : Dev nD) (n : Fin 2) (f : Fin 5632) : (V m c main_v2 (ix3 n 0 f) : EReal) = (args m c).cb (ix2 n f) := by
  entry_read
  pointwise
  rfl

theorem v3_at (c : Dev nD) (n : Fin 2) (k : Fin 2816) (d : Fin 1024) : (V m c main_v3 (ix3 n k d) : EReal) = (args m c).wu (ix3 n k d) := by
  entry_read
  pointwise
  rfl

theorem blk0 (c : Dev nD) (t : Fin cfg0.N) (i : Fin 512) (d : Fin 1024) :
    (iblk m c 0 t (ix3 0 i d) : EReal) = V m c main_arg0 (ix3 (bOf t.val) (pos (qOf t.val) i) d) := by
  have ht : t.val < 64 := N_eq ▸ t.isLt
  unfold bOf qOf pos
  blk_ext [iblk, (idx t).1] <;> simp only [Fin.val_ofNat] <;> omega

theorem blk1 (c : Dev nD) (t : Fin cfg0.N) (d : Fin 1024) : (iblk m c 1 t (ix3 0 0 d) : EReal) = V m c main_v0 (ix3 0 0 d) := by
  blk_ext [iblk, (idx t).2.1]

theorem blk2 (c : Dev nD) (t : Fin cfg0.N) (k : Fin 1024) (f : Fin 5632) : (iblk m c 2 t (ix3 0 k f) : EReal) = V m c main_v1 (ix3 0 k f) := by
  blk_ext [iblk, (idx t).2.2.1]

theorem blk3 (c : Dev nD) (t : Fin cfg0.N) (n : Fin 3) (f : Fin 5632) : (iblk m c 3 t (ix3 0 n f) : EReal) = V m c main_arg3 (ix3 0 n f) := by
  blk_ext [iblk, (idx t).2.2.2.1]

theorem blk4 (c : Dev nD) (t : Fin cfg0.N) (f : Fin 5632) : (iblk m c 4 t (ix3 0 0 f) : EReal) = V m c main_v2 (ix3 0 0 f) := by
  blk_ext [iblk, (idx t).2.2.2.2.1]

theorem blk5 (c : Dev nD) (t : Fin cfg0.N) (k : Fin 2816) (d : Fin 1024) : (iblk m c 5 t (ix3 0 k d) : EReal) = V m c main_v3 (ix3 0 k d) := by
  blk_ext [iblk, (idx t).2.2.2.2.2.1]

/-- A grid point's windows are the arguments' blocks. -/
theorem staged (c : Dev nD) (t : Fin cfg0.N) :
    Staged (iblk m c 0 t) (iblk m c 1 t) (iblk m c 2 t) (iblk m c 3 t) (iblk m c 4 t) (iblk m c 5 t)
      (args m c) (bOf t.val) (qOf t.val) where
  h i d := (blk0 m c t i d).trans (by rw [V_main_arg0]; rfl)
  nw d := (blk1 m c t d).trans (v0_at m c 0 d)
  wi k f := (blk2 m c t k f).trans (v1_at m c 0 k f)
  cw n f := (blk3 m c t n f).trans (by rw [V_main_arg3]; rfl)
  cb f := (blk4 m c t f).trans (v2_at m c 0 f)
  wu k d := (blk5 m c t k d).trans (v3_at m c 0 k d)

/-! ## The points -/

/-- A grid point's blocks. -/
def blks (c : Dev nD) (t : Fin cfg0.N) : Blocks Ideal :=
  blocks (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)

/-- The launch's scratch. -/
def scr : Scratch := scratch scM0_0 scM0_1 scM0_3

theorem blks_holds (c : Dev nD) (t : Fin cfg0.N) : Holds (args m c) (bOf t.val) (qOf t.val) (blks m c t) :=
  holds _ _ _ _ _ _ _ _ _ _ _ _ _ _ _ _ _ _ _ _ _ (staged m c t)

/-- The first point of a batch row. -/
theorem outs_A (c : Dev nD) (t : Fin cfg0.N) (h0 : t.val % 8 = 0) :
    outsAt0 m c t.val t.isLt
      = (View.canon (outL scr (blks m c t) zeroed (rdA scM0_2)), View.canon (carL scr (blks m c t) zeroed (rdA scM0_2))) := by
  rw [outsAt0_A m c t h0]
  refine Prod.ext ?_ ?_
  · dsimp only
    unfold out0_A_6
    rw [View.read_writes_junk_eq_canon, run_A_out]
    rfl
  · dsimp only
    unfold sout0_A_2
    rw [View.read_writes_junk_eq_canon, run_A_car]
    rfl

/-- A later point of a batch row. -/
theorem outs_B (c : Dev nD) (t : Fin cfg0.N) (h0 : ¬t.val % 8 = 0) :
    outsAt0 m c t.val t.isLt
      = (View.canon (outL scr (blks m c t) [] (rdB scM0_2 (Memref.isWhole_whole _) (outsAt0 m c (t.val - 1) (Nat.lt_of_le_of_lt (Nat.sub_le _ _) t.isLt)).2)),
        View.canon (carL scr (blks m c t) [] (rdB scM0_2 (Memref.isWhole_whole _) (outsAt0 m c (t.val - 1) (Nat.lt_of_le_of_lt (Nat.sub_le _ _) t.isLt)).2))) := by
  rw [outsAt0_B m c t h0]
  refine Prod.ext ?_ ?_
  · dsimp only
    unfold out0_B_6
    rw [View.read_writes_junk_eq_canon, run_B_out]
    rfl
  · dsimp only
    unfold sout0_B_2
    rw [View.read_writes_junk_eq_canon, run_B_car]
    rfl

/-- What a point leaves: its tokens of the result, and the rows carried to the next. -/
def Leaves (c : Dev nD) (n : ℕ) (x : Vec Ideal S1x512x1024 .f32 × Vec Ideal S22x2x8x256 .f32) : Prop :=
  (∀ i d, (x.1 (ix3 0 i d) : EReal) = FirstLayer.res (args m c) (bOf n) (pos (qOf n) i) d)
    ∧ ∀ e k l, (x.2 (ix4 e k 0 l) : EReal) = car (args m c) (bOf n) (512 * (qOf n).val + 512) e k l

theorem point_A (c : Dev nD) (t : Fin cfg0.N) (h0 : t.val % 8 = 0) : Leaves m c t.val (outsAt0 m c t.val t.isLt) := by
  have R := readsA scM0_2 (args m c) (bOf t.val) (qOf t.val) h0 scr (blks m c t)
  have H := blks_holds m c t
  rw [outs_A m c t h0]
  refine ⟨out_eq H scr R, fun e k l => ?_⟩
  have h := car_eq H scr R e k l
  dsimp only
  exact h

theorem point_B (c : Dev nD) (t : Fin cfg0.N) (h0 : ¬t.val % 8 = 0)
    (hs : ∀ e k l, ((outsAt0 m c (t.val - 1) (Nat.lt_of_le_of_lt (Nat.sub_le _ _) t.isLt)).2 (ix4 e k 0 l) : EReal)
      = car (args m c) (bOf t.val) (512 * (qOf t.val).val) e k l) : Leaves m c t.val (outsAt0 m c t.val t.isLt) := by
  have R := readsB scM0_2 (Memref.isWhole_whole _) (args m c) (bOf t.val) (qOf t.val) scr (blks m c t) _ hs
  have H := blks_holds m c t
  rw [outs_B m c t h0]
  refine ⟨out_eq H scr R, fun e k l => ?_⟩
  have h := car_eq H scr R e k l
  dsimp only
  exact h

/-- What every point leaves: its tokens of the result, and the rows carried to the next. -/
theorem points (c : Dev nD) (n : ℕ) (hn : n < cfg0.N) :
    Leaves m c n (outsAt0 m c n hn) := by
  induction n with
  | zero =>
    exact point_A m c ⟨0, hn⟩ rfl
  | succ n ih =>
    by_cases h0 : (n + 1) % 8 = 0
    · exact point_A m c ⟨n + 1, hn⟩ h0
    · refine point_B m c ⟨n + 1, hn⟩ h0 fun e k l => ?_
      have hb : bOf (n + 1) = bOf n := Fin.ext (by show (n + 1) / 8 % 8 = n / 8 % 8; omega)
      have hq : 512 * (qOf (n + 1)).val = 512 * (qOf n).val + 512 := by
        show 512 * ((n + 1) % 8) = 512 * (n % 8) + 512
        omega
      have e := (ih (Nat.lt_of_succ_lt hn)).2 e k l
      rw [← hb, ← hq] at e
      exact e

/-! ## The launch -/

/-- The result. -/
def G (c : Dev nD) : FVec Ideal S8x4096x1024 .f32 := fun x => FirstLayer.res (args m c) (x 0) (x 1) (x 2)

/-- The launch's result. -/
theorem arr_out (c : Dev nD) : (dats m 0 c).arrAt 6 cfg0.N = G m c := by
  refine (dats m 0 c).arrAt_eq_of_covers 6 (G m c) (by decide +kernel) fun t hf y => ?_
  blk_simp
  rw [after0_6]
  have ht : t.val < 64 := N_eq ▸ t.isLt
  obtain ⟨i, d, rfl⟩ : ∃ (i : Fin 512) (d : Fin 1024), y = ix3 0 i d := ⟨y 1, y 2, by blk_ext⟩
  refine ((points m c t.val t.isLt).1 i d).trans ?_
  show G m c (ix3 (bOf t.val) (pos (qOf t.val) i) d) = _
  refine congrArg (G m c) ?_
  unfold bOf qOf pos
  blk_ext [(idx t).2.2.2.2.2.2] <;> simp only [Fin.val_ofNat] <;> omega

/-- The kernel returns the layer's mathematics and keeps its arguments. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 6).trans (arr_out m c), h.2 c⟩) (θ_run_and (run_main m ρ) (unchanged m ρ))

end Cert.FirstLaunch
end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite
public import proofs.«01_k».proof.Proof.Gen.ReferenceIdeal.Run
public import proofs.«01_k».proof.Proof.Finite
public import proofs.«01_k».proof.Proof.Ref
public import proofs.«01_k».proof.Proof.Launch
public import proofs.«01_k».proof.Proof.LayerRef
public import proofs.«01_k».proof.Proof.FfnLaunch
public import proofs.«01_k».proof.Proof.FirstRef
public import proofs.«01_k».proof.Proof.FirstLaunch
public import Idealize.ShloMosaic.Adequacy
public import Idealize.ShloMosaic.Init
public import Idealize.ShloMosaic.Lib.Quiescent

/-! # The claim -/

@[expose] public section

noncomputable section

namespace Cert.Proof

open Idealize.ShloMosaic Idealize.ShloMosaic.TcCoe Idealize.SL.Sem

/-- The precondition says the values and weight parameters are real numbers. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Launch.RealArgs m c := by
  obtain ⟨hv, hl⟩ := Cert.Finite.finite_of _ _ _ _ _ (congrFun (h c) _)
  exact ⟨hv, hl⟩

/-- The reference's result is the mathematics the kernel's result was read as. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (R : Cert.Launch.RealArgs m c)
    (h0 : m' ((c.tc : Thread Cert.ReferenceIdeal.nD Cert.ReferenceIdeal.τ).loc Cert.ReferenceIdeal.main_arg0) = Cert.Launch.argQ m c)
    (h1 : m' ((c.tc : Thread Cert.ReferenceIdeal.nD Cert.ReferenceIdeal.τ).loc Cert.ReferenceIdeal.main_arg1) = Cert.Launch.argK m c)
    (h2 : m' ((c.tc : Thread Cert.ReferenceIdeal.nD Cert.ReferenceIdeal.τ).loc Cert.ReferenceIdeal.main_arg2) = Cert.Launch.argV m c)
    (h3 : m' ((c.tc : Thread Cert.ReferenceIdeal.nD Cert.ReferenceIdeal.τ).loc Cert.ReferenceIdeal.main_arg3) = Cert.Launch.argL m c)
    (h4 : m' ((c.tc : Thread Cert.ReferenceIdeal.nD Cert.ReferenceIdeal.τ).loc Cert.ReferenceIdeal.main_arg4) = Cert.Launch.argW m c) :
    Cert.ReferenceIdeal.Value.res_main_v63 m' c = Cert.Launch.G m c := by
  funext x
  obtain ⟨b, h, i, e, rfl⟩ : ∃ b h i e, x = ix4 b h i e := ⟨x 0, x 1, x 2, x 3, eq_ix4 x⟩
  refine (Cert.Ref.res_at m' c b h i e).trans ?_
  rw [h0, h1, h2, h3, h4, Cert.Ref.norm_row _ _ _ _ _ R.v R.l]
  rfl

/-- The reference runs, keeps its arguments, and leaves no counter: it has none. -/
theorem ref_frame : Cert.quiescent_ReferenceIdeal := fun m ρ _ =>
  (θ_run _ _ _).mono (fun r h => ⟨fun c => (h c).2, sem_eq_zero_of_no_sems (by decide) r.2⟩) (Cert.ReferenceIdeal.Value.run m ρ)

/-- The feed-forward call's reference runs, keeps its arguments, and leaves no counter: it has none. -/
theorem ref2_frame : Cert.quiescent_Reference2Ideal := fun m ρ _ =>
  (θ_run _ _ _).mono (fun r h => ⟨fun c => (h c).2, sem_eq_zero_of_no_sems (by decide) r.2⟩) (Cert.Reference2Ideal.Value.run m ρ)

/-- The feed-forward call's reference gives the mathematics its kernel's result was read as. -/
theorem res2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' ((c.tc : Thread Cert.Reference2Ideal.nD Cert.Reference2Ideal.τ).loc Cert.Reference2Ideal.main_arg0)
        = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1)
        = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2)
        = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3)
        = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4)
        = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5)
        = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6)
        = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7)
        = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8)
        = m ((c.tc : Thread Cert.Kernel2Ideal.nD Cert.Kernel2Ideal.τ).loc Cert.Kernel2Ideal.main_arg8)) :
    Cert.Reference2Ideal.Value.res_main_v72 m' c = Cert.FfnLaunch.G m c := by
  have e : Cert.LayerRef.args m' c = Cert.FfnLaunch.args m c := by
    obtain ⟨h0, h1, h2, h3, h4, h5, h6, h7, h8⟩ := h
    unfold Cert.LayerRef.args Cert.FfnLaunch.args
    rw [h0, h1, h2, h3, h4, h5, h6, h7, h8]
  funext x
  obtain ⟨b, t, d, rfl⟩ : ∃ b t d, x = ix3 b t d := ⟨x 0, x 1, x 2, eq_ix3 x⟩
  refine (Cert.LayerRef.res_at m' c b t d).trans ?_
  rw [e]
  rfl

/-- The first layer's feed-forward call's reference runs, keeps its arguments, and leaves no counter: it has none. -/
theorem ref3_frame : Cert.quiescent_Reference3Ideal := fun m ρ _ =>
  (θ_run _ _ _).mono (fun r h => ⟨fun c => (h c).2, sem_eq_zero_of_no_sems (by decide) r.2⟩) (Cert.Reference3Ideal.Value.run m ρ)

/-- The first layer's feed-forward call's reference gives the mathematics its kernel's result was read as. -/
theorem res3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h : m' ((c.tc : Thread Cert.Reference3Ideal.nD Cert.Reference3Ideal.τ).loc Cert.Reference3Ideal.main_arg0)
        = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1)
        = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2)
        = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3)
        = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4)
        = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5)
        = m ((c.tc : Thread Cert.Kernel3Ideal.nD Cert.Kernel3Ideal.τ).loc Cert.Kernel3Ideal.main_arg5)) :
    Cert.Reference3Ideal.Value.res_main_v53 m' c = Cert.FirstLaunch.G m c := by
  have e : Cert.FirstRef.args m' c = Cert.FirstLaunch.args m c := by
    obtain ⟨h0, h1, h2, h3, h4, h5⟩ := h
    unfold Cert.FirstRef.args Cert.FirstLaunch.args
    rw [h0, h1, h2, h3, h4, h5]
  funext x
  obtain ⟨b, t, d, rfl⟩ : ∃ b t d, x = ix3 b t d := ⟨x 0, x 1, x 2, eq_ix3 x⟩
  refine (Cert.FirstRef.res_at m' c b t d).trans ?_
  rw [e]
  rfl

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial,
    fun m ρ _ => Cert.Kernel2.Gen.frame m ρ, fun m ρ _ => Cert.Kernel2Ideal.Gen.frame m ρ, ref2_frame,
    fun m ρ _ => Cert.Kernel3.Gen.frame m ρ, fun m ρ _ => Cert.Kernel3Ideal.Gen.frame m ρ, ref3_frame,
    IdealRules.named_const.statement Cert.KernelIdeal.κ "q_scale" .f32 0x3E38AA3B#32 _ rfl,
    fun m g m' g' hpre hargs => ⟨fun c => Cert.Launch.G m c, Cert.Launch.run m (real_args m hpre) g,
      (θ_run _ _ _).mono (fun _ h c => ⟨(h c).1.trans (res_eq m m' c (real_args m hpre c) (hargs c).1 (hargs c).2.1 (hargs c).2.2.1
        (hargs c).2.2.2.1 (hargs c).2.2.2.2), (h c).2⟩) (Cert.ReferenceIdeal.Value.run m' g')⟩,
    IdealRules.named_const.statement Cert.Kernel2Ideal.κ "neg_log2e" .f32 0xBFB8AA3B#32 _ rfl,
    fun m g m' g' _ hargs => ⟨fun c => Cert.FfnLaunch.G m c, Cert.FfnLaunch.run m g,
      (θ_run _ _ _).mono (fun _ h c => ⟨(h c).1.trans (res2_eq m m' c (hargs c)), (h c).2⟩) (Cert.Reference2Ideal.Value.run m' g')⟩,
    IdealRules.named_const.statement Cert.Kernel3Ideal.κ "neg_log2e" .f32 0xBFB8AA3B#32 _ rfl,
    fun m g m' g' _ hargs => ⟨fun c => Cert.FirstLaunch.G m c, Cert.FirstLaunch.run m g,
      (θ_run _ _ _).mono (fun _ h c => ⟨(h c).1.trans (res3_eq m m' c (hargs c)), (h c).2⟩) (Cert.Reference3Ideal.Value.run m' g')⟩⟩

end Cert.Proof

end
